-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨5, ![16, 4, 64, 8, 128]⟩ ⟨5, ![64, 4, 64, 8, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨5, ![16, 4, 64, 8, 128]⟩ ⟨5, ![64, 4, 64, 8, 128]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S256x1024 : Shape := ⟨2, ![256, 1024]⟩
abbrev S1024x1024 : Shape := ⟨2, ![1024, 1024]⟩
abbrev S16x4x64x8x128 : Shape := ⟨5, ![16, 4, 64, 8, 128]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x4x64x8x128 : S_.BroadcastsInDim S16x4x64x8x128 (![] : Fin 0 → Fin S16x4x64x8x128.rank)
  reducesTo_S16x4x64x8x128_S_d0_1_2_3_4 : S16x4x64x8x128.ReducesTo [0, 1, 2, 3, 4] S_

variable [Facts]

def fn {F : FTy → Type} [FloatOps F] (main_arg0 : FVec F S256x1024 .f32) (main_arg1 : FVec F S1024x1024 .f32) (main_arg2 : FVec F S16x4x64x8x128 .f32) (main_arg3 : FVec F S16x4x64x8x128 .f32) (main_arg4 : FVec F S1024x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16x4x64x8x128 .f32 := Host.absf main_arg2
  let main_cst_2 : FVec F S_ .f32 := constant S_ .f32 0x7F800000#32
  let main_v10 : FVec F S16x4x64x8x128 .f32 := broadcastInDim S16x4x64x8x128 ![] bcast_S_S16x4x64x8x128 main_cst_2
  let main_v11 : IVec S16x4x64x8x128 1 := cmpf .olt main_v9 main_v10
  let main_c_3 : IVec S_ 1 := constantI S_ 1 1#1
  let main_v12 : IVec S_ 1 := (fun x v => Host.reduce IntOp.andi x v reducesTo_S16x4x64x8x128_S_d0_1_2_3_4 h_S_) main_v11 main_c_3
  let main_v13 : IVec S_ 1 := andi main_v8 main_v12
  main_v13
-- ==== Pre_finite_scores_ReferenceIdeal.lean ====
abbrev S1024x1024 : Shape := ⟨2, ![1024, 1024]⟩
abbrev S64x4x64x8x128 : Shape := ⟨5, ![64, 4, 64, 8, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S64x4x64x8x128 : S_.BroadcastsInDim S64x4x64x8x128 (![] : Fin 0 → Fin S64x4x64x8x128.rank)
  reducesTo_S64x4x64x8x128_S_d0_1_2_3_4 : S64x4x64x8x128.ReducesTo [0, 1, 2, 3, 4] S_

variable [Facts]

def fn {F : FTy → Type} [FloatOps F] (main_arg0 : FVec F S1024x1024 .f32) (main_arg1 : FVec F S1024x1024 .f32) (main_arg2 : FVec F S64x4x64x8x128 .f32) (main_arg3 : FVec F S64x4x64x8x128 .f32) (main_arg4 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S64x4x64x8x128 .f32 := Host.absf main_arg2
  let main_cst_2 : FVec F S_ .f32 := constant S_ .f32 0x7F800000#32
  let main_v10 : FVec F S64x4x64x8x128 .f32 := broadcastInDim S64x4x64x8x128 ![] bcast_S_S64x4x64x8x128 main_cst_2
  let main_v11 : IVec S64x4x64x8x128 1 := cmpf .olt main_v9 main_v10
  let main_c_3 : IVec S_ 1 := constantI S_ 1 1#1
  let main_v12 : IVec S_ 1 := (fun x v => Host.reduce IntOp.andi x v reducesTo_S64x4x64x8x128_S_d0_1_2_3_4 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S16x4x64x8x128 : Shape := ⟨5, ![16, 4, 64, 8, 128]⟩
abbrev S4x256x1024 : Shape := ⟨3, ![4, 256, 1024]⟩
abbrev S8x4x256x128 : Shape := ⟨4, ![8, 4, 256, 128]⟩
abbrev S3x16x4x64x128 : Shape := ⟨5, ![3, 16, 4, 64, 128]⟩
abbrev S4x8x4x64x128 : Shape := ⟨5, ![4, 8, 4, 64, 128]⟩
abbrev S4x8x4x64x2 : Shape := ⟨5, ![4, 8, 4, 64, 2]⟩
abbrev S3 : Shape := ⟨1, ![3]⟩
abbrev S4 : Shape := ⟨1, ![4]⟩
abbrev S2x3 : Shape := ⟨2, ![2, 3]⟩
abbrev S2x4 : Shape := ⟨2, ![2, 4]⟩
abbrev S5 : Shape := ⟨1, ![5]⟩
abbrev S_ : Shape := ⟨0, ![]⟩
abbrev S1 : Shape := ⟨1, ![1]⟩
abbrev S1x16x4x64x128 : Shape := ⟨5, ![1, 16, 4, 64, 128]⟩
abbrev S16x4x64x128 : Shape := ⟨4, ![16, 4, 64, 128]⟩
abbrev S16x4x64x1x128 : Shape := ⟨5, ![16, 4, 64, 1, 128]⟩
abbrev S1x256x1024 : Shape := ⟨3, ![1, 256, 1024]⟩
abbrev S1024x128 : Shape := ⟨2, ![1024, 128]⟩
abbrev S4x4x64x128 : Shape := ⟨4, ![4, 4, 64, 128]⟩
abbrev S4x1x64x128 : Shape := ⟨4, ![4, 1, 64, 128]⟩
abbrev S4x64x128 : Shape := ⟨3, ![4, 64, 128]⟩
abbrev S256x128 : Shape := ⟨2, ![256, 128]⟩
abbrev S1x1x256x128 : Shape := ⟨4, ![1, 1, 256, 128]⟩
abbrev S1x16x1x64x128 : Shape := ⟨5, ![1, 16, 1, 64, 128]⟩
abbrev S16x64x128 : Shape := ⟨3, ![16, 64, 128]⟩
abbrev S256 : Shape := ⟨1, ![256]⟩
abbrev S256x1 : Shape := ⟨2, ![256, 1]⟩
abbrev S4x1x1x64x128 : Shape := ⟨5, ![4, 1, 1, 64, 128]⟩
abbrev S256x2 : Shape := ⟨2, ![256, 2]⟩
abbrev S4x64x2 : Shape := ⟨3, ![4, 64, 2]⟩
abbrev S4x1x1x64x2 : Shape := ⟨5, ![4, 1, 1, 64, 2]⟩
abbrev S1x3 : Shape := ⟨2, ![1, 3]⟩
abbrev S1x4 : Shape := ⟨2, ![1, 4]⟩
abbrev S1x8x4x64x128 : Shape := ⟨5, ![1, 8, 4, 64, 128]⟩
abbrev S8x4x64x128 : Shape := ⟨4, ![8, 4, 64, 128]⟩
abbrev S1x4x4x64x128 : Shape := ⟨5, ![1, 4, 4, 64, 128]⟩
abbrev S1x8x4x64x2 : Shape := ⟨5, ![1, 8, 4, 64, 2]⟩
abbrev S8x4x64x2 : Shape := ⟨4, ![8, 4, 64, 2]⟩
abbrev S4x4x64x2 : Shape := ⟨4, ![4, 4, 64, 2]⟩
abbrev S4x4x4x64x128 : Shape := ⟨5, ![4, 4, 4, 64, 128]⟩
abbrev S4x1024x128 : Shape := ⟨3, ![4, 1024, 128]⟩
abbrev S4x4x4x64x2 : Shape := ⟨5, ![4, 4, 4, 64, 2]⟩
abbrev S4x1024x2 : Shape := ⟨3, ![4, 1024, 2]⟩
abbrev S4x1024x1 : Shape := ⟨3, ![4, 1024, 1]⟩
abbrev S1024x1 : Shape := ⟨2, ![1024, 1]⟩
abbrev S1x1024x1 : Shape := ⟨3, ![1, 1024, 1]⟩
abbrev S4x256x128 : Shape := ⟨3, ![4, 256, 128]⟩
abbrev S256x4x128 : Shape := ⟨3, ![256, 4, 128]⟩
abbrev S256x512 : Shape := ⟨2, ![256, 512]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S16x4x64x8x128, .f32⟩
  | .hbm, ⟨3, _⟩ => ⟨S16x4x64x8x128, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .bf16⟩
  | .local _ .vmem, ⟨5, _⟩ => ⟨S4x256x1024, .bf16⟩
  | .local _ .vmem, ⟨6, _⟩ => ⟨S8x4x256x128, .f32⟩
  | .local _ .vmem, ⟨7, _⟩ => ⟨S3x16x4x64x128, .f32⟩
  | .local _ .vmem, ⟨8, _⟩ => ⟨S3x16x4x64x128, .f32⟩
  | .local _ .vmem, ⟨9, _⟩ => ⟨S4x8x4x64x128, .bf16⟩
  | .local _ .vmem, ⟨10, _⟩ => ⟨S4x8x4x64x2, .f32⟩
  | .local _ .vmem, ⟨11, _⟩ => ⟨S4x8x4x64x128, .bf16⟩
  | .local _ .vmem, ⟨12, _⟩ => ⟨S4x8x4x64x2, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => true
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 2 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_85 : BitVec 32 := 0#32
  let c0_i32_86 : BitVec 32 := 0#32
  ![v2.toNat, 0, 0]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_75 : BitVec 32 := 1#32
  let v73 : BitVec 32 := Scalar.addi v2 c1_i32_75
  let c4_i32_76 : BitVec 32 := 4#32
  let c0_i32_77 : BitVec 32 := 0#32
  let v74 : BitVec 1 := Scalar.cmpi .eq c4_i32_76 c0_i32_77
  let c1_i32_78 : BitVec 32 := 1#32
  let v75 : BitVec 32 := Scalar.select v74 c1_i32_78 c4_i32_76
  let v76 : BitVec 32 := Scalar.remsi v73 v75
  let c0_i32_80 : BitVec 32 := 0#32
  let v78 : BitVec 1 := Scalar.cmpi .slt v76 c0_i32_80
  let c0_i32_81 : BitVec 32 := 0#32
  let v79 : BitVec 1 := Scalar.cmpi .slt v75 c0_i32_81
  let v80 : BitVec 1 := Scalar.xori v78 v79
  let c0_i32_79 : BitVec 32 := 0#32
  let v77 : BitVec 1 := Scalar.cmpi .ne v76 c0_i32_79
  let v81 : BitVec 1 := Scalar.andi v80 v77
  let v82 : BitVec 32 := Scalar.addi v76 v75
  let v83 : BitVec 32 := Scalar.select v81 v82 v76
  let c1_i32_83 : BitVec 32 := 1#32
  let v84 : BitVec 32 := Scalar.muli v83 c1_i32_83
  let v85 : BitVec 32 := Scalar.addi c0_i32_84 v84
  v85.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v92 : BitVec 32 := Scalar.addi v2 c2_i32_87
  let c4_i32_88 : BitVec 32 := 4#32
  let c0_i32_89 : BitVec 32 := 0#32
  let v93 : BitVec 1 := Scalar.cmpi .eq c4_i32_88 c0_i32_89
  let c1_i32_90 : BitVec 32 := 1#32
  let v94 : BitVec 32 := Scalar.select v93 c1_i32_90 c4_i32_88
  let v95 : BitVec 32 := Scalar.remsi v92 v94
  let c0_i32_92 : BitVec 32 := 0#32
  let v97 : BitVec 1 := Scalar.cmpi .slt v95 c0_i32_92
  let c0_i32_93 : BitVec 32 := 0#32
  let v98 : BitVec 1 := Scalar.cmpi .slt v94 c0_i32_93
  let v99 : BitVec 1 := Scalar.xori v97 v98
  let c0_i32_91 : BitVec 32 := 0#32
  let v96 : BitVec 1 := Scalar.cmpi .ne v95 c0_i32_91
  let v100 : BitVec 1 := Scalar.andi v99 v96
  let v101 : BitVec 32 := Scalar.addi v95 v94
  let v102 : BitVec 32 := Scalar.select v100 v101 v95
  let c1_i32_95 : BitVec 32 := 1#32
  let v103 : BitVec 32 := Scalar.muli v102 c1_i32_95
  let v104 : BitVec 32 := Scalar.addi c0_i32_96 v103
  v104.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v111 : BitVec 32 := Scalar.addi v2 c3_i32_99
  let c4_i32_100 : BitVec 32 := 4#32
  let c0_i32_101 : BitVec 32 := 0#32
  let v112 : BitVec 1 := Scalar.cmpi .eq c4_i32_100 c0_i32_101
  let c1_i32_102 : BitVec 32 := 1#32
  let v113 : BitVec 32 := Scalar.select v112 c1_i32_102 c4_i32_100
  let v114 : BitVec 32 := Scalar.remsi v111 v113
  let c0_i32_104 : BitVec 32 := 0#32
  let v116 : BitVec 1 := Scalar.cmpi .slt v114 c0_i32_104
  let c0_i32_105 : BitVec 32 := 0#32
  let v117 : BitVec 1 := Scalar.cmpi .slt v113 c0_i32_105
  let v118 : BitVec 1 := Scalar.xori v116 v117
  let c0_i32_103 : BitVec 32 := 0#32
  let v115 : BitVec 1 := Scalar.cmpi .ne v114 c0_i32_103
  let v119 : BitVec 1 := Scalar.andi v118 v115
  let v120 : BitVec 32 := Scalar.addi v114 v113
  let v121 : BitVec 32 := Scalar.select v119 v120 v114
  let c1_i32_107 : BitVec 32 := 1#32
  let v122 : BitVec 32 := Scalar.muli v121 c1_i32_107
  let v123 : BitVec 32 := Scalar.addi c0_i32_108 v122
  v123.toNat
def k0_off3 (d0 : Dev nD) (c1_i32_117 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v138 : BitVec 32 := Scalar.addi v2 c1_i32_117
  let c4_i32_118 : BitVec 32 := 4#32
  let c0_i32_119 : BitVec 32 := 0#32
  let v139 : BitVec 1 := Scalar.cmpi .eq c4_i32_118 c0_i32_119
  let c1_i32_120 : BitVec 32 := 1#32
  let v140 : BitVec 32 := Scalar.select v139 c1_i32_120 c4_i32_118
  let v141 : BitVec 32 := Scalar.remsi v138 v140
  let c0_i32_122 : BitVec 32 := 0#32
  let v143 : BitVec 1 := Scalar.cmpi .slt v141 c0_i32_122
  let c0_i32_123 : BitVec 32 := 0#32
  let v144 : BitVec 1 := Scalar.cmpi .slt v140 c0_i32_123
  let v145 : BitVec 1 := Scalar.xori v143 v144
  let c0_i32_121 : BitVec 32 := 0#32
  let v142 : BitVec 1 := Scalar.cmpi .ne v141 c0_i32_121
  let v146 : BitVec 1 := Scalar.andi v145 v142
  let v147 : BitVec 32 := Scalar.addi v141 v140
  let v148 : BitVec 32 := Scalar.select v146 v147 v141
  ![v148.toNat]
def k0_off4 (d0 : Dev nD) (c1_i32_117 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v138 : BitVec 32 := Scalar.addi v2 c1_i32_117
  let c4_i32_118 : BitVec 32 := 4#32
  let c0_i32_119 : BitVec 32 := 0#32
  let v139 : BitVec 1 := Scalar.cmpi .eq c4_i32_118 c0_i32_119
  let c1_i32_120 : BitVec 32 := 1#32
  let v140 : BitVec 32 := Scalar.select v139 c1_i32_120 c4_i32_118
  let v141 : BitVec 32 := Scalar.remsi v138 v140
  let c0_i32_122 : BitVec 32 := 0#32
  let v143 : BitVec 1 := Scalar.cmpi .slt v141 c0_i32_122
  let c0_i32_123 : BitVec 32 := 0#32
  let v144 : BitVec 1 := Scalar.cmpi .slt v140 c0_i32_123
  let v145 : BitVec 1 := Scalar.xori v143 v144
  let c0_i32_121 : BitVec 32 := 0#32
  let v142 : BitVec 1 := Scalar.cmpi .ne v141 c0_i32_121
  let v146 : BitVec 1 := Scalar.andi v145 v142
  let v147 : BitVec 32 := Scalar.addi v141 v140
  let v148 : BitVec 32 := Scalar.select v146 v147 v141
  let c0_i32_127 : BitVec 32 := 0#32
  let c0_i32_128 : BitVec 32 := 0#32
  ![v148.toNat, 0, 0]
@[reducible] def k0_t1_loop : Scf.Loop 32 :=
  let c0_i32_293 : BitVec 32 := 0#32
  let c8_i32 : BitVec 32 := 8#32
  let v416 : BitVec 32 := Scalar.addi c0_i32_293 c8_i32
  let c1_i32_294 : BitVec 32 := 1#32
  ⟨c0_i32_293, v416, c1_i32_294⟩
def k0_off5 (k0_t1 : Fin k0_t1_loop.trips) : Fin 1 → Nat :=
  let c0_i32_293 : BitVec 32 := 0#32
  let c1_i32_294 : BitVec 32 := 1#32
  let arg24 : BitVec 32 := Scf.iv c0_i32_293 c1_i32_294 k0_t1
  let c3_i32_1397 : BitVec 32 := 3#32
  let c0_i32_1398 : BitVec 32 := 0#32
  let v1157 : BitVec 1 := Scalar.cmpi .eq c3_i32_1397 c0_i32_1398
  let c1_i32_1399 : BitVec 32 := 1#32
  let v1158 : BitVec 32 := Scalar.select v1157 c1_i32_1399 c3_i32_1397
  let v1159 : BitVec 32 := Scalar.remsi arg24 v1158
  let c0_i32_1401 : BitVec 32 := 0#32
  let v1161 : BitVec 1 := Scalar.cmpi .slt v1159 c0_i32_1401
  let c0_i32_1402 : BitVec 32 := 0#32
  let v1162 : BitVec 1 := Scalar.cmpi .slt v1158 c0_i32_1402
  let v1163 : BitVec 1 := Scalar.xori v1161 v1162
  let c0_i32_1400 : BitVec 32 := 0#32
  let v1160 : BitVec 1 := Scalar.cmpi .ne v1159 c0_i32_1400
  let v1164 : BitVec 1 := Scalar.andi v1163 v1160
  let v1165 : BitVec 32 := Scalar.addi v1159 v1158
  let v1166 : BitVec 32 := Scalar.select v1164 v1165 v1159
  ![v1166.toNat]
def k0_off6 (k0_t1 : Fin k0_t1_loop.trips) : Fin 5 → Nat :=
  let c0_i32_293 : BitVec 32 := 0#32
  let c1_i32_294 : BitVec 32 := 1#32
  let arg24 : BitVec 32 := Scf.iv c0_i32_293 c1_i32_294 k0_t1
  let c3_i32_1397 : BitVec 32 := 3#32
  let c0_i32_1398 : BitVec 32 := 0#32
  let v1157 : BitVec 1 := Scalar.cmpi .eq c3_i32_1397 c0_i32_1398
  let c1_i32_1399 : BitVec 32 := 1#32
  let v1158 : BitVec 32 := Scalar.select v1157 c1_i32_1399 c3_i32_1397
  let v1159 : BitVec 32 := Scalar.remsi arg24 v1158
  let c0_i32_1401 : BitVec 32 := 0#32
  let v1161 : BitVec 1 := Scalar.cmpi .slt v1159 c0_i32_1401
  let c0_i32_1402 : BitVec 32 := 0#32
  let v1162 : BitVec 1 := Scalar.cmpi .slt v1158 c0_i32_1402
  let v1163 : BitVec 1 := Scalar.xori v1161 v1162
  let c0_i32_1400 : BitVec 32 := 0#32
  let v1160 : BitVec 1 := Scalar.cmpi .ne v1159 c0_i32_1400
  let v1164 : BitVec 1 := Scalar.andi v1163 v1160
  let v1165 : BitVec 32 := Scalar.addi v1159 v1158
  let v1166 : BitVec 32 := Scalar.select v1164 v1165 v1159
  let c0_i32_1403 : BitVec 32 := 0#32
  let c0_i32_1404 : BitVec 32 := 0#32
  let c0_i32_1405 : BitVec 32 := 0#32
  let c0_i32_1406 : BitVec 32 := 0#32
  ![v1166.toNat, 0, 0, 0, 0]
def k0_off7 (k0_t1 : Fin k0_t1_loop.trips) : Fin 5 → Nat :=
  let c0_i32_1407 : BitVec 32 := 0#32
  let c0_i32_1408 : BitVec 32 := 0#32
  let c0_i32_1409 : BitVec 32 := 0#32
  let c0_i32_293 : BitVec 32 := 0#32
  let c1_i32_294 : BitVec 32 := 1#32
  let arg24 : BitVec 32 := Scf.iv c0_i32_293 c1_i32_294 k0_t1
  let c0_i32_1410 : BitVec 32 := 0#32
  ![0, 0, 0, arg24.toNat, 0]
def k0_off8 (k0_t1 : Fin k0_t1_loop.trips) : Fin 1 → Nat :=
  let c0_i32_293 : BitVec 32 := 0#32
  let c1_i32_294 : BitVec 32 := 1#32
  let arg24 : BitVec 32 := Scf.iv c0_i32_293 c1_i32_294 k0_t1
  let c2_i32_1421 : BitVec 32 := 2#32
  let v1181 : BitVec 32 := Scalar.addi arg24 c2_i32_1421
  let c3_i32_1422 : BitVec 32 := 3#32
  let c0_i32_1423 : BitVec 32 := 0#32
  let v1182 : BitVec 1 := Scalar.cmpi .eq c3_i32_1422 c0_i32_1423
  let c1_i32_1424 : BitVec 32 := 1#32
  let v1183 : BitVec 32 := Scalar.select v1182 c1_i32_1424 c3_i32_1422
  let v1184 : BitVec 32 := Scalar.remsi v1181 v1183
  let c0_i32_1426 : BitVec 32 := 0#32
  let v1186 : BitVec 1 := Scalar.cmpi .slt v1184 c0_i32_1426
  let c0_i32_1427 : BitVec 32 := 0#32
  let v1187 : BitVec 1 := Scalar.cmpi .slt v1183 c0_i32_1427
  let v1188 : BitVec 1 := Scalar.xori v1186 v1187
  let c0_i32_1425 : BitVec 32 := 0#32
  let v1185 : BitVec 1 := Scalar.cmpi .ne v1184 c0_i32_1425
  let v1189 : BitVec 1 := Scalar.andi v1188 v1185
  let v1190 : BitVec 32 := Scalar.addi v1184 v1183
  let v1191 : BitVec 32 := Scalar.select v1189 v1190 v1184
  ![v1191.toNat]
def k0_off9 (k0_t1 : Fin k0_t1_loop.trips) : Fin 5 → Nat :=
  let c0_i32_293 : BitVec 32 := 0#32
  let c1_i32_294 : BitVec 32 := 1#32
  let arg24 : BitVec 32 := Scf.iv c0_i32_293 c1_i32_294 k0_t1
  let c2_i32_1421 : BitVec 32 := 2#32
  let v1181 : BitVec 32 := Scalar.addi arg24 c2_i32_1421
  let c3_i32_1422 : BitVec 32 := 3#32
  let c0_i32_1423 : BitVec 32 := 0#32
  let v1182 : BitVec 1 := Scalar.cmpi .eq c3_i32_1422 c0_i32_1423
  let c1_i32_1424 : BitVec 32 := 1#32
  let v1183 : BitVec 32 := Scalar.select v1182 c1_i32_1424 c3_i32_1422
  let v1184 : BitVec 32 := Scalar.remsi v1181 v1183
  let c0_i32_1426 : BitVec 32 := 0#32
  let v1186 : BitVec 1 := Scalar.cmpi .slt v1184 c0_i32_1426
  let c0_i32_1427 : BitVec 32 := 0#32
  let v1187 : BitVec 1 := Scalar.cmpi .slt v1183 c0_i32_1427
  let v1188 : BitVec 1 := Scalar.xori v1186 v1187
  let c0_i32_1425 : BitVec 32 := 0#32
  let v1185 : BitVec 1 := Scalar.cmpi .ne v1184 c0_i32_1425
  let v1189 : BitVec 1 := Scalar.andi v1188 v1185
  let v1190 : BitVec 32 := Scalar.addi v1184 v1183
  let v1191 : BitVec 32 := Scalar.select v1189 v1190 v1184
  let c0_i32_1428 : BitVec 32 := 0#32
  let c0_i32_1429 : BitVec 32 := 0#32
  let c0_i32_1430 : BitVec 32 := 0#32
  let c0_i32_1431 : BitVec 32 := 0#32
  ![v1191.toNat, 0, 0, 0, 0]
def k0_off10 (k0_t1 : Fin k0_t1_loop.trips) : Fin 5 → Nat :=
  let c0_i32_1432 : BitVec 32 := 0#32
  let c0_i32_1433 : BitVec 32 := 0#32
  let c0_i32_1434 : BitVec 32 := 0#32
  let c0_i32_293 : BitVec 32 := 0#32
  let c1_i32_294 : BitVec 32 := 1#32
  let arg24 : BitVec 32 := Scf.iv c0_i32_293 c1_i32_294 k0_t1
  let c2_i32_1419 : BitVec 32 := 2#32
  let v1179 : BitVec 32 := Scalar.addi arg24 c2_i32_1419
  let c7_i32_1420 : BitVec 32 := 7#32
  let v1180 : BitVec 32 := Scalar.minsi v1179 c7_i32_1420
  let c0_i32_1435 : BitVec 32 := 0#32
  ![0, 0, 0, v1180.toNat, 0]
def k0_off11 (k0_t1 : Fin k0_t1_loop.trips) : Fin 4 → Nat :=
  let c0_i32_293 : BitVec 32 := 0#32
  let c1_i32_294 : BitVec 32 := 1#32
  let arg24 : BitVec 32 := Scf.iv c0_i32_293 c1_i32_294 k0_t1
  let v1204 : Index := Scalar.indexCast arg24
  let c0_1444 : Index := 0#32
  let c0_1445 : Index := 0#32
  let c0_1446 : Index := 0#32
  ![v1204.toNat, 0, 0, 0]
def k0_off12 (k0_t1 : Fin k0_t1_loop.trips) : Fin 5 → Nat :=
  let c0_i32_293 : BitVec 32 := 0#32
  let c1_i32_294 : BitVec 32 := 1#32
  let arg24 : BitVec 32 := Scf.iv c0_i32_293 c1_i32_294 k0_t1
  let c3_i32_1397 : BitVec 32 := 3#32
  let c0_i32_1398 : BitVec 32 := 0#32
  let v1157 : BitVec 1 := Scalar.cmpi .eq c3_i32_1397 c0_i32_1398
  let c1_i32_1399 : BitVec 32 := 1#32
  let v1158 : BitVec 32 := Scalar.select v1157 c1_i32_1399 c3_i32_1397
  let v1159 : BitVec 32 := Scalar.remsi arg24 v1158
  let c0_i32_1401 : BitVec 32 := 0#32
  let v1161 : BitVec 1 := Scalar.cmpi .slt v1159 c0_i32_1401
  let c0_i32_1402 : BitVec 32 := 0#32
  let v1162 : BitVec 1 := Scalar.cmpi .slt v1158 c0_i32_1402
  let v1163 : BitVec 1 := Scalar.xori v1161 v1162
  let c0_i32_1400 : BitVec 32 := 0#32
  let v1160 : BitVec 1 := Scalar.cmpi .ne v1159 c0_i32_1400
  let v1164 : BitVec 1 := Scalar.andi v1163 v1160
  let v1165 : BitVec 32 := Scalar.addi v1159 v1158
  let v1166 : BitVec 32 := Scalar.select v1164 v1165 v1159
  let v1207 : Index := Scalar.indexCast v1166
  let c0_1447 : Index := 0#32
  let c0_1448 : Index := 0#32
  let c0_1449 : Index := 0#32
  let c0_1450 : Index := 0#32
  ![v1207.toNat, 0, 0, 0, 0]
def k0_off13 (k0_t1 : Fin k0_t1_loop.trips) : Fin 5 → Nat :=
  let c0_1460 : Index := 0#32
  let c0_i32_293 : BitVec 32 := 0#32
  let c1_i32_294 : BitVec 32 := 1#32
  let arg24 : BitVec 32 := Scf.iv c0_i32_293 c1_i32_294 k0_t1
  let v1228 : Index := Scalar.indexCast arg24
  let c0_1461 : Index := 0#32
  let c0_1462 : Index := 0#32
  let c0_1463 : Index := 0#32
  ![0, v1228.toNat, 0, 0, 0]
def k0_off14 (k0_t1 : Fin k0_t1_loop.trips) : Fin 5 → Nat :=
  let c0_1464 : Index := 0#32
  let c0_i32_293 : BitVec 32 := 0#32
  let c1_i32_294 : BitVec 32 := 1#32
  let arg24 : BitVec 32 := Scf.iv c0_i32_293 c1_i32_294 k0_t1
  let v1234 : Index := Scalar.indexCast arg24
  let c0_1465 : Index := 0#32
  let c0_1466 : Index := 0#32
  let c0_1467 : Index := 0#32
  ![0, v1234.toNat, 0, 0, 0]
def k0_off15 (k0_t1 : Fin k0_t1_loop.trips) : Fin 4 → Nat :=
  let c0_i32_293 : BitVec 32 := 0#32
  let c1_i32_294 : BitVec 32 := 1#32
  let arg24 : BitVec 32 := Scf.iv c0_i32_293 c1_i32_294 k0_t1
  let v1238 : Index := Scalar.indexCast arg24
  let c1_1468 : Index := 1#32
  let c0_1469 : Index := 0#32
  let c0_1470 : Index := 0#32
  ![v1238.toNat, 1, 0, 0]
def k0_off16 (k0_t1 : Fin k0_t1_loop.trips) : Fin 5 → Nat :=
  let c0_i32_293 : BitVec 32 := 0#32
  let c1_i32_294 : BitVec 32 := 1#32
  let arg24 : BitVec 32 := Scf.iv c0_i32_293 c1_i32_294 k0_t1
  let c3_i32_1397 : BitVec 32 := 3#32
  let c0_i32_1398 : BitVec 32 := 0#32
  let v1157 : BitVec 1 := Scalar.cmpi .eq c3_i32_1397 c0_i32_1398
  let c1_i32_1399 : BitVec 32 := 1#32
  let v1158 : BitVec 32 := Scalar.select v1157 c1_i32_1399 c3_i32_1397
  let v1159 : BitVec 32 := Scalar.remsi arg24 v1158
  let c0_i32_1401 : BitVec 32 := 0#32
  let v1161 : BitVec 1 := Scalar.cmpi .slt v1159 c0_i32_1401
  let c0_i32_1402 : BitVec 32 := 0#32
  let v1162 : BitVec 1 := Scalar.cmpi .slt v1158 c0_i32_1402
  let v1163 : BitVec 1 := Scalar.xori v1161 v1162
  let c0_i32_1400 : BitVec 32 := 0#32
  let v1160 : BitVec 1 := Scalar.cmpi .ne v1159 c0_i32_1400
  let v1164 : BitVec 1 := Scalar.andi v1163 v1160
  let v1165 : BitVec 32 := Scalar.addi v1159 v1158
  let v1166 : BitVec 32 := Scalar.select v1164 v1165 v1159
  let v1241 : Index := Scalar.indexCast v1166
  let c0_1471 : Index := 0#32
  let c1_1472 : Index := 1#32
  let c0_1473 : Index := 0#32
  let c0_1474 : Index := 0#32
  ![v1241.toNat, 0, 1, 0, 0]
def k0_off17 (k0_t1 : Fin k0_t1_loop.trips) : Fin 5 → Nat :=
  let c0_1484 : Index := 0#32
  let c0_i32_293 : BitVec 32 := 0#32
  let c1_i32_294 : BitVec 32 := 1#32
  let arg24 : BitVec 32 := Scf.iv c0_i32_293 c1_i32_294 k0_t1
  let v1262 : Index := Scalar.indexCast arg24
  let c1_1485 : Index := 1#32
  let c0_1486 : Index := 0#32
  let c0_1487 : Index := 0#32
  ![0, v1262.toNat, 1, 0, 0]
def k0_off18 (k0_t1 : Fin k0_t1_loop.trips) : Fin 5 → Nat :=
  let c0_1488 : Index := 0#32
  let c0_i32_293 : BitVec 32 := 0#32
  let c1_i32_294 : BitVec 32 := 1#32
  let arg24 : BitVec 32 := Scf.iv c0_i32_293 c1_i32_294 k0_t1
  let v1268 : Index := Scalar.indexCast arg24
  let c1_1489 : Index := 1#32
  let c0_1490 : Index := 0#32
  let c0_1491 : Index := 0#32
  ![0, v1268.toNat, 1, 0, 0]
def k0_off19 (k0_t1 : Fin k0_t1_loop.trips) : Fin 4 → Nat :=
  let c0_i32_293 : BitVec 32 := 0#32
  let c1_i32_294 : BitVec 32 := 1#32
  let arg24 : BitVec 32 := Scf.iv c0_i32_293 c1_i32_294 k0_t1
  let v1272 : Index := Scalar.indexCast arg24
  let c2_1492 : Index := 2#32
  let c0_1493 : Index := 0#32
  let c0_1494 : Index := 0#32
  ![v1272.toNat, 2, 0, 0]
def k0_off20 (k0_t1 : Fin k0_t1_loop.trips) : Fin 5 → Nat :=
  let c0_i32_293 : BitVec 32 := 0#32
  let c1_i32_294 : BitVec 32 := 1#32
  let arg24 : BitVec 32 := Scf.iv c0_i32_293 c1_i32_294 k0_t1
  let c3_i32_1397 : BitVec 32 := 3#32
  let c0_i32_1398 : BitVec 32 := 0#32
  let v1157 : BitVec 1 := Scalar.cmpi .eq c3_i32_1397 c0_i32_1398
  let c1_i32_1399 : BitVec 32 := 1#32
  let v1158 : BitVec 32 := Scalar.select v1157 c1_i32_1399 c3_i32_1397
  let v1159 : BitVec 32 := Scalar.remsi arg24 v1158
  let c0_i32_1401 : BitVec 32 := 0#32
  let v1161 : BitVec 1 := Scalar.cmpi .slt v1159 c0_i32_1401
  let c0_i32_1402 : BitVec 32 := 0#32
  let v1162 : BitVec 1 := Scalar.cmpi .slt v1158 c0_i32_1402
  let v1163 : BitVec 1 := Scalar.xori v1161 v1162
  let c0_i32_1400 : BitVec 32 := 0#32
  let v1160 : BitVec 1 := Scalar.cmpi .ne v1159 c0_i32_1400
  let v1164 : BitVec 1 := Scalar.andi v1163 v1160
  let v1165 : BitVec 32 := Scalar.addi v1159 v1158
  let v1166 : BitVec 32 := Scalar.select v1164 v1165 v1159
  let v1275 : Index := Scalar.indexCast v1166
  let c0_1495 : Index := 0#32
  let c2_1496 : Index := 2#32
  let c0_1497 : Index := 0#32
  let c0_1498 : Index := 0#32
  ![v1275.toNat, 0, 2, 0, 0]
def k0_off21 (k0_t1 : Fin k0_t1_loop.trips) : Fin 5 → Nat :=
  let c0_1508 : Index := 0#32
  let c0_i32_293 : BitVec 32 := 0#32
  let c1_i32_294 : BitVec 32 := 1#32
  let arg24 : BitVec 32 := Scf.iv c0_i32_293 c1_i32_294 k0_t1
  let v1296 : Index := Scalar.indexCast arg24
  let c2_1509 : Index := 2#32
  let c0_1510 : Index := 0#32
  let c0_1511 : Index := 0#32
  ![0, v1296.toNat, 2, 0, 0]
def k0_off22 (k0_t1 : Fin k0_t1_loop.trips) : Fin 5 → Nat :=
  let c0_1512 : Index := 0#32
  let c0_i32_293 : BitVec 32 := 0#32
  let c1_i32_294 : BitVec 32 := 1#32
  let arg24 : BitVec 32 := Scf.iv c0_i32_293 c1_i32_294 k0_t1
  let v1302 : Index := Scalar.indexCast arg24
  let c2_1513 : Index := 2#32
  let c0_1514 : Index := 0#32
  let c0_1515 : Index := 0#32
  ![0, v1302.toNat, 2, 0, 0]
def k0_off23 (k0_t1 : Fin k0_t1_loop.trips) : Fin 4 → Nat :=
  let c0_i32_293 : BitVec 32 := 0#32
  let c1_i32_294 : BitVec 32 := 1#32
  let arg24 : BitVec 32 := Scf.iv c0_i32_293 c1_i32_294 k0_t1
  let v1306 : Index := Scalar.indexCast arg24
  let c3_1516 : Index := 3#32
  let c0_1517 : Index := 0#32
  let c0_1518 : Index := 0#32
  ![v1306.toNat, 3, 0, 0]
def k0_off24 (k0_t1 : Fin k0_t1_loop.trips) : Fin 5 → Nat :=
  let c0_i32_293 : BitVec 32 := 0#32
  let c1_i32_294 : BitVec 32 := 1#32
  let arg24 : BitVec 32 := Scf.iv c0_i32_293 c1_i32_294 k0_t1
  let c3_i32_1397 : BitVec 32 := 3#32
  let c0_i32_1398 : BitVec 32 := 0#32
  let v1157 : BitVec 1 := Scalar.cmpi .eq c3_i32_1397 c0_i32_1398
  let c1_i32_1399 : BitVec 32 := 1#32
  let v1158 : BitVec 32 := Scalar.select v1157 c1_i32_1399 c3_i32_1397
  let v1159 : BitVec 32 := Scalar.remsi arg24 v1158
  let c0_i32_1401 : BitVec 32 := 0#32
  let v1161 : BitVec 1 := Scalar.cmpi .slt v1159 c0_i32_1401
  let c0_i32_1402 : BitVec 32 := 0#32
  let v1162 : BitVec 1 := Scalar.cmpi .slt v1158 c0_i32_1402
  let v1163 : BitVec 1 := Scalar.xori v1161 v1162
  let c0_i32_1400 : BitVec 32 := 0#32
  let v1160 : BitVec 1 := Scalar.cmpi .ne v1159 c0_i32_1400
  let v1164 : BitVec 1 := Scalar.andi v1163 v1160
  let v1165 : BitVec 32 := Scalar.addi v1159 v1158
  let v1166 : BitVec 32 := Scalar.select v1164 v1165 v1159
  let v1309 : Index := Scalar.indexCast v1166
  let c0_1519 : Index := 0#32
  let c3_1520 : Index := 3#32
  let c0_1521 : Index := 0#32
  let c0_1522 : Index := 0#32
  ![v1309.toNat, 0, 3, 0, 0]
def k0_off25 (k0_t1 : Fin k0_t1_loop.trips) : Fin 5 → Nat :=
  let c0_1532 : Index := 0#32
  let c0_i32_293 : BitVec 32 := 0#32
  let c1_i32_294 : BitVec 32 := 1#32
  let arg24 : BitVec 32 := Scf.iv c0_i32_293 c1_i32_294 k0_t1
  let v1330 : Index := Scalar.indexCast arg24
  let c3_1533 : Index := 3#32
  let c0_1534 : Index := 0#32
  let c0_1535 : Index := 0#32
  ![0, v1330.toNat, 3, 0, 0]
def k0_off26 (k0_t1 : Fin k0_t1_loop.trips) : Fin 5 → Nat :=
  let c0_1536 : Index := 0#32
  let c0_i32_293 : BitVec 32 := 0#32
  let c1_i32_294 : BitVec 32 := 1#32
  let arg24 : BitVec 32 := Scf.iv c0_i32_293 c1_i32_294 k0_t1
  let v1336 : Index := Scalar.indexCast arg24
  let c3_1537 : Index := 3#32
  let c0_1538 : Index := 0#32
  let c0_1539 : Index := 0#32
  ![0, v1336.toNat, 3, 0, 0]
def k0_off27 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_353 : BitVec 32 := 0#32
  let c0_i32_354 : BitVec 32 := 0#32
  let c0_i32_355 : BitVec 32 := 0#32
  let c0_i32_356 : BitVec 32 := 0#32
  ![v2.toNat, 0, 0, 0, 0]
def k0_off28 (d0 : Dev nD) (c1_i32_339 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v441 : BitVec 32 := Scalar.addi v2 c1_i32_339
  let c4_i32_340 : BitVec 32 := 4#32
  let c0_i32_341 : BitVec 32 := 0#32
  let v442 : BitVec 1 := Scalar.cmpi .eq c4_i32_340 c0_i32_341
  let c1_i32_342 : BitVec 32 := 1#32
  let v443 : BitVec 32 := Scalar.select v442 c1_i32_342 c4_i32_340
  let v444 : BitVec 32 := Scalar.remsi v441 v443
  let c0_i32_344 : BitVec 32 := 0#32
  let v446 : BitVec 1 := Scalar.cmpi .slt v444 c0_i32_344
  let c0_i32_345 : BitVec 32 := 0#32
  let v447 : BitVec 1 := Scalar.cmpi .slt v443 c0_i32_345
  let v448 : BitVec 1 := Scalar.xori v446 v447
  let c0_i32_343 : BitVec 32 := 0#32
  let v445 : BitVec 1 := Scalar.cmpi .ne v444 c0_i32_343
  let v449 : BitVec 1 := Scalar.andi v448 v445
  let v450 : BitVec 32 := Scalar.addi v444 v443
  let v451 : BitVec 32 := Scalar.select v449 v450 v444
  let c0_i32_361 : BitVec 32 := 0#32
  let c0_i32_362 : BitVec 32 := 0#32
  let c0_i32_363 : BitVec 32 := 0#32
  let c0_i32_364 : BitVec 32 := 0#32
  ![v451.toNat, 0, 0, 0, 0]
def k0_off29 (d0 : Dev nD) (c1_i32_339 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v441 : BitVec 32 := Scalar.addi v2 c1_i32_339
  let c4_i32_340 : BitVec 32 := 4#32
  let c0_i32_341 : BitVec 32 := 0#32
  let v442 : BitVec 1 := Scalar.cmpi .eq c4_i32_340 c0_i32_341
  let c1_i32_342 : BitVec 32 := 1#32
  let v443 : BitVec 32 := Scalar.select v442 c1_i32_342 c4_i32_340
  let v444 : BitVec 32 := Scalar.remsi v441 v443
  let c0_i32_344 : BitVec 32 := 0#32
  let v446 : BitVec 1 := Scalar.cmpi .slt v444 c0_i32_344
  let c0_i32_345 : BitVec 32 := 0#32
  let v447 : BitVec 1 := Scalar.cmpi .slt v443 c0_i32_345
  let v448 : BitVec 1 := Scalar.xori v446 v447
  let c0_i32_343 : BitVec 32 := 0#32
  let v445 : BitVec 1 := Scalar.cmpi .ne v444 c0_i32_343
  let v449 : BitVec 1 := Scalar.andi v448 v445
  let v450 : BitVec 32 := Scalar.addi v444 v443
  let v451 : BitVec 32 := Scalar.select v449 v450 v444
  let c0_i32_361 : BitVec 32 := 0#32
  let c0_i32_362 : BitVec 32 := 0#32
  let c0_i32_363 : BitVec 32 := 0#32
  let c0_i32_364 : BitVec 32 := 0#32
  ![v451.toNat, 0, 0, 0, 0]
def k0_off30 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_353 : BitVec 32 := 0#32
  let c0_i32_354 : BitVec 32 := 0#32
  let c0_i32_355 : BitVec 32 := 0#32
  let c0_i32_356 : BitVec 32 := 0#32
  ![v2.toNat, 0, 0, 0, 0]
def k0_dev7 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_339 : BitVec 32 := 1#32
  let v441 : BitVec 32 := Scalar.addi v2 c1_i32_339
  let c4_i32_340 : BitVec 32 := 4#32
  let c0_i32_341 : BitVec 32 := 0#32
  let v442 : BitVec 1 := Scalar.cmpi .eq c4_i32_340 c0_i32_341
  let c1_i32_342 : BitVec 32 := 1#32
  let v443 : BitVec 32 := Scalar.select v442 c1_i32_342 c4_i32_340
  let v444 : BitVec 32 := Scalar.remsi v441 v443
  let c0_i32_344 : BitVec 32 := 0#32
  let v446 : BitVec 1 := Scalar.cmpi .slt v444 c0_i32_344
  let c0_i32_345 : BitVec 32 := 0#32
  let v447 : BitVec 1 := Scalar.cmpi .slt v443 c0_i32_345
  let v448 : BitVec 1 := Scalar.xori v446 v447
  let c0_i32_343 : BitVec 32 := 0#32
  let v445 : BitVec 1 := Scalar.cmpi .ne v444 c0_i32_343
  let v449 : BitVec 1 := Scalar.andi v448 v445
  let v450 : BitVec 32 := Scalar.addi v444 v443
  let v451 : BitVec 32 := Scalar.select v449 v450 v444
  let c1_i32_349 : BitVec 32 := 1#32
  let v452 : BitVec 32 := Scalar.muli v451 c1_i32_349
  let v453 : BitVec 32 := Scalar.addi c0_i32_350 v452
  v453.toNat
def k0_off31 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_376 : BitVec 32 := 0#32
  let c0_i32_377 : BitVec 32 := 0#32
  let c0_i32_378 : BitVec 32 := 0#32
  let c0_i32_379 : BitVec 32 := 0#32
  ![v2.toNat, 0, 0, 0, 0]
def k0_off32 (d0 : Dev nD) (c1_i32_339 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v441 : BitVec 32 := Scalar.addi v2 c1_i32_339
  let c4_i32_340 : BitVec 32 := 4#32
  let c0_i32_341 : BitVec 32 := 0#32
  let v442 : BitVec 1 := Scalar.cmpi .eq c4_i32_340 c0_i32_341
  let c1_i32_342 : BitVec 32 := 1#32
  let v443 : BitVec 32 := Scalar.select v442 c1_i32_342 c4_i32_340
  let v444 : BitVec 32 := Scalar.remsi v441 v443
  let c0_i32_344 : BitVec 32 := 0#32
  let v446 : BitVec 1 := Scalar.cmpi .slt v444 c0_i32_344
  let c0_i32_345 : BitVec 32 := 0#32
  let v447 : BitVec 1 := Scalar.cmpi .slt v443 c0_i32_345
  let v448 : BitVec 1 := Scalar.xori v446 v447
  let c0_i32_343 : BitVec 32 := 0#32
  let v445 : BitVec 1 := Scalar.cmpi .ne v444 c0_i32_343
  let v449 : BitVec 1 := Scalar.andi v448 v445
  let v450 : BitVec 32 := Scalar.addi v444 v443
  let v451 : BitVec 32 := Scalar.select v449 v450 v444
  let c0_i32_384 : BitVec 32 := 0#32
  let c0_i32_385 : BitVec 32 := 0#32
  let c0_i32_386 : BitVec 32 := 0#32
  let c0_i32_387 : BitVec 32 := 0#32
  ![v451.toNat, 0, 0, 0, 0]
def k0_dev8 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_339 : BitVec 32 := 1#32
  let v441 : BitVec 32 := Scalar.addi v2 c1_i32_339
  let c4_i32_340 : BitVec 32 := 4#32
  let c0_i32_341 : BitVec 32 := 0#32
  let v442 : BitVec 1 := Scalar.cmpi .eq c4_i32_340 c0_i32_341
  let c1_i32_342 : BitVec 32 := 1#32
  let v443 : BitVec 32 := Scalar.select v442 c1_i32_342 c4_i32_340
  let v444 : BitVec 32 := Scalar.remsi v441 v443
  let c0_i32_344 : BitVec 32 := 0#32
  let v446 : BitVec 1 := Scalar.cmpi .slt v444 c0_i32_344
  let c0_i32_345 : BitVec 32 := 0#32
  let v447 : BitVec 1 := Scalar.cmpi .slt v443 c0_i32_345
  let v448 : BitVec 1 := Scalar.xori v446 v447
  let c0_i32_343 : BitVec 32 := 0#32
  let v445 : BitVec 1 := Scalar.cmpi .ne v444 c0_i32_343
  let v449 : BitVec 1 := Scalar.andi v448 v445
  let v450 : BitVec 32 := Scalar.addi v444 v443
  let v451 : BitVec 32 := Scalar.select v449 v450 v444
  let c1_i32_372 : BitVec 32 := 1#32
  let v468 : BitVec 32 := Scalar.muli v451 c1_i32_372
  let v469 : BitVec 32 := Scalar.addi c0_i32_373 v468
  v469.toNat
def k0_dev9 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_392 : BitVec 32 := 2#32
  let v484 : BitVec 32 := Scalar.addi v2 c2_i32_392
  let c4_i32_393 : BitVec 32 := 4#32
  let c0_i32_394 : BitVec 32 := 0#32
  let v485 : BitVec 1 := Scalar.cmpi .eq c4_i32_393 c0_i32_394
  let c1_i32_395 : BitVec 32 := 1#32
  let v486 : BitVec 32 := Scalar.select v485 c1_i32_395 c4_i32_393
  let v487 : BitVec 32 := Scalar.remsi v484 v486
  let c0_i32_397 : BitVec 32 := 0#32
  let v489 : BitVec 1 := Scalar.cmpi .slt v487 c0_i32_397
  let c0_i32_398 : BitVec 32 := 0#32
  let v490 : BitVec 1 := Scalar.cmpi .slt v486 c0_i32_398
  let v491 : BitVec 1 := Scalar.xori v489 v490
  let c0_i32_396 : BitVec 32 := 0#32
  let v488 : BitVec 1 := Scalar.cmpi .ne v487 c0_i32_396
  let v492 : BitVec 1 := Scalar.andi v491 v488
  let v493 : BitVec 32 := Scalar.addi v487 v486
  let v494 : BitVec 32 := Scalar.select v492 v493 v487
  let c1_i32_402 : BitVec 32 := 1#32
  let v495 : BitVec 32 := Scalar.muli v494 c1_i32_402
  let v496 : BitVec 32 := Scalar.addi c0_i32_403 v495
  v496.toNat
def k0_dev10 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_392 : BitVec 32 := 2#32
  let v484 : BitVec 32 := Scalar.addi v2 c2_i32_392
  let c4_i32_393 : BitVec 32 := 4#32
  let c0_i32_394 : BitVec 32 := 0#32
  let v485 : BitVec 1 := Scalar.cmpi .eq c4_i32_393 c0_i32_394
  let c1_i32_395 : BitVec 32 := 1#32
  let v486 : BitVec 32 := Scalar.select v485 c1_i32_395 c4_i32_393
  let v487 : BitVec 32 := Scalar.remsi v484 v486
  let c0_i32_397 : BitVec 32 := 0#32
  let v489 : BitVec 1 := Scalar.cmpi .slt v487 c0_i32_397
  let c0_i32_398 : BitVec 32 := 0#32
  let v490 : BitVec 1 := Scalar.cmpi .slt v486 c0_i32_398
  let v491 : BitVec 1 := Scalar.xori v489 v490
  let c0_i32_396 : BitVec 32 := 0#32
  let v488 : BitVec 1 := Scalar.cmpi .ne v487 c0_i32_396
  let v492 : BitVec 1 := Scalar.andi v491 v488
  let v493 : BitVec 32 := Scalar.addi v487 v486
  let v494 : BitVec 32 := Scalar.select v492 v493 v487
  let c1_i32_425 : BitVec 32 := 1#32
  let v511 : BitVec 32 := Scalar.muli v494 c1_i32_425
  let v512 : BitVec 32 := Scalar.addi c0_i32_426 v511
  v512.toNat
def k0_dev11 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v527 : BitVec 32 := Scalar.addi v2 c3_i32_445
  let c4_i32_446 : BitVec 32 := 4#32
  let c0_i32_447 : BitVec 32 := 0#32
  let v528 : BitVec 1 := Scalar.cmpi .eq c4_i32_446 c0_i32_447
  let c1_i32_448 : BitVec 32 := 1#32
  let v529 : BitVec 32 := Scalar.select v528 c1_i32_448 c4_i32_446
  let v530 : BitVec 32 := Scalar.remsi v527 v529
  let c0_i32_450 : BitVec 32 := 0#32
  let v532 : BitVec 1 := Scalar.cmpi .slt v530 c0_i32_450
  let c0_i32_451 : BitVec 32 := 0#32
  let v533 : BitVec 1 := Scalar.cmpi .slt v529 c0_i32_451
  let v534 : BitVec 1 := Scalar.xori v532 v533
  let c0_i32_449 : BitVec 32 := 0#32
  let v531 : BitVec 1 := Scalar.cmpi .ne v530 c0_i32_449
  let v535 : BitVec 1 := Scalar.andi v534 v531
  let v536 : BitVec 32 := Scalar.addi v530 v529
  let v537 : BitVec 32 := Scalar.select v535 v536 v530
  let c1_i32_455 : BitVec 32 := 1#32
  let v538 : BitVec 32 := Scalar.muli v537 c1_i32_455
  let v539 : BitVec 32 := Scalar.addi c0_i32_456 v538
  v539.toNat
def k0_dev12 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_445 : BitVec 32 := 3#32
  let v527 : BitVec 32 := Scalar.addi v2 c3_i32_445
  let c4_i32_446 : BitVec 32 := 4#32
  let c0_i32_447 : BitVec 32 := 0#32
  let v528 : BitVec 1 := Scalar.cmpi .eq c4_i32_446 c0_i32_447
  let c1_i32_448 : BitVec 32 := 1#32
  let v529 : BitVec 32 := Scalar.select v528 c1_i32_448 c4_i32_446
  let v530 : BitVec 32 := Scalar.remsi v527 v529
  let c0_i32_450 : BitVec 32 := 0#32
  let v532 : BitVec 1 := Scalar.cmpi .slt v530 c0_i32_450
  let c0_i32_451 : BitVec 32 := 0#32
  let v533 : BitVec 1 := Scalar.cmpi .slt v529 c0_i32_451
  let v534 : BitVec 1 := Scalar.xori v532 v533
  let c0_i32_449 : BitVec 32 := 0#32
  let v531 : BitVec 1 := Scalar.cmpi .ne v530 c0_i32_449
  let v535 : BitVec 1 := Scalar.andi v534 v531
  let v536 : BitVec 32 := Scalar.addi v530 v529
  let v537 : BitVec 32 := Scalar.select v535 v536 v530
  let c1_i32_478 : BitVec 32 := 1#32
  let v554 : BitVec 32 := Scalar.muli v537 c1_i32_478
  let v555 : BitVec 32 := Scalar.addi c0_i32_479 v554
  v555.toNat
def k0_off33 (d0 : Dev nD) (c1_i32_532 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v586 : BitVec 32 := Scalar.addi v2 c1_i32_532
  let c4_i32_533 : BitVec 32 := 4#32
  let c0_i32_534 : BitVec 32 := 0#32
  let v587 : BitVec 1 := Scalar.cmpi .eq c4_i32_533 c0_i32_534
  let c1_i32_535 : BitVec 32 := 1#32
  let v588 : BitVec 32 := Scalar.select v587 c1_i32_535 c4_i32_533
  let v589 : BitVec 32 := Scalar.remsi v586 v588
  let c0_i32_537 : BitVec 32 := 0#32
  let v591 : BitVec 1 := Scalar.cmpi .slt v589 c0_i32_537
  let c0_i32_538 : BitVec 32 := 0#32
  let v592 : BitVec 1 := Scalar.cmpi .slt v588 c0_i32_538
  let v593 : BitVec 1 := Scalar.xori v591 v592
  let c0_i32_536 : BitVec 32 := 0#32
  let v590 : BitVec 1 := Scalar.cmpi .ne v589 c0_i32_536
  let v594 : BitVec 1 := Scalar.andi v593 v590
  let v595 : BitVec 32 := Scalar.addi v589 v588
  let v596 : BitVec 32 := Scalar.select v594 v595 v589
  let c0_i32_555 : BitVec 32 := 0#32
  let c0_i32_556 : BitVec 32 := 0#32
  let c0_i32_557 : BitVec 32 := 0#32
  ![v596.toNat, 4, 0, 0, 0]
def k0_off34 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_547 : BitVec 32 := 0#32
  let c0_i32_548 : BitVec 32 := 0#32
  let c0_i32_549 : BitVec 32 := 0#32
  ![v2.toNat, 4, 0, 0, 0]
def k0_dev13 (d0 : Dev nD) : Nat :=
  let c0_i32_543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_532 : BitVec 32 := 1#32
  let v586 : BitVec 32 := Scalar.addi v2 c1_i32_532
  let c4_i32_533 : BitVec 32 := 4#32
  let c0_i32_534 : BitVec 32 := 0#32
  let v587 : BitVec 1 := Scalar.cmpi .eq c4_i32_533 c0_i32_534
  let c1_i32_535 : BitVec 32 := 1#32
  let v588 : BitVec 32 := Scalar.select v587 c1_i32_535 c4_i32_533
  let v589 : BitVec 32 := Scalar.remsi v586 v588
  let c0_i32_537 : BitVec 32 := 0#32
  let v591 : BitVec 1 := Scalar.cmpi .slt v589 c0_i32_537
  let c0_i32_538 : BitVec 32 := 0#32
  let v592 : BitVec 1 := Scalar.cmpi .slt v588 c0_i32_538
  let v593 : BitVec 1 := Scalar.xori v591 v592
  let c0_i32_536 : BitVec 32 := 0#32
  let v590 : BitVec 1 := Scalar.cmpi .ne v589 c0_i32_536
  let v594 : BitVec 1 := Scalar.andi v593 v590
  let v595 : BitVec 32 := Scalar.addi v589 v588
  let v596 : BitVec 32 := Scalar.select v594 v595 v589
  let c1_i32_542 : BitVec 32 := 1#32
  let v597 : BitVec 32 := Scalar.muli v596 c1_i32_542
  let v598 : BitVec 32 := Scalar.addi c0_i32_543 v597
  v598.toNat
def k0_dev14 (d0 : Dev nD) : Nat :=
  let c0_i32_566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_532 : BitVec 32 := 1#32
  let v586 : BitVec 32 := Scalar.addi v2 c1_i32_532
  let c4_i32_533 : BitVec 32 := 4#32
  let c0_i32_534 : BitVec 32 := 0#32
  let v587 : BitVec 1 := Scalar.cmpi .eq c4_i32_533 c0_i32_534
  let c1_i32_535 : BitVec 32 := 1#32
  let v588 : BitVec 32 := Scalar.select v587 c1_i32_535 c4_i32_533
  let v589 : BitVec 32 := Scalar.remsi v586 v588
  let c0_i32_537 : BitVec 32 := 0#32
  let v591 : BitVec 1 := Scalar.cmpi .slt v589 c0_i32_537
  let c0_i32_538 : BitVec 32 := 0#32
  let v592 : BitVec 1 := Scalar.cmpi .slt v588 c0_i32_538
  let v593 : BitVec 1 := Scalar.xori v591 v592
  let c0_i32_536 : BitVec 32 := 0#32
  let v590 : BitVec 1 := Scalar.cmpi .ne v589 c0_i32_536
  let v594 : BitVec 1 := Scalar.andi v593 v590
  let v595 : BitVec 32 := Scalar.addi v589 v588
  let v596 : BitVec 32 := Scalar.select v594 v595 v589
  let c1_i32_565 : BitVec 32 := 1#32
  let v613 : BitVec 32 := Scalar.muli v596 c1_i32_565
  let v614 : BitVec 32 := Scalar.addi c0_i32_566 v613
  v614.toNat
def k0_dev15 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_585 : BitVec 32 := 2#32
  let v629 : BitVec 32 := Scalar.addi v2 c2_i32_585
  let c4_i32_586 : BitVec 32 := 4#32
  let c0_i32_587 : BitVec 32 := 0#32
  let v630 : BitVec 1 := Scalar.cmpi .eq c4_i32_586 c0_i32_587
  let c1_i32_588 : BitVec 32 := 1#32
  let v631 : BitVec 32 := Scalar.select v630 c1_i32_588 c4_i32_586
  let v632 : BitVec 32 := Scalar.remsi v629 v631
  let c0_i32_590 : BitVec 32 := 0#32
  let v634 : BitVec 1 := Scalar.cmpi .slt v632 c0_i32_590
  let c0_i32_591 : BitVec 32 := 0#32
  let v635 : BitVec 1 := Scalar.cmpi .slt v631 c0_i32_591
  let v636 : BitVec 1 := Scalar.xori v634 v635
  let c0_i32_589 : BitVec 32 := 0#32
  let v633 : BitVec 1 := Scalar.cmpi .ne v632 c0_i32_589
  let v637 : BitVec 1 := Scalar.andi v636 v633
  let v638 : BitVec 32 := Scalar.addi v632 v631
  let v639 : BitVec 32 := Scalar.select v637 v638 v632
  let c1_i32_595 : BitVec 32 := 1#32
  let v640 : BitVec 32 := Scalar.muli v639 c1_i32_595
  let v641 : BitVec 32 := Scalar.addi c0_i32_596 v640
  v641.toNat
def k0_dev16 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_585 : BitVec 32 := 2#32
  let v629 : BitVec 32 := Scalar.addi v2 c2_i32_585
  let c4_i32_586 : BitVec 32 := 4#32
  let c0_i32_587 : BitVec 32 := 0#32
  let v630 : BitVec 1 := Scalar.cmpi .eq c4_i32_586 c0_i32_587
  let c1_i32_588 : BitVec 32 := 1#32
  let v631 : BitVec 32 := Scalar.select v630 c1_i32_588 c4_i32_586
  let v632 : BitVec 32 := Scalar.remsi v629 v631
  let c0_i32_590 : BitVec 32 := 0#32
  let v634 : BitVec 1 := Scalar.cmpi .slt v632 c0_i32_590
  let c0_i32_591 : BitVec 32 := 0#32
  let v635 : BitVec 1 := Scalar.cmpi .slt v631 c0_i32_591
  let v636 : BitVec 1 := Scalar.xori v634 v635
  let c0_i32_589 : BitVec 32 := 0#32
  let v633 : BitVec 1 := Scalar.cmpi .ne v632 c0_i32_589
  let v637 : BitVec 1 := Scalar.andi v636 v633
  let v638 : BitVec 32 := Scalar.addi v632 v631
  let v639 : BitVec 32 := Scalar.select v637 v638 v632
  let c1_i32_618 : BitVec 32 := 1#32
  let v656 : BitVec 32 := Scalar.muli v639 c1_i32_618
  let v657 : BitVec 32 := Scalar.addi c0_i32_619 v656
  v657.toNat
def k0_dev17 (d0 : Dev nD) : Nat :=
  let c0_i32_649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_638 : BitVec 32 := 3#32
  let v672 : BitVec 32 := Scalar.addi v2 c3_i32_638
  let c4_i32_639 : BitVec 32 := 4#32
  let c0_i32_640 : BitVec 32 := 0#32
  let v673 : BitVec 1 := Scalar.cmpi .eq c4_i32_639 c0_i32_640
  let c1_i32_641 : BitVec 32 := 1#32
  let v674 : BitVec 32 := Scalar.select v673 c1_i32_641 c4_i32_639
  let v675 : BitVec 32 := Scalar.remsi v672 v674
  let c0_i32_643 : BitVec 32 := 0#32
  let v677 : BitVec 1 := Scalar.cmpi .slt v675 c0_i32_643
  let c0_i32_644 : BitVec 32 := 0#32
  let v678 : BitVec 1 := Scalar.cmpi .slt v674 c0_i32_644
  let v679 : BitVec 1 := Scalar.xori v677 v678
  let c0_i32_642 : BitVec 32 := 0#32
  let v676 : BitVec 1 := Scalar.cmpi .ne v675 c0_i32_642
  let v680 : BitVec 1 := Scalar.andi v679 v676
  let v681 : BitVec 32 := Scalar.addi v675 v674
  let v682 : BitVec 32 := Scalar.select v680 v681 v675
  let c1_i32_648 : BitVec 32 := 1#32
  let v683 : BitVec 32 := Scalar.muli v682 c1_i32_648
  let v684 : BitVec 32 := Scalar.addi c0_i32_649 v683
  v684.toNat
def k0_dev18 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_638 : BitVec 32 := 3#32
  let v672 : BitVec 32 := Scalar.addi v2 c3_i32_638
  let c4_i32_639 : BitVec 32 := 4#32
  let c0_i32_640 : BitVec 32 := 0#32
  let v673 : BitVec 1 := Scalar.cmpi .eq c4_i32_639 c0_i32_640
  let c1_i32_641 : BitVec 32 := 1#32
  let v674 : BitVec 32 := Scalar.select v673 c1_i32_641 c4_i32_639
  let v675 : BitVec 32 := Scalar.remsi v672 v674
  let c0_i32_643 : BitVec 32 := 0#32
  let v677 : BitVec 1 := Scalar.cmpi .slt v675 c0_i32_643
  let c0_i32_644 : BitVec 32 := 0#32
  let v678 : BitVec 1 := Scalar.cmpi .slt v674 c0_i32_644
  let v679 : BitVec 1 := Scalar.xori v677 v678
  let c0_i32_642 : BitVec 32 := 0#32
  let v676 : BitVec 1 := Scalar.cmpi .ne v675 c0_i32_642
  let v680 : BitVec 1 := Scalar.andi v679 v676
  let v681 : BitVec 32 := Scalar.addi v675 v674
  let v682 : BitVec 32 := Scalar.select v680 v681 v675
  let c1_i32_671 : BitVec 32 := 1#32
  let v699 : BitVec 32 := Scalar.muli v682 c1_i32_671
  let v700 : BitVec 32 := Scalar.addi c0_i32_672 v699
  v700.toNat
def k0_dev19 (d0 : Dev nD) : Nat :=
  let c0_i32_1406_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1397_r0 : BitVec 32 := 1#32
  let v1158_r0 : BitVec 32 := Scalar.addi v2 c1_i32_1397_r0
  let c4_i32_1398_r0 : BitVec 32 := 4#32
  let c0_i32_1399_r0 : BitVec 32 := 0#32
  let v1159_r0 : BitVec 1 := Scalar.cmpi .eq c4_i32_1398_r0 c0_i32_1399_r0
  let c1_i32_1400_r0 : BitVec 32 := 1#32
  let v1160_r0 : BitVec 32 := Scalar.select v1159_r0 c1_i32_1400_r0 c4_i32_1398_r0
  let v1161_r0 : BitVec 32 := Scalar.remsi v1158_r0 v1160_r0
  let c0_i32_1402_r0 : BitVec 32 := 0#32
  let v1163_r0 : BitVec 1 := Scalar.cmpi .slt v1161_r0 c0_i32_1402_r0
  let c0_i32_1403_r0 : BitVec 32 := 0#32
  let v1164_r0 : BitVec 1 := Scalar.cmpi .slt v1160_r0 c0_i32_1403_r0
  let v1165_r0 : BitVec 1 := Scalar.xori v1163_r0 v1164_r0
  let c0_i32_1401_r0 : BitVec 32 := 0#32
  let v1162_r0 : BitVec 1 := Scalar.cmpi .ne v1161_r0 c0_i32_1401_r0
  let v1166_r0 : BitVec 1 := Scalar.andi v1165_r0 v1162_r0
  let v1167_r0 : BitVec 32 := Scalar.addi v1161_r0 v1160_r0
  let v1168_r0 : BitVec 32 := Scalar.select v1166_r0 v1167_r0 v1161_r0
  let c1_i32_1405_r0 : BitVec 32 := 1#32
  let v1169_r0 : BitVec 32 := Scalar.muli v1168_r0 c1_i32_1405_r0
  let v1170_r0 : BitVec 32 := Scalar.addi c0_i32_1406_r0 v1169_r0
  v1170_r0.toNat
def k0_dev20 (d0 : Dev nD) : Nat :=
  let c0_i32_1416_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1407_r0 : BitVec 32 := 2#32
  let v1171_r0 : BitVec 32 := Scalar.addi v2 c2_i32_1407_r0
  let c4_i32_1408_r0 : BitVec 32 := 4#32
  let c0_i32_1409_r0 : BitVec 32 := 0#32
  let v1172_r0 : BitVec 1 := Scalar.cmpi .eq c4_i32_1408_r0 c0_i32_1409_r0
  let c1_i32_1410_r0 : BitVec 32 := 1#32
  let v1173_r0 : BitVec 32 := Scalar.select v1172_r0 c1_i32_1410_r0 c4_i32_1408_r0
  let v1174_r0 : BitVec 32 := Scalar.remsi v1171_r0 v1173_r0
  let c0_i32_1412_r0 : BitVec 32 := 0#32
  let v1176_r0 : BitVec 1 := Scalar.cmpi .slt v1174_r0 c0_i32_1412_r0
  let c0_i32_1413_r0 : BitVec 32 := 0#32
  let v1177_r0 : BitVec 1 := Scalar.cmpi .slt v1173_r0 c0_i32_1413_r0
  let v1178_r0 : BitVec 1 := Scalar.xori v1176_r0 v1177_r0
  let c0_i32_1411_r0 : BitVec 32 := 0#32
  let v1175_r0 : BitVec 1 := Scalar.cmpi .ne v1174_r0 c0_i32_1411_r0
  let v1179_r0 : BitVec 1 := Scalar.andi v1178_r0 v1175_r0
  let v1180_r0 : BitVec 32 := Scalar.addi v1174_r0 v1173_r0
  let v1181_r0 : BitVec 32 := Scalar.select v1179_r0 v1180_r0 v1174_r0
  let c1_i32_1415_r0 : BitVec 32 := 1#32
  let v1182_r0 : BitVec 32 := Scalar.muli v1181_r0 c1_i32_1415_r0
  let v1183_r0 : BitVec 32 := Scalar.addi c0_i32_1416_r0 v1182_r0
  v1183_r0.toNat
def k0_dev21 (d0 : Dev nD) : Nat :=
  let c0_i32_1426_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1417_r0 : BitVec 32 := 3#32
  let v1184_r0 : BitVec 32 := Scalar.addi v2 c3_i32_1417_r0
  let c4_i32_1418_r0 : BitVec 32 := 4#32
  let c0_i32_1419_r0 : BitVec 32 := 0#32
  let v1185_r0 : BitVec 1 := Scalar.cmpi .eq c4_i32_1418_r0 c0_i32_1419_r0
  let c1_i32_1420_r0 : BitVec 32 := 1#32
  let v1186_r0 : BitVec 32 := Scalar.select v1185_r0 c1_i32_1420_r0 c4_i32_1418_r0
  let v1187_r0 : BitVec 32 := Scalar.remsi v1184_r0 v1186_r0
  let c0_i32_1422_r0 : BitVec 32 := 0#32
  let v1189_r0 : BitVec 1 := Scalar.cmpi .slt v1187_r0 c0_i32_1422_r0
  let c0_i32_1423_r0 : BitVec 32 := 0#32
  let v1190_r0 : BitVec 1 := Scalar.cmpi .slt v1186_r0 c0_i32_1423_r0
  let v1191_r0 : BitVec 1 := Scalar.xori v1189_r0 v1190_r0
  let c0_i32_1421_r0 : BitVec 32 := 0#32
  let v1188_r0 : BitVec 1 := Scalar.cmpi .ne v1187_r0 c0_i32_1421_r0
  let v1192_r0 : BitVec 1 := Scalar.andi v1191_r0 v1188_r0
  let v1193_r0 : BitVec 32 := Scalar.addi v1187_r0 v1186_r0
  let v1194_r0 : BitVec 32 := Scalar.select v1192_r0 v1193_r0 v1187_r0
  let c1_i32_1425_r0 : BitVec 32 := 1#32
  let v1195_r0 : BitVec 32 := Scalar.muli v1194_r0 c1_i32_1425_r0
  let v1196_r0 : BitVec 32 := Scalar.addi c0_i32_1426_r0 v1195_r0
  v1196_r0.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S64x4x64x8x128 : Shape := ⟨5, ![64, 4, 64, 8, 128]⟩
abbrev S16384x8x128 : Shape := ⟨3, ![16384, 8, 128]⟩
abbrev S1024x8x128 : Shape := ⟨3, ![1024, 8, 128]⟩
abbrev S1024 : Shape := ⟨1, ![1024]⟩
abbrev S_ : Shape := ⟨0, ![]⟩
abbrev S1024x1 : Shape := ⟨2, ![1024, 1]⟩
abbrev S16384 : Shape := ⟨1, ![16384]⟩
abbrev S1x16384 : Shape := ⟨2, ![1, 16384]⟩
abbrev S1024x16384 : Shape := ⟨2, ![1024, 16384]⟩
abbrev S8x1024x16384 : Shape := ⟨3, ![8, 1024, 16384]⟩
abbrev S1x1024x16384 : Shape := ⟨3, ![1, 1024, 16384]⟩
abbrev S8x1024 : Shape := ⟨2, ![8, 1024]⟩
abbrev S8x1024x1 : Shape := ⟨3, ![8, 1024, 1]⟩
abbrev S1x1024x1 : Shape := ⟨3, ![1, 1024, 1]⟩
abbrev S8x128x1024 : Shape := ⟨3, ![8, 128, 1024]⟩

abbrev nBuf : Space → Nat
  | .hbm => 139
  | .vmem => 0
  | .smem => 0
  | _ => 0

abbrev hbmTy0_0 (i : Nat) : BufTy := match i % 128 with
  | 0 => ⟨S1024x1024, .f32⟩
  | 1 => ⟨S1024x1024, .f32⟩
  | 2 => ⟨S64x4x64x8x128, .f32⟩
  | 3 => ⟨S64x4x64x8x128, .f32⟩
  | 4 => ⟨S1024x1024, .f32⟩
  | 5 => ⟨S16384x8x128, .f32⟩
  | 6 => ⟨S16384x8x128, .f32⟩
  | 7 => ⟨S1024x1024, .f32⟩
  | 8 => ⟨S1024x8x128, .f32⟩
  | 9 => ⟨S1024, .i32⟩
  | 10 => ⟨S_, .i32⟩
  | 11 => ⟨S_, .i32⟩
  | 12 => ⟨S1024, .i32⟩
  | 13 => ⟨S1024, .i32⟩
  | 14 => ⟨S1024, .i32⟩
  | 15 => ⟨S_, .i32⟩
  | 16 => ⟨S1024, .i32⟩
  | 17 => ⟨S1024, .i1⟩
  | 18 => ⟨S1024, .i32⟩
  | 19 => ⟨S1024, .i32⟩
  | 20 => ⟨S_, .i32⟩
  | 21 => ⟨S1024, .i32⟩
  | 22 => ⟨S1024, .i1⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S16384, .i32⟩
  | 30 => ⟨S_, .i32⟩
  | 31 => ⟨S_, .i32⟩
  | 32 => ⟨S16384, .i32⟩
  | 33 => ⟨S16384, .i32⟩
  | 34 => ⟨S16384, .i32⟩
  | 35 => ⟨S_, .i32⟩
  | 36 => ⟨S16384, .i32⟩
  | 37 => ⟨S16384, .i1⟩
  | 38 => ⟨S16384, .i32⟩
  | 39 => ⟨S16384, .i32⟩
  | 40 => ⟨S_, .i32⟩
  | 41 => ⟨S16384, .i32⟩
  | 42 => ⟨S16384, .i1⟩
  | 43 => ⟨S16384, .i1⟩
  | 44 => ⟨S_, .i32⟩
  | 45 => ⟨S16384, .i32⟩
  | 46 => ⟨S16384, .i32⟩
  | 47 => ⟨S16384, .i32⟩
  | 48 => ⟨S1x16384, .i32⟩
  | 49 => ⟨S1024x16384, .i32⟩
  | 50 => ⟨S1024x16384, .i32⟩
  | 51 => ⟨S1024x16384, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1x16384, .i32⟩
  | 59 => ⟨S1x16384, .i32⟩
  | 60 => ⟨S_, .i32⟩
  | 61 => ⟨S1x16384, .i32⟩
  | 62 => ⟨S1x16384, .i1⟩
  | 63 => ⟨S_, .i32⟩
  | 64 => ⟨S1x16384, .i32⟩
  | 65 => ⟨S1x16384, .i1⟩
  | 66 => ⟨S_, .i32⟩
  | 67 => ⟨S_, .i1⟩
  | 68 => ⟨S1x16384, .i1⟩
  | 69 => ⟨S1x16384, .i1⟩
  | 70 => ⟨S1x16384, .i1⟩
  | 71 => ⟨S1x16384, .i32⟩
  | 72 => ⟨S1x16384, .i32⟩
  | 73 => ⟨S1x16384, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S1024x1, .i32⟩
  | 81 => ⟨S1024x1, .i32⟩
  | 82 => ⟨S_, .i32⟩
  | 83 => ⟨S1024x1, .i32⟩
  | 84 => ⟨S1024x1, .i1⟩
  | 85 => ⟨S_, .i32⟩
  | 86 => ⟨S1024x1, .i32⟩
  | 87 => ⟨S1024x1, .i1⟩
  | 88 => ⟨S_, .i32⟩
  | 89 => ⟨S_, .i1⟩
  | 90 => ⟨S1024x1, .i1⟩
  | 91 => ⟨S1024x1, .i1⟩
  | 92 => ⟨S1024x1, .i1⟩
  | 93 => ⟨S1024x1, .i32⟩
  | 94 => ⟨S1024x1, .i32⟩
  | 95 => ⟨S1024x1, .i32⟩
  | 96 => ⟨S1024x16384, .i32⟩
  | 97 => ⟨S1024x16384, .i32⟩
  | 98 => ⟨S1024x16384, .i1⟩
  | 99 => ⟨S1024x16384, .i1⟩
  | 100 => ⟨S8x1024x16384, .f32⟩
  | 101 => ⟨S_, .f32⟩
  | 102 => ⟨S8x1024x16384, .f32⟩
  | 103 => ⟨S8x1024x16384, .f32⟩
  | 104 => ⟨S1x1024x16384, .i1⟩
  | 105 => ⟨S_, .f32⟩
  | 106 => ⟨S_, .f32⟩
  | 107 => ⟨S8x1024x16384, .i1⟩
  | 108 => ⟨S8x1024x16384, .f32⟩
  | 109 => ⟨S8x1024x16384, .f32⟩
  | 110 => ⟨S_, .f32⟩
  | 111 => ⟨S8x1024, .f32⟩
  | 112 => ⟨S8x1024x1, .f32⟩
  | 113 => ⟨S8x1024x16384, .f32⟩
  | 114 => ⟨S8x1024x16384, .f32⟩
  | 115 => ⟨S8x1024x16384, .f32⟩
  | 116 => ⟨S_, .i1⟩
  | 117 => ⟨S1024, .i1⟩
  | 118 => ⟨S1x1024x1, .i1⟩
  | 119 => ⟨S_, .f32⟩
  | 120 => ⟨S8x1024, .f32⟩
  | 121 => ⟨S8x1024x1, .f32⟩
  | 122 => ⟨S_, .f32⟩
  | 123 => ⟨S_, .f32⟩
  | 124 => ⟨S8x1024x1, .i1⟩
  | 125 => ⟨S8x1024x1, .f32⟩
  | 126 => ⟨S8x1024x1, .f32⟩
  | 127 => ⟨S8x1024x16384, .f32⟩
  | _ => ⟨S1024x1024, .f32⟩

abbrev hbmTy0_1 (i : Nat) : BufTy := match i % 128 with
  | 0 => ⟨S8x1024x16384, .f32⟩
  | 1 => ⟨S1x1024x1, .i1⟩
  | 2 => ⟨S_, .f32⟩
  | 3 => ⟨S_, .f32⟩
  | 4 => ⟨S8x1024x16384, .i1⟩
  | 5 => ⟨S8x1024x16384, .f32⟩
  | 6 => ⟨S8x1024x16384, .f32⟩
  | 7 => ⟨S8x128x1024, .f32⟩
  | 8 => ⟨S1024x8x128, .f32⟩
  | 9 => ⟨S1024x1024, .f32⟩
  | 10 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_c_5 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_v32 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_8 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Base.lean ====
/-
The vocabulary of the proof: the mesh's peers, the kernel's semaphores as cells, the closed forms of the
addresses and devices the kernel computes, and the pieces of the buffers that travel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Exec
public import Idealize.ShloMosaic.Lib.ValueLayout
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The mesh -/

/-- The device `j + 1` places after `c` around the mesh of four. -/
def pr (c : Dev nD) (j : Fin 3) : Dev nD := ⟨(c.val + j.val + 1) % 4, Nat.mod_lt _ (by decide)⟩

theorem pr_ne (c : Dev nD) (j : Fin 3) : pr c j ≠ c := by revert c j; decide
theorem pr_inj (c : Dev nD) : ∀ j j' : Fin 3, pr c j = pr c j' → j = j' := by revert c; decide

/-- The place of device `c` as device `pr c j` counts its peers. -/
def bk (j : Fin 3) : Fin 3 := ⟨2 - j.val, by omega⟩
theorem pr_bk (c : Dev nD) (j : Fin 3) : pr (pr c j) (bk j) = c := by revert c j; decide
theorem bk_bk (j : Fin 3) : bk (bk j) = j := by revert j; decide

/-- Every device is `c` or one of its three peers. -/
theorem univ_peers (c : Dev nD) : (Finset.univ : Finset (Dev nD)) = {c, pr c 0, pr c 1, pr c 2} := by revert c; decide

/-! ## The semaphores -/

/-- The semaphores the devices meet at: the barrier; the three on which the sends of the block of `x` complete and the
    four on which the blocks of the peers arrive; per half of the heads the same for the partial sums and for the
    statistics; the closing handshake. -/
inductive Ck
  | bar | xs (j : Fin 3) | xr (s : Fin 4)
  | pa (h : Fin 2) (j : Fin 3) | ra (h : Fin 2) (s : Fin 4)
  | ps (h : Fin 2) (j : Fin 3) | rs (h : Fin 2) (s : Fin 4)
  | fin
deriving DecidableEq

/-- All of them, listed. -/
def ckList : List Ck :=
  [.bar, .xs 0, .xs 1, .xs 2, .xr 0, .xr 1, .xr 2, .xr 3,
   .pa 0 0, .pa 0 1, .pa 0 2, .pa 1 0, .pa 1 1, .pa 1 2, .ra 0 0, .ra 0 1, .ra 0 2, .ra 0 3, .ra 1 0, .ra 1 1, .ra 1 2, .ra 1 3,
   .ps 0 0, .ps 0 1, .ps 0 2, .ps 1 0, .ps 1 1, .ps 1 2, .rs 0 0, .rs 0 1, .rs 0 2, .rs 0 3, .rs 1 0, .rs 1 1, .rs 1 2, .rs 1 3, .fin]

theorem ckList_nodup : ckList.Nodup := by decide
theorem mem_ckList (k : Ck) : k ∈ ckList := by
  cases k with
  | bar => decide
  | fin => decide
  | xs j => revert j; decide
  | xr s => revert s; decide
  | pa h j => revert h j; decide
  | ra h s => revert h s; decide
  | ps h j => revert h j; decide
  | rs h s => revert h s; decide

instance : Fintype Ck := ⟨⟨ckList, ckList_nodup⟩, mem_ckList⟩

def csem : Ck → SemLoc sig
  | .bar => .reg (0 : Fin 2)
  | .xs j => .dma (⟨4 + j.val, by omega⟩ : Fin 50)
  | .xr s => .dma (⟨7 + s.val, by omega⟩ : Fin 50)
  | .pa h j => .dma (⟨11 + 3 * h.val + j.val, by omega⟩ : Fin 50)
  | .ra h s => .dma (⟨17 + 4 * h.val + s.val, by omega⟩ : Fin 50)
  | .ps h j => .dma (⟨25 + 3 * h.val + j.val, by omega⟩ : Fin 50)
  | .rs h s => .dma (⟨31 + 4 * h.val + s.val, by omega⟩ : Fin 50)
  | .fin => .reg (1 : Fin 2)

/-- The semaphores of the copies within a device: five of the landing copies, three slots each of the keys' and values'. -/
abbrev cpyS (i : Fin 5) : DmaSem sig := (⟨39 + i.val, by omega⟩ : Fin 50)
abbrev kcpS (i : Fin 3) : DmaSem sig := (⟨44 + i.val, by omega⟩ : Fin 50)
abbrev vcpS (i : Fin 3) : DmaSem sig := (⟨47 + i.val, by omega⟩ : Fin 50)

abbrev cell (c : Dev nD) (k : Ck) : GSem nD τ sig := ((c : Thread nD τ), csem k)

def ckOfDma (n : ℕ) : Option Ck :=
  if n < 4 then none
  else if n < 7 then some (.xs (Fin.ofNat 3 (n - 4)))
  else if n < 11 then some (.xr (Fin.ofNat 4 (n - 7)))
  else if n < 17 then some (.pa (Fin.ofNat 2 ((n - 11) / 3)) (Fin.ofNat 3 ((n - 11) % 3)))
  else if n < 25 then some (.ra (Fin.ofNat 2 ((n - 17) / 4)) (Fin.ofNat 4 ((n - 17) % 4)))
  else if n < 31 then some (.ps (Fin.ofNat 2 ((n - 25) / 3)) (Fin.ofNat 3 ((n - 25) % 3)))
  else if n < 39 then some (.rs (Fin.ofNat 2 ((n - 31) / 4)) (Fin.ofNat 4 ((n - 31) % 4)))
  else none

/-- Which meeting point a semaphore is. -/
def ckOf : SemLoc sig → Option Ck
  | .reg s => if (s : Fin 2).val = 0 then some .bar else some .fin
  | .dma q => ckOfDma (q : Fin 50).val

theorem ckOf_csem (k : Ck) : ckOf (csem k) = some k := by
  cases k with
  | bar => rfl
  | fin => rfl
  | xs j => revert j; decide
  | xr s => revert s; decide
  | pa h j => revert h j; decide
  | ra h s => revert h s; decide
  | ps h j => revert h j; decide
  | rs h s => revert h s; decide

theorem csem_inj : Function.Injective csem := fun k k' h => by
  have := ckOf_csem k; rw [h, ckOf_csem] at this; exact (Option.some.inj this).symm

theorem cell_eq_iff {c c' : Dev nD} {k k' : Ck} : Iff (cell c k = cell c' k') (c = c' ∧ k = k') :=
  ⟨fun h => ⟨Fin.ext (congrArg (fun g : GSem nD τ sig => g.1.1.val) h), csem_inj (congrArg Prod.snd h)⟩,
    by rintro ⟨rfl, rfl⟩; rfl⟩

/-! ## The addresses and devices the kernel computes -/

theorem off3_eq (c : Dev nD) (j : Fin 3) : k0_off3 c (BitVec.ofNat 32 (j.val + 1)) = ![(pr c j).val] := by
  revert c j; decide +kernel
theorem off4_eq (c : Dev nD) (j : Fin 3) : k0_off4 c (BitVec.ofNat 32 (j.val + 1)) = ![(pr c j).val, 0, 0] := by
  revert c j; decide +kernel
theorem off28_eq (c : Dev nD) (j : Fin 3) : k0_off28 c (BitVec.ofNat 32 (j.val + 1)) = ![(pr c j).val, 0, 0, 0, 0] := by
  revert c j; decide +kernel
theorem off29_eq (c : Dev nD) (j : Fin 3) : k0_off29 c (BitVec.ofNat 32 (j.val + 1)) = ![(pr c j).val, 0, 0, 0, 0] := by
  revert c j; decide +kernel
theorem off32_eq (c : Dev nD) (j : Fin 3) : k0_off32 c (BitVec.ofNat 32 (j.val + 1)) = ![(pr c j).val, 0, 0, 0, 0] := by
  revert c j; decide +kernel
theorem off33_eq (c : Dev nD) (j : Fin 3) : k0_off33 c (BitVec.ofNat 32 (j.val + 1)) = ![(pr c j).val, 4, 0, 0, 0] := by
  revert c j; decide +kernel

theorem trips_eq : k0_t1_loop.trips = 8 := by decide +kernel

theorem off5_eq (k : Fin k0_t1_loop.trips) : k0_off5 k = ![k.val % 3] := by revert k; decide +kernel
theorem off6_eq (k : Fin k0_t1_loop.trips) : k0_off6 k = ![k.val % 3, 0, 0, 0, 0] := by revert k; decide +kernel
theorem off8_eq (k : Fin k0_t1_loop.trips) : k0_off8 k = ![(k.val + 2) % 3] := by revert k; decide +kernel
theorem off9_eq (k : Fin k0_t1_loop.trips) : k0_off9 k = ![(k.val + 2) % 3, 0, 0, 0, 0] := by revert k; decide +kernel
theorem off12_eq (k : Fin k0_t1_loop.trips) : k0_off12 k = ![k.val % 3, 0, 0, 0, 0] := by revert k; decide +kernel
theorem off16_eq (k : Fin k0_t1_loop.trips) : k0_off16 k = ![k.val % 3, 0, 1, 0, 0] := by revert k; decide +kernel
theorem off20_eq (k : Fin k0_t1_loop.trips) : k0_off20 k = ![k.val % 3, 0, 2, 0, 0] := by revert k; decide +kernel
theorem off24_eq (k : Fin k0_t1_loop.trips) : k0_off24 k = ![k.val % 3, 0, 3, 0, 0] := by revert k; decide +kernel

theorem dev1_eq (c : Dev nD) : (⟨k0_dev1 c, k0_dev1_lt c⟩ : Dev nD) = pr c 0 := by revert c; decide +kernel
theorem dev2_eq (c : Dev nD) : (⟨k0_dev2 c, k0_dev2_lt c⟩ : Dev nD) = pr c 1 := by revert c; decide +kernel
theorem dev3_eq (c : Dev nD) : (⟨k0_dev3 c, k0_dev3_lt c⟩ : Dev nD) = pr c 2 := by revert c; decide +kernel
theorem dev4_eq (c : Dev nD) : (⟨k0_dev4 c, k0_dev4_lt c⟩ : Dev nD) = pr c 0 := by revert c; decide +kernel
theorem dev5_eq (c : Dev nD) : (⟨k0_dev5 c, k0_dev5_lt c⟩ : Dev nD) = pr c 1 := by revert c; decide +kernel
theorem dev6_eq (c : Dev nD) : (⟨k0_dev6 c, k0_dev6_lt c⟩ : Dev nD) = pr c 2 := by revert c; decide +kernel
theorem dev7_eq (c : Dev nD) : (⟨k0_dev7 c, k0_dev7_lt c⟩ : Dev nD) = pr c 0 := by revert c; decide +kernel
theorem dev8_eq (c : Dev nD) : (⟨k0_dev8 c, k0_dev8_lt c⟩ : Dev nD) = pr c 0 := by revert c; decide +kernel
theorem dev9_eq (c : Dev nD) : (⟨k0_dev9 c, k0_dev9_lt c⟩ : Dev nD) = pr c 1 := by revert c; decide +kernel
theorem dev10_eq (c : Dev nD) : (⟨k0_dev10 c, k0_dev10_lt c⟩ : Dev nD) = pr c 1 := by revert c; decide +kernel
theorem dev11_eq (c : Dev nD) : (⟨k0_dev11 c, k0_dev11_lt c⟩ : Dev nD) = pr c 2 := by revert c; decide +kernel
theorem dev12_eq (c : Dev nD) : (⟨k0_dev12 c, k0_dev12_lt c⟩ : Dev nD) = pr c 2 := by revert c; decide +kernel
theorem dev13_eq (c : Dev nD) : (⟨k0_dev13 c, k0_dev13_lt c⟩ : Dev nD) = pr c 0 := by revert c; decide +kernel
theorem dev14_eq (c : Dev nD) : (⟨k0_dev14 c, k0_dev14_lt c⟩ : Dev nD) = pr c 0 := by revert c; decide +kernel
theorem dev15_eq (c : Dev nD) : (⟨k0_dev15 c, k0_dev15_lt c⟩ : Dev nD) = pr c 1 := by revert c; decide +kernel
theorem dev16_eq (c : Dev nD) : (⟨k0_dev16 c, k0_dev16_lt c⟩ : Dev nD) = pr c 1 := by revert c; decide +kernel
theorem dev17_eq (c : Dev nD) : (⟨k0_dev17 c, k0_dev17_lt c⟩ : Dev nD) = pr c 2 := by revert c; decide +kernel
theorem dev18_eq (c : Dev nD) : (⟨k0_dev18 c, k0_dev18_lt c⟩ : Dev nD) = pr c 2 := by revert c; decide +kernel
theorem dev19_eq (c : Dev nD) : (⟨k0_dev19 c, k0_dev19_lt c⟩ : Dev nD) = pr c 0 := by revert c; decide +kernel
theorem dev20_eq (c : Dev nD) : (⟨k0_dev20 c, k0_dev20_lt c⟩ : Dev nD) = pr c 1 := by revert c; decide +kernel
theorem dev21_eq (c : Dev nD) : (⟨k0_dev21 c, k0_dev21_lt c⟩ : Dev nD) = pr c 2 := by revert c; decide +kernel

/-! ## The pieces -/

/-- The rows of a four-device buffer that are device `s`'s. -/
def slab (s : Fin 4) : Finset S4x256x1024.Idx := Finset.univ.filter fun i => (i 0).val = s.val
/-- Device `s`'s half `h` of the heads, of the partial sums' buffers. -/
def pcA (h : Fin 2) (s : Fin 4) : Finset S4x8x4x64x128.Idx := Finset.univ.filter fun i => (i 0).val = s.val ∧ (i 1).val / 4 = h.val
/-- The same of the statistics' buffers. -/
def pcS (h : Fin 2) (s : Fin 4) : Finset S4x8x4x64x2.Idx := Finset.univ.filter fun i => (i 0).val = s.val ∧ (i 1).val / 4 = h.val
/-- Slot `s` of the keys' or values' staging buffer. -/
def slot (s : Fin 3) : Finset S3x16x4x64x128.Idx := Finset.univ.filter fun i => (i 0).val = s.val
/-- Head `h` of the keys' or values' array. -/
def headOf (h : Fin 8) : Finset S16x4x64x8x128.Idx := Finset.univ.filter fun i => (i 3).val = h.val

/-- The buffer element a piece's index names: the index behind the first coordinate `s`. -/
theorem emb_drop {sp : Space} {n : ℕ} {d : Fin n → ℕ} {D : Fin (n+1) → ℕ} {e : EltTy} (M : Memref sig .tc sp ⟨n+1, D⟩ e)
    (off : Fin (n+1) → ℕ) (inb) (hr) (hq : (Shape.mk (n+1) (Matrix.vecCons 1 d)).Squeezes ⟨n, d⟩) (y : (⟨n, d⟩ : Shape).Idx) :
    ((M.slice (Rect.unit (s := ⟨n+1, D⟩) off (Matrix.vecCons 1 d) inb) hr).squeeze ⟨n, d⟩ hq).view.emb y
      = M.view.emb ((Rect.unit (s := ⟨n+1, D⟩) off (Matrix.vecCons 1 d) inb).emb (Fin.cons ⟨0, Nat.one_pos⟩ y)) := by
  show (M.view.emb ((Rect.unit (s := ⟨n+1, D⟩) off (Matrix.vecCons 1 d) inb).emb (Shape.reshapeEquiv hq.numel_eq y))) = _
  rw [Shape.reshapeEquiv_cons_one]

end Cert.Attn

end
-- ==== Proof.Contents.lean ====
/-
What the buffers hold, as functions of the arrays at launch, over any float values; and the pieces of the buffers
the transfers move: which elements each names, and that a transfer leaves in them what the receiver is to find.
-/
module

public import proofs.«01_k».proof.Proof.Base

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI

variable {F : FTy → Type} [FloatOps F]
variable (m : (ℓ : Loc nD τ sig) → Buf (Elt F) ℓ)

/-! ## The contents -/

/-- The staged blocks of `x`, the query weights and the output weights. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def ostg (c : Dev nD) : (cc0_stg2_0 : Ref sig .tc).ty.Contents (Elt F) :=
  (win0_2.blk (0 : Fin 1)).view.read (Elt F) (m ((c : Thread nD τ).loc main_arg4))
/-- The keys and the values. -/
def karr (c : Dev nD) : (main_arg2 : Ref sig .tc).ty.Contents (Elt F) := m ((c : Thread nD τ).loc main_arg2)
def varr (c : Dev nD) : (main_arg3 : Ref sig .tc).ty.Contents (Elt F) := m ((c : Thread nD τ).loc main_arg3)

/-- Device `c`'s rows of `x`, shortened. -/
def xb (c : Dev nD) : Vec F S256x1024 .bf16 := k0_pay28 (xstg m c)
/-- The gathered rows: slab `s` is device `s`'s. -/
def XG : Vec F S4x256x1024 .bf16 := fun i => xb m (i 0) (ix2 (i 1) (i 2))
/-- Head `h`'s columns of the query weights. -/
def wqh (c : Dev nD) (h : Fin 8) : Vec F S1024x128 .f32 := fun y =>
  wstg m c (ix2 (y 0) (⟨128 * h.val + (y 1).val, by have := h.isLt; have := idx2_lt1 y; omega⟩ : Fin 1024))
/-- The queries of residue `r` of one head. -/
def qch (w : Vec F S1024x128 .f32) (r : Fin 4) : Vec F S1x1x256x128 .f32 := match r with
  | 0 => k0_pay31 (XG m) w
  | 1 => k0_pay32 (XG m) w
  | 2 => k0_pay33 (XG m) w
  | 3 => k0_pay35 (k0_pay34 (XG m) w)
/-- The query buffer. -/
def QF (c : Dev nD) : Vec F S8x4x256x128 .f32 := fun i =>
  qch m (wqh m c (i 0)) (i 1) (ix4 (0 : Fin 1) (0 : Fin 1) (i 2) (i 3))
/-- Head `h` of the keys (values), as a slot of the staging buffer holds it, and its rows of residue `r`. -/
def hd (K : Vec F S16x4x64x8x128 .f32) (h : Fin 8) : Vec F S3x16x4x64x128 .f32 := fun i => K (ix5 (i 1) (i 2) (i 3) h (i 4))
def hdr (K : Vec F S16x4x64x8x128 .f32) (h : Fin 8) (r : Fin 4) : Vec F S1x16x1x64x128 .f32 := fun y => K (ix5 (y 1) r (y 3) h (y 4))
/-- Device `c`'s partial sums and statistics of one head and residue. -/
def AV (c : Dev nD) (h : Fin 8) (r : Fin 4) : Vec F S4x1x1x64x128 .bf16 :=
  k0_pay7 (k0_pay1 (qch m (wqh m c h) r)) (k0_pay2 (hdr (karr m c) h r)) (k0_pay3 (hdr (varr m c) h r))
def SV (c : Dev nD) (h : Fin 8) (r : Fin 4) : Vec F S4x1x1x64x2 .f32 :=
  k0_pay8 (k0_pay1 (qch m (wqh m c h) r)) (k0_pay2 (hdr (karr m c) h r))
/-- The buffers of partial sums and statistics, device `c`'s own over all queries; -/
def PA (c : Dev nD) : Vec F S4x8x4x64x128 .bf16 := fun i => AV m c (i 1) (i 2) (ix5 (i 0) (0 : Fin 1) (0 : Fin 1) (i 3) (i 4))
def PS (c : Dev nD) : Vec F S4x8x4x64x2 .f32 := fun i => SV m c (i 1) (i 2) (ix5 (i 0) (0 : Fin 1) (0 : Fin 1) (i 3) (i 4))
/-- and as gathered on device `d`: slab `s` holds device `s`'s over `d`'s queries. -/
def RB (d : Dev nD) : Vec F S4x8x4x64x128 .bf16 := fun i => PA m (i 0) (ix5 d (i 1) (i 2) (i 3) (i 4))
def RS (d : Dev nD) : Vec F S4x8x4x64x2 .f32 := fun i => PS m (i 0) (ix5 d (i 1) (i 2) (i 3) (i 4))
/-- Their halves of the heads, and of the output weights. -/
def hf (h : Fin 2) (a : Fin 4) : Fin 8 := ⟨4 * h.val + a.val, by omega⟩
def rbh (d : Dev nD) (h : Fin 2) : Vec F S4x4x4x64x128 .bf16 := fun y => RB m d (ix5 (y 0) (hf h (y 1)) (y 2) (y 3) (y 4))
def rsh (d : Dev nD) (h : Fin 2) : Vec F S4x4x4x64x2 .f32 := fun y => RS m d (ix5 (y 0) (hf h (y 1)) (y 2) (y 3) (y 4))
def woh (d : Dev nD) (h : Fin 2) : Vec F S512x1024 .f32 := fun y =>
  ostg m d (ix2 (⟨512 * h.val + (y 0).val, by have := h.isLt; have := idx2_lt0 y; omega⟩ : Fin 1024) (y 1))
/-- Device `d`'s result. -/
def out (d : Dev nD) : Vec F S256x1024 .f32 :=
  k0_pay82 (k0_pay81 (rbh m d 0) (rsh m d 0) (woh m d 0)) (rbh m d 1) (rsh m d 1) (woh m d 1)

/-! ## The memrefs -/

abbrev xM : Memref sig .tc .vmem S256x1024 .f32 := Memref.whole cc0_stg0_0
abbrev wM : Memref sig .tc .vmem S1024x1024 .f32 := Memref.whole cc0_stg1_0
abbrev oM : Memref sig .tc .vmem S1024x1024 .f32 := Memref.whole cc0_stg2_0
abbrev rM : Memref sig .tc .vmem S256x1024 .f32 := Memref.whole cc0_stg3_0
abbrev kM : Memref sig .tc .hbm S16x4x64x8x128 .f32 := Memref.whole main_arg2
abbrev vM : Memref sig .tc .hbm S16x4x64x8x128 .f32 := Memref.whole main_arg3
abbrev xbM : Memref sig .tc .vmem S256x1024 .bf16 := Memref.whole cc0_scratch0
abbrev xgM : Memref sig .tc .vmem S4x256x1024 .bf16 := Memref.whole cc0_scratch1
abbrev qM : Memref sig .tc .vmem S8x4x256x128 .f32 := Memref.whole cc0_scratch2
abbrev ksM : Memref sig .tc .vmem S3x16x4x64x128 .f32 := Memref.whole cc0_scratch3
abbrev vsM : Memref sig .tc .vmem S3x16x4x64x128 .f32 := Memref.whole cc0_scratch4
abbrev paM : Memref sig .tc .vmem S4x8x4x64x128 .bf16 := Memref.whole cc0_scratch5
abbrev psM : Memref sig .tc .vmem S4x8x4x64x2 .f32 := Memref.whole cc0_scratch6
abbrev rbM : Memref sig .tc .vmem S4x8x4x64x128 .bf16 := Memref.whole cc0_scratch7
abbrev rsM : Memref sig .tc .vmem S4x8x4x64x2 .f32 := Memref.whole cc0_scratch8

/-- The credits of the three kinds of transfer between devices, and of a copy of a head. -/
abbrev NX : ℕ := RefSig.tileCredit S256x1024 .bf16
abbrev NA : ℕ := RefSig.tileCredit S4x4x64x128 .bf16
abbrev NS : ℕ := RefSig.tileCredit S4x4x64x2 .f32
abbrev NH : ℕ := RefSig.tileCredit S16x4x64x128 .f32

/-! ## The elements the pieces name -/

section Emb
variable {sp : Space} {e : EltTy}

theorem emb_slab (M : Memref sig .tc sp S4x256x1024 e) (s : Fin 4) {off : Fin 3 → ℕ} (hoff : off = ![s.val, 0, 0]) (inb hr hq)
    (y : S256x1024.Idx) :
    ((M.slice (Rect.unit (s := S4x256x1024) off S1x256x1024.size inb) hr).squeeze S256x1024 hq).view.emb y = M.view.emb (ix3 s (y 0) (y 1)) := by
  subst hoff
  refine (emb_drop (d := ![256, 1024]) (D := ![4, 256, 1024]) M _ inb hr hq y).trans (congrArg _ (funext fun a => Fin.ext ?_))
  refine (Rect.emb_apply _ _ _).trans ?_; fin_cases a
  · show s.val + 1 * 0 = s.val; omega
  · show 0 + 1 * (y 0).val = (y 0).val; omega
  · show 0 + 1 * (y 1).val = (y 1).val; omega

theorem emb_pc5 (M : Memref sig .tc sp S4x8x4x64x128 e) (s : Fin 4) (h : Fin 2) {off : Fin 5 → ℕ} (hoff : off = ![s.val, 4 * h.val, 0, 0, 0]) (inb hr hq)
    (y : S4x4x64x128.Idx) :
    ((M.slice (Rect.unit (s := S4x8x4x64x128) off S1x4x4x64x128.size inb) hr).squeeze S4x4x64x128 hq).view.emb y
      = M.view.emb (ix5 s (hf h (y 0)) (y 1) (y 2) (y 3)) := by
  subst hoff
  refine (emb_drop (d := ![4, 4, 64, 128]) (D := ![4, 8, 4, 64, 128]) M _ inb hr hq y).trans (congrArg _ (funext fun a => Fin.ext ?_))
  refine (Rect.emb_apply _ _ _).trans ?_; fin_cases a
  · show s.val + 1 * 0 = s.val; omega
  · show 4 * h.val + 1 * (y 0).val = 4 * h.val + (y 0).val; omega
  · show 0 + 1 * (y 1).val = (y 1).val; omega
  · show 0 + 1 * (y 2).val = (y 2).val; omega
  · show 0 + 1 * (y 3).val = (y 3).val; omega

theorem emb_pcs (M : Memref sig .tc sp S4x8x4x64x2 e) (s : Fin 4) (h : Fin 2) {off : Fin 5 → ℕ} (hoff : off = ![s.val, 0, 0, 0, 0])
    {off' : Fin 4 → ℕ} (hoff' : off' = ![4 * h.val, 0, 0, 0]) (inb hr hq inb' hr')
    (y : S4x4x64x2.Idx) :
    (((M.slice (Rect.unit (s := S4x8x4x64x2) off S1x8x4x64x2.size inb) hr).squeeze S8x4x64x2 hq).slice
        (Rect.unit (s := S8x4x64x2) off' S4x4x64x2.size inb') hr').view.emb y
      = M.view.emb (ix5 s (hf h (y 0)) (y 1) (y 2) (y 3)) := by
  subst hoff hoff'
  refine (emb_drop (d := ![8, 4, 64, 2]) (D := ![4, 8, 4, 64, 2]) M _ inb hr hq
    ((Rect.unit (s := S8x4x64x2) ![4 * h.val, 0, 0, 0] S4x4x64x2.size inb').emb y)).trans (congrArg _ (funext fun a => Fin.ext ?_))
  refine (Rect.emb_apply _ _ _).trans ?_; fin_cases a
  · show s.val + 1 * 0 = s.val; omega
  · show 0 + 1 * (4 * h.val + 1 * (y 0).val) = 4 * h.val + (y 0).val; omega
  · show 0 + 1 * (0 + 1 * (y 1).val) = (y 1).val; omega
  · show 0 + 1 * (0 + 1 * (y 2).val) = (y 2).val; omega
  · show 0 + 1 * (0 + 1 * (y 3).val) = (y 3).val; omega

theorem emb_slot (M : Memref sig .tc sp S3x16x4x64x128 e) (s : Fin 3) {off : Fin 5 → ℕ} (hoff : off = ![s.val, 0, 0, 0, 0]) (inb hr hq)
    (y : S16x4x64x128.Idx) :
    ((M.slice (Rect.unit (s := S3x16x4x64x128) off S1x16x4x64x128.size inb) hr).squeeze S16x4x64x128 hq).view.emb y
      = M.view.emb (ix5 s (y 0) (y 1) (y 2) (y 3)) := by
  subst hoff
  refine (emb_drop (d := ![16, 4, 64, 128]) (D := ![3, 16, 4, 64, 128]) M _ inb hr hq y).trans (congrArg _ (funext fun a => Fin.ext ?_))
  refine (Rect.emb_apply _ _ _).trans ?_; fin_cases a
  · show s.val + 1 * 0 = s.val; omega
  · show 0 + 1 * (y 0).val = (y 0).val; omega
  · show 0 + 1 * (y 1).val = (y 1).val; omega
  · show 0 + 1 * (y 2).val = (y 2).val; omega
  · show 0 + 1 * (y 3).val = (y 3).val; omega

theorem emb_head (M : Memref sig .tc sp S16x4x64x8x128 e) (h : Fin 8) {off : Fin 5 → ℕ} (hoff : off = ![0, 0, 0, h.val, 0]) (inb hr)
    (hq : S16x4x64x1x128.Squeezes S16x4x64x128) (y : S16x4x64x128.Idx) :
    ((M.slice (Rect.unit (s := S16x4x64x8x128) off S16x4x64x1x128.size inb) hr).squeeze S16x4x64x128 hq).view.emb y
      = M.view.emb (ix5 (y 0) (y 1) (y 2) h (y 3)) := by
  subst hoff
  have hy : Shape.reshapeEquiv hq.numel_eq y = ix5 (n0 := 16) (n1 := 4) (n2 := 64) (n3 := 1) (n4 := 128) (y 0) (y 1) (y 2) (0 : Fin 1) (y 3) :=
    Shape.reshapeEquiv_eq_of_rowMajor hq.numel_eq (by
      refine (Shape.rowMajor_val_five _).trans (Eq.trans ?_ (Shape.rowMajor_val_four _).symm)
      show (((((y 0).val * 4 + (y 1).val) * 64 + (y 2).val) * 1 + 0) * 128 + (y 3).val) = (((y 0).val * 4 + (y 1).val) * 64 + (y 2).val) * 128 + (y 3).val
      omega)
  show M.view.emb ((Rect.unit (s := S16x4x64x8x128) _ S16x4x64x1x128.size inb).emb (Shape.reshapeEquiv hq.numel_eq y)) = _
  rw [hy]
  refine congrArg _ (funext fun a => Fin.ext ?_)
  refine (Rect.emb_apply _ _ _).trans ?_; fin_cases a
  · show 0 + 1 * (y 0).val = (y 0).val; omega
  · show 0 + 1 * (y 1).val = (y 1).val; omega
  · show 0 + 1 * (y 2).val = (y 2).val; omega
  · show h.val + 1 * 0 = h.val; omega
  · show 0 + 1 * (y 3).val = (y 3).val; omega

end Emb

/-! ## Their sets -/

theorem mem_view_set {κ : Kind} {sp : Space} {s : Shape} {e : EltTy} (v : View sig κ sp s e) (i : v.ty.Idx) : Iff (i ∈ v.set) (∃ y, v.emb y = i) := by
  unfold View.set; simp only [Finset.mem_map, Finset.mem_univ, true_and]

theorem set_slab (s : Fin 4) {off : Fin 3 → ℕ} (hoff : off = ![s.val, 0, 0]) (inb hr hq) :
    ((xgM.slice (Rect.unit (s := S4x256x1024) off S1x256x1024.size inb) hr).squeeze S256x1024 hq).view.set = slab s := by
  refine Finset.ext fun i => (mem_view_set _ i).trans ?_; change S4x256x1024.Idx at i
  unfold slab; rw [Finset.mem_filter]
  constructor
  · rintro ⟨y, hy⟩; rw [emb_slab xgM s hoff] at hy; rw [← hy]; exact ⟨Finset.mem_univ _, rfl⟩
  · rintro ⟨-, hi⟩
    refine ⟨ix2 (i 1) (i 2), (emb_slab xgM s hoff inb hr hq _).trans ?_⟩
    exact funext fun a => Fin.ext (by fin_cases a <;> first | exact hi.symm | rfl)

section
variable (b : Ref sig .tc)

theorem set_pa (s : Fin 4) (h : Fin 2) {off : Fin 5 → ℕ} (hoff : off = ![s.val, 4 * h.val, 0, 0, 0]) (inb hr hq) :
    ((paM.slice (Rect.unit (s := S4x8x4x64x128) off S1x4x4x64x128.size inb) hr).squeeze S4x4x64x128 hq).view.set = pcA h s := by
  refine Finset.ext fun i => (mem_view_set _ i).trans ?_; change S4x8x4x64x128.Idx at i
  unfold pcA; rw [Finset.mem_filter]
  constructor
  · rintro ⟨y, hy⟩; rw [emb_pc5 paM s h hoff] at hy; rw [← hy]
    exact ⟨Finset.mem_univ _, rfl, by show (4 * h.val + (y 0).val) / 4 = h.val; have : (y 0).val < 4 := (y 0).isLt; omega⟩
  · rintro ⟨-, hi, hi'⟩
    refine ⟨ix4 (⟨(i 1).val % 4, Nat.mod_lt _ (by decide)⟩ : Fin 4) (i 2) (i 3) (i 4), (emb_pc5 paM s h hoff inb hr hq _).trans ?_⟩
    exact funext fun a => Fin.ext (by
      fin_cases a
      · exact hi.symm
      · show 4 * h.val + (i 1).val % 4 = (i 1).val; omega
      all_goals rfl)

theorem set_rb (s : Fin 4) (h : Fin 2) {off : Fin 5 → ℕ} (hoff : off = ![s.val, 4 * h.val, 0, 0, 0]) (inb hr hq) :
    ((rbM.slice (Rect.unit (s := S4x8x4x64x128) off S1x4x4x64x128.size inb) hr).squeeze S4x4x64x128 hq).view.set = pcA h s :=
  (set_pa s h hoff inb hr hq : _)

theorem set_ps (s : Fin 4) (h : Fin 2) {off : Fin 5 → ℕ} (hoff : off = ![s.val, 0, 0, 0, 0])
    {off' : Fin 4 → ℕ} (hoff' : off' = ![4 * h.val, 0, 0, 0]) (inb hr hq inb' hr') :
    (((psM.slice (Rect.unit (s := S4x8x4x64x2) off S1x8x4x64x2.size inb) hr).squeeze S8x4x64x2 hq).slice
        (Rect.unit (s := S8x4x64x2) off' S4x4x64x2.size inb') hr').view.set = pcS h s := by
  refine Finset.ext fun i => (mem_view_set _ i).trans ?_; change S4x8x4x64x2.Idx at i
  unfold pcS; rw [Finset.mem_filter]
  constructor
  · rintro ⟨y, hy⟩; rw [emb_pcs psM s h hoff hoff'] at hy; rw [← hy]
    exact ⟨Finset.mem_univ _, rfl, by show (4 * h.val + (y 0).val) / 4 = h.val; have : (y 0).val < 4 := (y 0).isLt; omega⟩
  · rintro ⟨-, hi, hi'⟩
    refine ⟨ix4 (⟨(i 1).val % 4, Nat.mod_lt _ (by decide)⟩ : Fin 4) (i 2) (i 3) (i 4), (emb_pcs psM s h hoff hoff' inb hr hq inb' hr' _).trans ?_⟩
    exact funext fun a => Fin.ext (by
      fin_cases a
      · exact hi.symm
      · show 4 * h.val + (i 1).val % 4 = (i 1).val; omega
      all_goals rfl)

theorem set_rs (s : Fin 4) (h : Fin 2) {off : Fin 5 → ℕ} (hoff : off = ![s.val, 0, 0, 0, 0])
    {off' : Fin 4 → ℕ} (hoff' : off' = ![4 * h.val, 0, 0, 0]) (inb hr hq inb' hr') :
    (((rsM.slice (Rect.unit (s := S4x8x4x64x2) off S1x8x4x64x2.size inb) hr).squeeze S8x4x64x2 hq).slice
        (Rect.unit (s := S8x4x64x2) off' S4x4x64x2.size inb') hr').view.set = pcS h s :=
  (set_ps s h hoff hoff' inb hr hq inb' hr' : _)

theorem set_kslot (s : Fin 3) {off : Fin 5 → ℕ} (hoff : off = ![s.val, 0, 0, 0, 0]) (inb hr hq) :
    ((ksM.slice (Rect.unit (s := S3x16x4x64x128) off S1x16x4x64x128.size inb) hr).squeeze S16x4x64x128 hq).view.set = slot s := by
  refine Finset.ext fun i => (mem_view_set _ i).trans ?_; change S3x16x4x64x128.Idx at i
  unfold slot; rw [Finset.mem_filter]
  constructor
  · rintro ⟨y, hy⟩; rw [emb_slot ksM s hoff] at hy; rw [← hy]; exact ⟨Finset.mem_univ _, rfl⟩
  · rintro ⟨-, hi⟩
    refine ⟨ix4 (i 1) (i 2) (i 3) (i 4), (emb_slot ksM s hoff inb hr hq _).trans ?_⟩
    exact funext fun a => Fin.ext (by fin_cases a <;> first | exact hi.symm | rfl)

theorem set_vslot (s : Fin 3) {off : Fin 5 → ℕ} (hoff : off = ![s.val, 0, 0, 0, 0]) (inb hr hq) :
    ((vsM.slice (Rect.unit (s := S3x16x4x64x128) off S1x16x4x64x128.size inb) hr).squeeze S16x4x64x128 hq).view.set = slot s :=
  (set_kslot s hoff inb hr hq : _)

theorem set_khead (h : Fin 8) {off : Fin 5 → ℕ} (hoff : off = ![0, 0, 0, h.val, 0]) (inb hr hq) :
    ((kM.slice (Rect.unit (s := S16x4x64x8x128) off S16x4x64x1x128.size inb) hr).squeeze S16x4x64x128 hq).view.set = headOf h := by
  refine Finset.ext fun i => (mem_view_set _ i).trans ?_; change S16x4x64x8x128.Idx at i
  unfold headOf; rw [Finset.mem_filter]
  constructor
  · rintro ⟨y, hy⟩; rw [emb_head kM h hoff] at hy; rw [← hy]; exact ⟨Finset.mem_univ _, rfl⟩
  · rintro ⟨-, hi⟩
    refine ⟨ix4 (i 0) (i 1) (i 2) (i 4), (emb_head kM h hoff inb hr hq _).trans ?_⟩
    exact funext fun a => Fin.ext (by fin_cases a <;> first | exact hi.symm | rfl)

theorem set_vhead (h : Fin 8) {off : Fin 5 → ℕ} (hoff : off = ![0, 0, 0, h.val, 0]) (inb hr hq) :
    ((vM.slice (Rect.unit (s := S16x4x64x8x128) off S16x4x64x1x128.size inb) hr).squeeze S16x4x64x128 hq).view.set = headOf h :=
  (set_khead h hoff inb hr hq : _)

end

/-! ## What a transfer leaves -/

/-- A transfer into a view whose element under `y` is to be `g`'s leaves `g` on the view's elements. -/
theorem moved {Val : EltTy → Type} {κ κ' : Kind} {sp sp' : Space} {s : Shape} {e : EltTy} (v : View sig κ sp s e) (u : View sig κ' sp' s e)
    (fd g : v.ty.Contents Val) (fs : u.ty.Contents Val)
    (h : ∀ y, g (v.emb y) = _root_.cast (congrArg Val v.elt_eq.symm) (u.read Val fs y)) :
    ∀ i ∈ v.set, v.write Val fd (u.read Val fs) Finset.univ i = g i := by
  intro i hi
  obtain ⟨y, rfl⟩ := (mem_view_set v i).mp hi
  rw [View.write_emb_of_mem _ _ (Finset.mem_univ y), h y]

end Cert.Attn

end
-- ==== Proof.Schedule.lean ====
/-
The schedule the devices meet by: which payments each meeting point expects, what each hands over, in which order a
device pays, and the levels under which its waits are admissible.
-/
module

public import proofs.«01_k».proof.Proof.Contents

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_split pointsTo_toks_join)

variable {F : FTy → Type} [FloatOps F]

/-! ## The resource algebra: the pipeline's, the meeting points', the local copies' -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

variable (m : (ℓ : Loc nD τ sig) → Buf (Elt F) ℓ)

/-! ## What a payment hands over -/

/-- Elements `S` of device `c`'s buffer `b`, at share `q`, holding `f`. -/
abbrev pts (c : Dev nD) (b : Ref sig .tc) (S : Finset b.ty.shape.Idx) (q : PosShare TreeShare) (f : b.ty.Contents (Elt F)) : sProp 𝕄 :=
  ((c : Thread nD τ).loc b) ↦[S]{q} f
/-- The same, holding anything. -/
abbrev any (c : Dev nD) (b : Ref sig .tc) (S : Finset b.ty.shape.Idx) : sProp 𝕄 := iprop(∃ f, pts c b S fullShare f)

/-- What device `s` opens to device `c` by its barrier signal: the elements of its landing buffers `c` fills. -/
def gift (s c : Dev nD) : sProp 𝕄 :=
  iprop(any (F := F) s cc0_scratch1 (slab c) ∗ any (F := F) s cc0_scratch7 (pcA 0 c) ∗ any (F := F) s cc0_scratch7 (pcA 1 c)
    ∗ any (F := F) s cc0_scratch8 (pcS 0 c) ∗ any (F := F) s cc0_scratch8 (pcS 1 c))

/-- What the payment named `d` at device `c`'s meeting point `k` hands `c`. -/
def pay (c : Dev nD) (k : Ck) (d : Fin 4) : sProp 𝕄 := match k with
  | .bar => gift (F := F) d c
  | .xs j => pts c cc0_scratch0 Finset.univ (shareTokN fullShare j.val) (xb m c)
  | .xr s => pts c cc0_scratch1 (slab s) fullShare (XG m)
  | .pa h j => pts c cc0_scratch5 (pcA h (pr c j)) fullShare (PA m c)
  | .ra h s => pts c cc0_scratch7 (pcA h s) fullShare (RB m c)
  | .ps h j => pts c cc0_scratch6 (pcS h (pr c j)) fullShare (PS m c)
  | .rs h s => pts c cc0_scratch8 (pcS h s) fullShare (RS m c)
  | .fin => iprop(emp)

instance pay_storable (c : Dev nD) (k : Ck) (d : Fin 4) : BI.Storable (upEmb : UEmb _ 𝕄) (pay m c k d) := by
  cases k <;> unfold pay <;> first | infer_instance | (unfold gift; infer_instance)

/-- The payments expected, named: at the barrier and at the close one of each peer's, elsewhere one, none where a
    device would receive from itself. -/
def dutiesOf (c : Dev nD) (k : Ck) : Finset (Fin 4) := match k with
  | .bar | .fin => Finset.univ.erase c
  | .xs _ | .pa _ _ | .ps _ _ => {0}
  | .xr s | .ra _ s | .rs _ s => if s = c then ∅ else {0}

/-- The units of one payment. -/
def amt : Ck → ℕ
  | .bar | .fin => 1
  | .xs _ | .xr _ => NX
  | .pa _ _ | .ra _ _ => NA
  | .ps _ _ | .rs _ _ => NS

theorem amt_pos (k : Ck) : 0 < amt k := by
  cases k with
  | bar => exact Nat.one_pos
  | fin => exact Nat.one_pos
  | xs j => exact RefSig.tileCredit_pos _ _ (by decide)
  | xr s => exact RefSig.tileCredit_pos _ _ (by decide)
  | pa h j => exact RefSig.tileCredit_pos _ _ (by decide)
  | ra h s => exact RefSig.tileCredit_pos _ _ (by decide)
  | ps h j => exact RefSig.tileCredit_pos _ _ (by decide)
  | rs h s => exact RefSig.tileCredit_pos _ _ (by decide)

/-- One round at every meeting point. -/
def Rd : Rounds.Schedule (GSem nD τ sig) (Fin 4) 𝕄 where
  duties g r := if r = 0 ∧ g.1.2 = .tc then (match ckOf g.2 with | some k => dutiesOf g.1.1 k | none => ∅) else ∅
  unitless _ := False
  amount g _ _ := match ckOf g.2 with | some k => amt k | none => 1
  payload g _ d := match ckOf g.2 with | some k => pay m g.1.1 k d | none => iprop(emp)
  amount_pos g _ _ _ := by
    cases ckOf g.2 with
    | none => exact Nat.one_pos
    | some k => exact amt_pos k

instance Rd_payload_storable (g : GSem nD τ sig) (r : ℕ) (d : Fin 4) :
    BI.Storable (upEmb : UEmb _ 𝕄) ((Rd (F := F) m).payload g r d) := by
  show BI.Storable upEmb (match ckOf g.2 with | some k => pay m g.1.1 k d | none => iprop(emp))
  cases ckOf g.2 <;> infer_instance

section Tables
variable (c : Dev nD) (k : Ck)

theorem Rd_duties : (Rd (F := F) m).duties (cell c k) 0 = dutiesOf c k := by
  dsimp only [Rd]; rw [if_pos ⟨rfl, rfl⟩, ckOf_csem]
theorem Rd_later (g : GSem nD τ sig) : ∀ r, 1 ≤ r → (Rd (F := F) m).duties g r = ∅ :=
  fun r hr => by dsimp only [Rd]; rw [if_neg fun h => by omega]
theorem Rd_amount (d : Fin 4) : (Rd (F := F) m).amount (cell c k) 0 d = amt k := by dsimp only [Rd]; rw [ckOf_csem]
theorem Rd_payload (d : Fin 4) : (Rd (F := F) m).payload (cell c k) 0 d = pay m c k d := by dsimp only [Rd]; rw [ckOf_csem]
theorem Rd_expect : (Rd (F := F) m).expect (cell c k) 0 = (dutiesOf c k).card * amt k := by
  unfold Schedule.expect Schedule.amountOf
  rw [Rd_duties, Finset.sum_congr rfl fun d _ => Rd_amount m c k d, Finset.sum_const, smul_eq_mul]
theorem Rd_rest : bigSep ((Rd (F := F) m).duties (cell c k) 0 \ ∅) (fun d => (Rd (F := F) m).payload (cell c k) 0 d)
    = bigSep (dutiesOf c k) (pay m c k) := by
  rw [Finset.sdiff_empty, Rd_duties]
  exact bigSep_congr fun d _ => Rd_payload m c k d

end Tables

/-- The units a meeting point expects in all. -/
def total (c : Dev nD) (k : Ck) : ℕ := (dutiesOf c k).card * amt k

/-! ## Levels and debts -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier, then the gathered rows, then the gathered sums, then the close; whatever a device waits for of its own is
    below all of them. -/
def lvCk : Ck → ℕ
  | .bar => 1 | .xr _ => 2 | .ra _ _ => 3 | .rs _ _ => 3 | .fin => 4 | .xs _ => 0 | .pa _ _ => 0 | .ps _ _ => 0
def lvS (sm : SemLoc sig) : ℕ := match ckOf sm with | some k => lvCk k | none => 0
def lv (g : GSem nD τ sig) (_ : Unit) : ℕ := lvS g.2

theorem lvS_csem (k : Ck) : lvS (csem k) = lvCk k := by unfold lvS; rw [ckOf_csem]

/-- What is owed to a list of meeting points, the first of the list paid first. -/
def owe : List (Dev nD × Ck) → CellTallies nD τ sig Unit
  | [] => 0
  | p :: l => owe l + tallyAt (cell p.1 p.2) () (amt p.2)

/-- A device's payments to its peers, in the order it makes them. -/
def debts (c : Dev nD) : List (Dev nD × Ck) :=
  [(pr c 0, .bar), (pr c 1, .bar), (pr c 2, .bar),
   (pr c 0, .xr c), (pr c 1, .xr c), (pr c 2, .xr c),
   (pr c 0, .ra 0 c), (pr c 0, .rs 0 c), (pr c 1, .ra 0 c), (pr c 1, .rs 0 c), (pr c 2, .ra 0 c), (pr c 2, .rs 0 c),
   (pr c 0, .ra 1 c), (pr c 0, .rs 1 c), (pr c 1, .ra 1 c), (pr c 1, .rs 1 c), (pr c 2, .ra 1 c), (pr c 2, .rs 1 c),
   (pr c 0, .fin), (pr c 1, .fin), (pr c 2, .fin)]

/-- Device `c`, its first `n` payments made. -/
def Ow (c : Dev nD) (n : ℕ) : sProp 𝕄 := iprop(∃ W, owes (c : Thread nD τ) (owe ((debts c).drop n)) W)

theorem owe_pos {l : List (Dev nD × Ck)} {g : GSem nD τ sig} {u : Unit} (h : 0 < owe l g u) : ∃ p ∈ l, g = cell p.1 p.2 := by
  induction l with
  | nil => exact absurd h (Nat.lt_irrefl 0)
  | cons p l ih =>
    unfold owe at h
    rw [Pi.add_apply, Finsupp.add_apply, tallyAt_apply] at h
    by_cases hg : g = cell p.1 p.2 ∧ u = ()
    · exact ⟨p, List.mem_cons_self, hg.1⟩
    · rw [if_neg hg, Nat.add_zero] at h
      obtain ⟨q, hq, e⟩ := ih h
      exact ⟨q, List.mem_cons_of_mem _ hq, e⟩

/-- A device may wait at a semaphore below every meeting point it still owes. -/
theorem mayWait_list (c : Dev nD) (sm : SemLoc sig) (l : List (Dev nD × Ck)) (h : ∀ p ∈ l, lvS sm < lvCk p.2) :
    (levAts L lv : sProp 𝕄) ⊢ MayWait (c : Thread nD τ) sm () (owe l) :=
  MayOwe.of_cut (L := L) (lev := lv) (lvS sm) (fun p hp => by rw [Finset.mem_singleton.mp hp, L_tc]; exact Finset.mem_singleton_self _)
    (fun g u hg => by obtain ⟨p, hp, rfl⟩ := owe_pos hg; exact Finset.mem_singleton_self _)
    (fun p hp => by rw [Finset.mem_singleton.mp hp]; exact le_rfl)
    (fun g u hg => by
      obtain ⟨p, hp, rfl⟩ := owe_pos hg
      show lvS sm < lvS (csem p.2)
      rw [lvS_csem]; exact h p hp)

/-- The payments a device has still to make, from the `n`th, are all at level `v` or above. -/
def above (n v : ℕ) : Prop := ∀ c : Dev nD, ∀ p ∈ (debts c).drop n, v < lvCk p.2
instance (n v : ℕ) : Decidable (above n v) := by unfold above; infer_instance
theorem above_3 : above 3 1 := by decide
theorem above_6 : above 6 2 := by decide
theorem above_18 : above 18 3 := by decide
theorem above_0 : above 0 0 := by decide

/-! ## What every device knows -/

/-- Every meeting point's invariant, its first round reached. -/
def records (K : Dev nD × Ck → ℕ) : sProp 𝕄 :=
  iprop((bigSep Finset.univ fun ck : Dev nD × Ck => cellInv ER (Rd m) (K ck) (cell ck.1 ck.2))
    ∗ bigSep Finset.univ fun ck : Dev nD × Ck => reached ER (cell ck.1 ck.2) 0)
instance records_persistent (K : Dev nD × Ck → ℕ) : BI.Persistent (records m K) := by unfold records; infer_instance

def Ctx : sProp 𝕄 := iprop((∃ K, records m K) ∗ levAts L lv)
instance Ctx_persistent : BI.Persistent (Ctx (F := F) m) := by unfold Ctx; infer_instance

theorem inv_at (K : Dev nD × Ck → ℕ) (ck : Dev nD × Ck) :
    (bigSep Finset.univ fun ck : Dev nD × Ck => (cellInv ER (Rd m) (K ck) (cell ck.1 ck.2) : sProp 𝕄)) ⊢ cellInv ER (Rd m) (K ck) (cell ck.1 ck.2) :=
  bigSep_elim (Finset.mem_univ ck)
theorem reached_at (ck : Dev nD × Ck) :
    (bigSep Finset.univ fun ck : Dev nD × Ck => (reached ER (cell ck.1 ck.2) 0 : sProp 𝕄)) ⊢ reached ER (cell ck.1 ck.2) 0 :=
  bigSep_elim (Finset.mem_univ ck)

theorem Ctx_inv (c : Dev nD) (k : Ck) : Ctx (F := F) m ⊢ iprop(∃ κ, cellInv ER (Rd m) κ (cell c k)) := by
  unfold Ctx records
  iintro ⟨⟨%K, #HI, -⟩, -⟩
  iexists K (c, k)
  iapply (inv_at m K (c, k)); iexact HI
theorem Ctx_reached (c : Dev nD) (k : Ck) : Ctx (F := F) m ⊢ reached ER (cell c k) 0 := by
  unfold Ctx records
  iintro ⟨⟨%K, -, #HR⟩, -⟩
  iapply (reached_at (F := F) (c, k)); iexact HR
theorem Ctx_lev : Ctx (F := F) m ⊢ levAts L lv := by
  unfold Ctx
  iintro ⟨-, #H⟩; iexact H

end Cert.Attn

end
-- ==== Proof.Actions.lean ====
/-
What each kind of step does to a device's state: a signal, a wait, a transfer to a peer, a copy in place.
-/
module

public import proofs.«01_k».proof.Proof.Schedule

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_split pointsTo_toks_join Flight Flight_mono)

variable {F : FTy → Type} [FloatOps F]

local notation "𝕄" => MT nD τ sig Unit (Elt F) ℕ UU ℕ

variable (m : (ℓ : Loc nD τ sig) → Buf (Elt F) ℓ)

/-- A program of device `c`, run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A payment of device `c` to device `d`'s meeting point `k`, named `x`, not yet made. -/
abbrev tok (d : Dev nD) (k : Ck) (x : Fin 4) : sProp 𝕄 := dutyTok ER (cell d k) 0 x
/-- Device `c`'s place at its meeting point `k`. -/
abbrev at_ (c : Dev nD) (k : Ck) (r : ℕ) : sProp 𝕄 := atPos ER (cell c k) r ∅ 0
/-- Credit for `n` units at `c`'s meeting point `k`. -/
abbrev due (c : Dev nD) (k : Ck) (n : ℕ) : sProp 𝕄 := cred (tallyAt (cell c k) () n)

variable {α : Type} {kt : PUnit → Prog (TpuEff nD τ sig (Elt F) Λ₀ .tc) α}

/-! ## Signals -/

/-- A signal to a peer's meeting point pays what it was to hand over there. -/
theorem act_signal {Q : α → sProp 𝕄} (c n d : Dev nD) (k : Ck) (i : ℕ) (hn : n = d) {sem : Sem sig} (hs : SemLoc.reg sem = csem k)
    (hd : c ∈ dutiesOf d k) (hdebt : (debts c).drop i = (d, k) :: (debts c).drop (i + 1)) {u : ℕ} (hk : amt k = u) :
    iprop(Ctx m ∗ Ow c i ∗ tok d k c ∗ pay m d k c)
      ⊢ iprop((Ow c (i + 1) -∗ WP c (kt ⟨⟩) Q) -∗ WP c (.op (.semSignal (Dev.tc n : Thread nD τ) sem u) kt) Q) := by
  subst hn
  have hc : cell n k = ((n : Thread nD τ), SemLoc.reg sem) := by unfold cell; rw [hs]
  unfold Ow
  rw [hdebt]
  iintro ⟨#HC, ⟨%W, HO⟩, Ht, Hp⟩
  ihave #HI := (Ctx_inv m n k) $$ HC
  icases HI with ⟨%κ, #HI⟩
  ihave #HR := (Ctx_reached m n k) $$ HC
  iintro Hk
  iapply (Rounds.wp_signal 𝒱₀ ER (Rd m) (c : Thread nD τ) none (dst := (n : Thread nD τ)) (κ := κ) (d := c)
      (by rw [← hc, Rd_duties]; exact hd) (by rw [← hc, Rd_amount]; exact hk) () (owe ((debts c).drop (i + 1)))
      (by rw [← hc, ← hk])) $$ [HO Ht Hp]
  · isplitr; · rw [← hc]; iexact HI
    isplitl [HO]; · iexact HO
    isplitl [Ht]; · rw [← hc]; iexact Ht
    isplitl [Hp]; · rw [← hc, Rd_payload]; iexact Hp
    rw [← hc]; iexact HR
  iintro HO
  iapply Hk; iexists W; iexact HO

/-! ## Waits at meeting points -/

theorem may_wait (c : Dev nD) (sm : SemLoc sig) (i v : ℕ) (hv : above i v) (hl : lvS sm ≤ v) :
    Ctx (F := F) m ⊢ MayWait (c : Thread nD τ) sm () (owe ((debts c).drop i)) :=
  (Ctx_lev m).trans (mayWait_list c sm _ fun p hp => lt_of_le_of_lt hl (hv c p hp))

/-- A wait for all that a meeting point expects, by a counter of signals; -/
theorem act_wait_sem {Q : α → sProp 𝕄} (c : Dev nD) (k : Ck) (i v : ℕ) (hv : above i v) (hl : lvCk k ≤ v) {sem : Sem sig} (hs : SemLoc.reg sem = csem k)
    {u : ℕ} (hu : total c k = u) :
    iprop(Ctx m ∗ Ow c i ∗ due c k (total c k) ∗ at_ c k 0)
      ⊢ iprop(((Ow c i ∗ at_ c k 1 ∗ bigSep (dutiesOf c k) (pay m c k)) -∗ WP c (kt ⟨⟩) Q) -∗ WP c (.op (.semWait sem u) kt) Q) := by
  have hc : cell c k = ((c : Thread nD τ), SemLoc.reg sem) := by unfold cell; rw [hs]
  unfold Ow
  iintro ⟨#HC, ⟨%W, HO⟩, Hc, Ha⟩
  ihave #HI := (Ctx_inv m c k) $$ HC
  icases HI with ⟨%κ, #HI⟩
  iintro Hk
  iapply (Rounds.wp_wait_rest_token 𝒱₀ ER (Rd m) (c : Thread nD τ) none (κ := κ)
      (wpE_semWait_eq 𝒱₀ (c : Thread nD τ) none Set.univ) (Set.mem_univ _) () (O := owe ((debts c).drop i)) (W := W) (R := 0) (m := 0) (T := ∅)
      (by rw [← hc, Rd_expect, Nat.zero_add, ← hu]; rfl)) $$ [HO Hc Ha]
  · isplitr; · rw [← hc]; iexact HI
    isplitl [Hc]; · rw [← hc, ← hu]; iexact Hc
    isplitl [HO]; · iexact HO
    isplitr
    · iapply (may_wait m c (SemLoc.reg sem) i v hv (by rw [hs, lvS_csem]; exact hl)); iexact HC
    rw [← hc]; iexact Ha
  rw [← hc]
  iintro ⟨HO, Ha, -, Hp⟩
  ihave Hp := (Entails.of_eq (Rd_rest m c k)) $$ Hp
  iapply Hk
  isplitl [HO]; · iexists insert (SemLoc.reg sem, ()) W; iexact HO
  isplitl [Ha]; · iexact Ha
  iexact Hp

/-- and by a counter of transferred units. -/
theorem act_wait_dma {Q : α → sProp 𝕄} (c : Dev nD) (k : Ck) (i v : ℕ) (hv : above i v) (hl : lvCk k ≤ v) {sem : DmaSem sig} (hs : SemLoc.dma sem = csem k)
    {sp sp' : Space} {s s' : Shape} {e e' : EltTy} {src : Memref sig .tc sp s e} {dst : Memref sig .tc sp' s' e'}
    {hsrc : src.view.WordExact} {hdst : dst.view.WordExact} (hu : total c k = dst.view.dmaCredit) :
    iprop(Ctx m ∗ Ow c i ∗ due c k (total c k) ∗ at_ c k 0)
      ⊢ iprop(((Ow c i ∗ at_ c k 1 ∗ bigSep (dutiesOf c k) (pay m c k)) -∗ WP c (kt ⟨⟩) Q)
        -∗ WP c (.op (.waitDma2 sem src dst hsrc hdst) kt) Q) := by
  have hc : cell c k = ((c : Thread nD τ), SemLoc.dma sem) := by unfold cell; rw [hs]
  unfold Ow
  iintro ⟨#HC, ⟨%W, HO⟩, Hc, Ha⟩
  ihave #HI := (Ctx_inv m c k) $$ HC
  icases HI with ⟨%κ, #HI⟩
  iintro Hk
  iapply (Rounds.wp_wait_rest_token 𝒱₀ ER (Rd m) (c : Thread nD τ) none (κ := κ)
      (wpE_waitDma2_eq 𝒱₀ (c : Thread nD τ) none Set.univ) (Set.mem_univ _) () (O := owe ((debts c).drop i)) (W := W) (R := 0) (m := 0) (T := ∅)
      (by rw [← hc, Rd_expect, Nat.zero_add]; exact hu.symm)) $$ [HO Hc Ha]
  · isplitr; · rw [← hc]; iexact HI
    isplitl [Hc]; · rw [← hc, ← hu]; iexact Hc
    isplitl [HO]; · iexact HO
    isplitr
    · iapply (may_wait m c (SemLoc.dma sem) i v hv (by rw [hs, lvS_csem]; exact hl)); iexact HC
    rw [← hc]; iexact Ha
  rw [← hc]
  iintro ⟨HO, Ha, -, Hp⟩
  ihave Hp := (Entails.of_eq (Rd_rest m c k)) $$ Hp
  iapply Hk
  isplitl [HO]; · iexists insert (SemLoc.dma sem, ()) W; iexact HO
  isplitl [Ha]; · iexact Ha
  iexact Hp

/-- Where one payment is expected, what it hands over. -/
theorem pay_one (c : Dev nD) (k : Ck) (h : dutiesOf c k = {0}) : bigSep (dutiesOf c k) (pay m c k) = pay m c k 0 := by
  rw [h]; exact bigSep_singleton

/-! ## Transfers to a peer -/

/-- A transfer to a peer: its source comes back at the sender's meeting point, its destination, rewritten, at the
    receiver's. -/
theorem act_send {Q : α → sProp 𝕄} (c n d : Dev nD) (k₁ k₂ : Ck) (i : ℕ) (hn : n = d) {sS sem : DmaSem sig} (hsS : SemLoc.dma sS = csem k₁)
    (hsem : SemLoc.dma sem = csem k₂) (hd₁ : (0 : Fin 4) ∈ dutiesOf c k₁) (hd₂ : (0 : Fin 4) ∈ dutiesOf d k₂)
    (hdebt : (debts c).drop i = (d, k₂) :: (debts c).drop (i + 1))
    {s : Shape} {e : EltTy} {src : Memref sig .tc .vmem s e} {dst : Memref sig (Dev.tc n : Thread nD τ).2.kind .vmem s e}
    {hsc : dst.view.ref.isScScratch = false} {hsrc : src.view.WordExact} {hdst : dst.view.WordExact}
    {hty : DmaTarget.Typed .vmem (.dma sem) (.remote (Dev.tc n : Thread nD τ) dst (.dma sS) hsc)}
    (hN₁ : amt k₁ = dst.view.amount (.dma sem)) (hN₂ : amt k₂ = dst.view.amount (.dma sem)) {q : PosShare TreeShare}
    {fs : Buf (Elt F) (src.view.loc (c : Thread nD τ))} {fd : Buf (Elt F) (dst.view.loc (Dev.tc n : Thread nD τ))}
    (hp₁ : (src.view.loc (c : Thread nD τ) ↦[src.view.set]{q} fs) ⊢ pay m c k₁ 0)
    (hp₂ : (dst.view.loc (Dev.tc n : Thread nD τ) ↦[dst.view.set]{fullShare} (dst.view.write (Elt F) fd (src.view.read (Elt F) fs) Finset.univ)) ⊢ pay m d k₂ 0) :
    iprop(Ctx m ∗ Ow c i ∗ tok c k₁ 0 ∗ tok d k₂ 0 ∗ (src.view.loc (c : Thread nD τ) ↦[src.view.set]{q} fs)
        ∗ (dst.view.loc (Dev.tc n : Thread nD τ) ↦[dst.view.set]{fullShare} fd))
      ⊢ iprop(((Ow c (i + 1) ∗ due c k₁ (amt k₁)) -∗ WP c (kt ⟨⟩) Q)
        -∗ WP c (.op (.enqueueDma src (.remote (Dev.tc n : Thread nD τ) dst (.dma sS) hsc) (.dma sem) hsrc hdst hty) kt) Q) := by
  subst hn
  have hc₁ : cell c k₁ = ((c : Thread nD τ), SemLoc.dma sS) := by unfold cell; rw [hsS]
  have hc₂ : cell n k₂ = ((n : Thread nD τ), SemLoc.dma sem) := by unfold cell; rw [hsem]
  unfold Ow
  rw [hdebt]
  iintro ⟨#HC, ⟨%W, HO⟩, Ht₁, Ht₂, Hs, Hd⟩
  ihave #HI₁ := (Ctx_inv m c k₁) $$ HC
  icases HI₁ with ⟨%κ₁, #HI₁⟩
  ihave #HI₂ := (Ctx_inv m n k₂) $$ HC
  icases HI₂ with ⟨%κ₂, #HI₂⟩
  ihave #HR₁ := (Ctx_reached m c k₁) $$ HC
  ihave #HR₂ := (Ctx_reached m n k₂) $$ HC
  iintro Hk
  iapply (Rounds.wp_send_pointsTo 𝒱₀ ER (Rd m) (c : Thread nD τ) none (κ₁ := κ₁) (κ₂ := κ₂)
      (r₁ := 0) (r₂ := 0) (d₁ := 0) (d₂ := 0) (fd := fd)
      (by rw [← hc₁, Rd_duties]; exact hd₁) (by rw [← hc₂, Rd_duties]; exact hd₂)
      () () (dst.view.amount (.dma sem)) rfl (by rw [← hc₁, Rd_amount]; exact hN₁) (by rw [← hc₂, Rd_amount]; exact hN₂)
      (owe ((debts c).drop (i + 1))) (by rw [← hc₂, ← hN₂]) (W := W)
      (by rw [← hc₁, Rd_payload]; exact hp₁) (by rw [← hc₂, Rd_payload]; exact hp₂)) $$ [HO Ht₁ Ht₂ Hs Hd]
  · rw [← hc₁, ← hc₂]
    isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  rw [← hc₁, ← hN₁]
  iintro ⟨Hc, HO⟩
  iapply Hk
  isplitl [HO]; · iexists W; iexact HO
  iexact Hc

/-! ## The three transfers -/

theorem dutiesOf_peer (c : Dev nD) (j : Fin 3) :
    (0 : Fin 4) ∈ dutiesOf (pr c j) (.xr c) ∧ (∀ h, (0 : Fin 4) ∈ dutiesOf (pr c j) (.ra h c)) ∧ (∀ h, (0 : Fin 4) ∈ dutiesOf (pr c j) (.rs h c)) := by
  have hne : c ≠ pr c j := fun h => pr_ne c j h.symm
  have hz : (0 : Fin 4) ∈ (if c = pr c j then (∅ : Finset (Fin 4)) else {0}) := by rw [if_neg hne]; exact Finset.mem_singleton_self _
  exact ⟨hz, fun _ => hz, fun _ => hz⟩

/-- What the three leave in their destinations. -/
theorem movedX (c : Dev nD) {off : Fin 3 → ℕ} (hoff : off = ![c.val, 0, 0]) (inb hr hq) (fd : Vec F S4x256x1024 .bf16) :
    ∀ i ∈ ((xgM.slice (Rect.unit (s := S4x256x1024) off S1x256x1024.size inb) hr).squeeze S256x1024 hq).view.set,
      ((xgM.slice (Rect.unit (s := S4x256x1024) off S1x256x1024.size inb) hr).squeeze S256x1024 hq).view.write (Elt F) fd
        (xbM.view.read (Elt F) (xb m c)) Finset.univ i = XG m i :=
  moved (Val := Elt F) ((xgM.slice (Rect.unit (s := S4x256x1024) off S1x256x1024.size inb) hr).squeeze S256x1024 hq).view xbM.view fd (XG m) (xb m c)
    fun y => ((congrArg (XG m) (emb_slab xgM c hoff inb hr hq y)).trans (congrArg (xb m c) (eq_ix2 (n0 := 256) (n1 := 1024) y)).symm : _)

theorem movedA (c d : Dev nD) (h : Fin 2) {offS offD : Fin 5 → ℕ} (hoffS : offS = ![d.val, 4 * h.val, 0, 0, 0]) (hoffD : offD = ![c.val, 4 * h.val, 0, 0, 0])
    (inbS hrS hqS inbD hrD hqD) (fd : Vec F S4x8x4x64x128 .bf16) :
    ∀ i ∈ ((rbM.slice (Rect.unit (s := S4x8x4x64x128) offD S1x4x4x64x128.size inbD) hrD).squeeze S4x4x64x128 hqD).view.set,
      ((rbM.slice (Rect.unit (s := S4x8x4x64x128) offD S1x4x4x64x128.size inbD) hrD).squeeze S4x4x64x128 hqD).view.write (Elt F) fd
        (((paM.slice (Rect.unit (s := S4x8x4x64x128) offS S1x4x4x64x128.size inbS) hrS).squeeze S4x4x64x128 hqS).view.read (Elt F) (PA m c)) Finset.univ i
        = RB m d i :=
  moved (Val := Elt F) ((rbM.slice (Rect.unit (s := S4x8x4x64x128) offD S1x4x4x64x128.size inbD) hrD).squeeze S4x4x64x128 hqD).view
    ((paM.slice (Rect.unit (s := S4x8x4x64x128) offS S1x4x4x64x128.size inbS) hrS).squeeze S4x4x64x128 hqS).view fd (RB m d) (PA m c)
    fun y => ((congrArg (RB m d) (emb_pc5 rbM c h hoffD inbD hrD hqD y)).trans
          (congrArg (PA m c) (emb_pc5 paM d h hoffS inbS hrS hqS y)).symm : _)

theorem movedS (c d : Dev nD) (h : Fin 2) {offS offD : Fin 5 → ℕ} (hoffS : offS = ![d.val, 0, 0, 0, 0]) (hoffD : offD = ![c.val, 0, 0, 0, 0])
    {offS' offD' : Fin 4 → ℕ} (hoffS' : offS' = ![4 * h.val, 0, 0, 0]) (hoffD' : offD' = ![4 * h.val, 0, 0, 0])
    (inbS hrS hqS inbS' hrS' inbD hrD hqD inbD' hrD') (fd : Vec F S4x8x4x64x2 .f32) :
    ∀ i ∈ (((rsM.slice (Rect.unit (s := S4x8x4x64x2) offD S1x8x4x64x2.size inbD) hrD).squeeze S8x4x64x2 hqD).slice
        (Rect.unit (s := S8x4x64x2) offD' S4x4x64x2.size inbD') hrD').view.set,
      (((rsM.slice (Rect.unit (s := S4x8x4x64x2) offD S1x8x4x64x2.size inbD) hrD).squeeze S8x4x64x2 hqD).slice
        (Rect.unit (s := S8x4x64x2) offD' S4x4x64x2.size inbD') hrD').view.write (Elt F) fd
        ((((psM.slice (Rect.unit (s := S4x8x4x64x2) offS S1x8x4x64x2.size inbS) hrS).squeeze S8x4x64x2 hqS).slice
          (Rect.unit (s := S8x4x64x2) offS' S4x4x64x2.size inbS') hrS').view.read (Elt F) (PS m c)) Finset.univ i
        = RS m d i :=
  moved (Val := Elt F) (((rsM.slice (Rect.unit (s := S4x8x4x64x2) offD S1x8x4x64x2.size inbD) hrD).squeeze S8x4x64x2 hqD).slice
        (Rect.unit (s := S8x4x64x2) offD' S4x4x64x2.size inbD') hrD').view
    (((psM.slice (Rect.unit (s := S4x8x4x64x2) offS S1x8x4x64x2.size inbS) hrS).squeeze S8x4x64x2 hqS).slice
          (Rect.unit (s := S8x4x64x2) offS' S4x4x64x2.size inbS') hrS').view fd (RS m d) (PS m c)
    fun y => ((congrArg (RS m d) (emb_pcs rsM c h hoffD hoffD' inbD hrD hqD inbD' hrD' y)).trans
          (congrArg (PS m c) (emb_pcs psM d h hoffS hoffS' inbS hrS hqS inbS' hrS' y)).symm : _)

/-- A device's rows, to a peer's slab; -/
theorem act_sendX {Q : α → sProp 𝕄} (c n : Dev nD) (j : Fin 3) (i : ℕ) (hn : n = pr c j) {sS sem : DmaSem sig} (hsS : SemLoc.dma sS = csem (.xs j))
    (hsem : SemLoc.dma sem = csem (.xr c)) (hdebt : (debts c).drop i = (pr c j, .xr c) :: (debts c).drop (i + 1))
    {off : Fin 3 → ℕ} (hoff : off = ![c.val, 0, 0]) {inb hr hq}
    {hsc : ((xgM.slice (Rect.unit (s := S4x256x1024) off S1x256x1024.size inb) hr).squeeze S256x1024 hq).view.ref.isScScratch = false}
    {hsrc : xbM.view.WordExact} {hdst}
    {hty : DmaTarget.Typed .vmem (.dma sem) (.remote (Dev.tc n : Thread nD τ)
      ((xgM.slice (Rect.unit (s := S4x256x1024) off S1x256x1024.size inb) hr).squeeze S256x1024 hq) (.dma sS) hsc)} :
    iprop(Ctx m ∗ Ow c i ∗ tok c (.xs j) 0 ∗ tok (pr c j) (.xr c) 0 ∗ pts c cc0_scratch0 Finset.univ (shareTokN fullShare j.val) (xb m c)
        ∗ any (pr c j) cc0_scratch1 (slab c))
      ⊢ iprop(((Ow c (i + 1) ∗ due c (.xs j) NX) -∗ WP c (kt ⟨⟩) Q)
        -∗ WP c (.op (.enqueueDma xbM (.remote (Dev.tc n : Thread nD τ)
            ((xgM.slice (Rect.unit (s := S4x256x1024) off S1x256x1024.size inb) hr).squeeze S256x1024 hq) (.dma sS) hsc)
            (.dma sem) hsrc hdst hty) kt) Q) := by
  subst hn
  have hset := set_slab c hoff inb hr hq
  have hsu : xbM.view.set = Finset.univ := View.set_whole _
  unfold any
  iintro ⟨#HC, HO, Ht₁, Ht₂, Hs, ⟨%fd, Hd⟩⟩
  iapply (act_send m c (pr c j) (pr c j) (.xs j) (.xr c) i rfl hsS hsem (Finset.mem_singleton_self _) (dutiesOf_peer c j).1 hdebt rfl rfl
    (q := shareTokN fullShare j.val) (fs := xb m c) (fd := fd)
    (by rw [hsu]; exact Entails.refl _)
    (by
      show (((pr c j : Dev nD) : Thread nD τ).loc cc0_scratch1 ↦[_]{fullShare} _) ⊢ _
      rw [pointsTo_congr (movedX m c hoff inb hr hq fd), hset]; exact Entails.refl _))
  isplitr; · iexact HC
  isplitl [HO]; · iexact HO
  isplitl [Ht₁]; · iexact Ht₁
  isplitl [Ht₂]; · iexact Ht₂
  isplitl [Hs]; · rw [hsu]; iexact Hs
  rw [hset]; iexact Hd

/-- its partial sums over a peer's queries, half `h` of the heads; -/
theorem act_sendA {Q : α → sProp 𝕄} (c n : Dev nD) (h : Fin 2) (j : Fin 3) (i : ℕ) (hn : n = pr c j) {sS sem : DmaSem sig} (hsS : SemLoc.dma sS = csem (.pa h j))
    (hsem : SemLoc.dma sem = csem (.ra h c)) (hdebt : (debts c).drop i = (pr c j, .ra h c) :: (debts c).drop (i + 1))
    {offS offD : Fin 5 → ℕ} (hoffS : offS = ![(pr c j).val, 4 * h.val, 0, 0, 0]) (hoffD : offD = ![c.val, 4 * h.val, 0, 0, 0])
    {inbS hrS hqS inbD hrD hqD}
    {hsc : ((rbM.slice (Rect.unit (s := S4x8x4x64x128) offD S1x4x4x64x128.size inbD) hrD).squeeze S4x4x64x128 hqD).view.ref.isScScratch = false}
    {hsrc : ((paM.slice (Rect.unit (s := S4x8x4x64x128) offS S1x4x4x64x128.size inbS) hrS).squeeze S4x4x64x128 hqS).view.WordExact} {hdst}
    {hty : DmaTarget.Typed .vmem (.dma sem) (.remote (Dev.tc n : Thread nD τ)
      ((rbM.slice (Rect.unit (s := S4x8x4x64x128) offD S1x4x4x64x128.size inbD) hrD).squeeze S4x4x64x128 hqD) (.dma sS) hsc)} :
    iprop(Ctx m ∗ Ow c i ∗ tok c (.pa h j) 0 ∗ tok (pr c j) (.ra h c) 0 ∗ pts c cc0_scratch5 (pcA h (pr c j)) fullShare (PA m c)
        ∗ any (pr c j) cc0_scratch7 (pcA h c))
      ⊢ iprop(((Ow c (i + 1) ∗ due c (.pa h j) NA) -∗ WP c (kt ⟨⟩) Q)
        -∗ WP c (.op (.enqueueDma ((paM.slice (Rect.unit (s := S4x8x4x64x128) offS S1x4x4x64x128.size inbS) hrS).squeeze S4x4x64x128 hqS)
            (.remote (Dev.tc n : Thread nD τ)
            ((rbM.slice (Rect.unit (s := S4x8x4x64x128) offD S1x4x4x64x128.size inbD) hrD).squeeze S4x4x64x128 hqD) (.dma sS) hsc)
            (.dma sem) hsrc hdst hty) kt) Q) := by
  subst hn
  have hsetS := set_pa (pr c j) h hoffS inbS hrS hqS
  have hset := set_rb c h hoffD inbD hrD hqD
  unfold any
  iintro ⟨#HC, HO, Ht₁, Ht₂, Hs, ⟨%fd, Hd⟩⟩
  iapply (act_send m c (pr c j) (pr c j) (.pa h j) (.ra h c) i rfl hsS hsem (Finset.mem_singleton_self _) ((dutiesOf_peer c j).2.1 h) hdebt rfl rfl
    (q := fullShare) (fs := PA m c) (fd := fd)
    (by rw [hsetS]; exact Entails.refl _)
    (by
      show (((pr c j : Dev nD) : Thread nD τ).loc cc0_scratch7 ↦[_]{fullShare} _) ⊢ _
      rw [pointsTo_congr (movedA m c (pr c j) h hoffS hoffD inbS hrS hqS inbD hrD hqD fd), hset]; exact Entails.refl _))
  isplitr; · iexact HC
  isplitl [HO]; · iexact HO
  isplitl [Ht₁]; · iexact Ht₁
  isplitl [Ht₂]; · iexact Ht₂
  isplitl [Hs]; · rw [hsetS]; iexact Hs
  rw [hset]; iexact Hd

/-- and their statistics. -/
theorem act_sendS {Q : α → sProp 𝕄} (c n : Dev nD) (h : Fin 2) (j : Fin 3) (i : ℕ) (hn : n = pr c j) {sS sem : DmaSem sig} (hsS : SemLoc.dma sS = csem (.ps h j))
    (hsem : SemLoc.dma sem = csem (.rs h c)) (hdebt : (debts c).drop i = (pr c j, .rs h c) :: (debts c).drop (i + 1))
    {offS offD : Fin 5 → ℕ} (hoffS : offS = ![(pr c j).val, 0, 0, 0, 0]) (hoffD : offD = ![c.val, 0, 0, 0, 0])
    {offS' offD' : Fin 4 → ℕ} (hoffS' : offS' = ![4 * h.val, 0, 0, 0]) (hoffD' : offD' = ![4 * h.val, 0, 0, 0])
    {inbS hrS hqS inbS' hrS' inbD hrD hqD inbD' hrD'}
    {hsc : (((rsM.slice (Rect.unit (s := S4x8x4x64x2) offD S1x8x4x64x2.size inbD) hrD).squeeze S8x4x64x2 hqD).slice
      (Rect.unit (s := S8x4x64x2) offD' S4x4x64x2.size inbD') hrD').view.ref.isScScratch = false}
    {hsrc : (((psM.slice (Rect.unit (s := S4x8x4x64x2) offS S1x8x4x64x2.size inbS) hrS).squeeze S8x4x64x2 hqS).slice
      (Rect.unit (s := S8x4x64x2) offS' S4x4x64x2.size inbS') hrS').view.WordExact} {hdst}
    {hty : DmaTarget.Typed .vmem (.dma sem) (.remote (Dev.tc n : Thread nD τ)
      (((rsM.slice (Rect.unit (s := S4x8x4x64x2) offD S1x8x4x64x2.size inbD) hrD).squeeze S8x4x64x2 hqD).slice
      (Rect.unit (s := S8x4x64x2) offD' S4x4x64x2.size inbD') hrD') (.dma sS) hsc)} :
    iprop(Ctx m ∗ Ow c i ∗ tok c (.ps h j) 0 ∗ tok (pr c j) (.rs h c) 0 ∗ pts c cc0_scratch6 (pcS h (pr c j)) fullShare (PS m c)
        ∗ any (pr c j) cc0_scratch8 (pcS h c))
      ⊢ iprop(((Ow c (i + 1) ∗ due c (.ps h j) NS) -∗ WP c (kt ⟨⟩) Q)
        -∗ WP c (.op (.enqueueDma (((psM.slice (Rect.unit (s := S4x8x4x64x2) offS S1x8x4x64x2.size inbS) hrS).squeeze S8x4x64x2 hqS).slice
            (Rect.unit (s := S8x4x64x2) offS' S4x4x64x2.size inbS') hrS')
            (.remote (Dev.tc n : Thread nD τ)
            (((rsM.slice (Rect.unit (s := S4x8x4x64x2) offD S1x8x4x64x2.size inbD) hrD).squeeze S8x4x64x2 hqD).slice
              (Rect.unit (s := S8x4x64x2) offD' S4x4x64x2.size inbD') hrD') (.dma sS) hsc)
            (.dma sem) hsrc hdst hty) kt) Q) := by
  subst hn
  have hsetS := set_ps (pr c j) h hoffS hoffS' inbS hrS hqS inbS' hrS'
  have hset := set_rs c h hoffD hoffD' inbD hrD hqD inbD' hrD'
  unfold any
  iintro ⟨#HC, HO, Ht₁, Ht₂, Hs, ⟨%fd, Hd⟩⟩
  iapply (act_send m c (pr c j) (pr c j) (.ps h j) (.rs h c) i rfl hsS hsem (Finset.mem_singleton_self _) ((dutiesOf_peer c j).2.2 h) hdebt rfl rfl
    (q := fullShare) (fs := PS m c) (fd := fd)
    (by rw [hsetS]; exact Entails.refl _)
    (by
      show (((pr c j : Dev nD) : Thread nD τ).loc cc0_scratch8 ↦[_]{fullShare} _) ⊢ _
      rw [pointsTo_congr (movedS m c (pr c j) h hoffS hoffD hoffS' hoffD' inbS hrS hqS inbS' hrS' inbD hrD hqD inbD' hrD' fd), hset]; exact Entails.refl _))
  isplitr; · iexact HC
  isplitl [HO]; · iexact HO
  isplitl [Ht₁]; · iexact Ht₁
  isplitl [Ht₂]; · iexact Ht₂
  isplitl [Hs]; · rw [hsetS]; iexact Hs
  rw [hset]; iexact Hd

end Cert.Attn

end
-- ==== Proof.Copies.lean ====
/-
Copies a device makes within itself: of its own rows and sums to its own slabs, and of one head of the keys or the
values to a slot of the staging buffer.
-/
module

public import proofs.«01_k».proof.Proof.Actions

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

/-- A copy under way on device `c`'s semaphore `sem`, `n` units long, to deliver `D`. -/
abbrev fly (c : Dev nD) (sem : DmaSem sig) (n : ℕ) (D : sProp 𝕄) : sProp 𝕄 := Flight EC (c : Thread nD τ) (.dma sem) () n D
/-- A semaphore of device `c` at zero. -/
abbrev idle (c : Dev nD) (sem : DmaSem sig) : sProp 𝕄 := semVal ((c : Thread nD τ), SemLoc.dma sem) 0

/-- Starting a copy whose two ends, once done, make `D`. -/
theorem act_copy {Q : α → sProp 𝕄} (c : Dev nD) {sem sem' : DmaSem sig} (hs : sem = sem') {sp sp' : Space} {s : Shape} {e : EltTy}
    {src : Memref sig .tc sp s e} {dst : Memref sig .tc sp' s e} {hsrc : src.view.WordExact} {hdst} {hty : DmaTarget.Typed sp (.dma sem) (.here dst : DmaTarget nD τ sig .tc sp' s e)}
    {q : PosShare TreeShare} {fs : Buf (Elt F) (src.view.loc (c : Thread nD τ))} {fd : Buf (Elt F) (dst.view.loc (c : Thread nD τ))}
    (n : ℕ) (hn : dst.view.amount (.dma sem) = n) (hn0 : 0 < n) {D : sProp 𝕄}
    (hD : iprop((dst.view.loc (c : Thread nD τ) ↦[dst.view.set]{fullShare} (dst.view.write (Elt F) fd (src.view.read (Elt F) fs) Finset.univ))
      ∗ (src.view.loc (c : Thread nD τ) ↦[src.view.set]{q} fs)) ⊢ D) :
    iprop((src.view.loc (c : Thread nD τ) ↦[src.view.set]{q} fs) ∗ (dst.view.loc (c : Thread nD τ) ↦[dst.view.set]{fullShare} fd) ∗ idle c sem')
      ⊢ iprop((fly c sem' n D -∗ WP c (kt ⟨⟩) Q) -∗ WP c (.op (.enqueueDma src (.here dst) (.dma sem) hsrc hdst hty) kt) Q) := by
  subst hs
  iintro ⟨Hs, Hd, Hv⟩ Hk
  iapply (Transfers.wp_dmaLocal EC 𝒱₀ (c : Thread nD τ) none (src := src) (dst := dst) (via := .same) (q := q) (fs := fs) (fd := fd)
    () n hn hn0 (Finset.Subset.refl _)) $$ [Hs Hd Hv]
  · isplitl [Hs]; · iexact Hs
    isplitl [Hd]; · iexact Hd
    iexact Hv
  iintro HF
  iapply Hk
  iapply (Flight_mono EC (c : Thread nD τ) hD); iexact HF

/-- Waiting for it. -/
theorem act_wait_copy {Q : α → sProp 𝕄} (c : Dev nD) {sem sem' : DmaSem sig} (hs : sem = sem') (i v : ℕ) (hv : above i v) (hl : lvS (.dma sem') ≤ v)
    {sp sp' : Space} {s s' : Shape} {e e' : EltTy}
    {src : Memref sig .tc sp s e} {dst : Memref sig .tc sp' s' e'} {hsrc : src.view.WordExact} {hdst : dst.view.WordExact} {D : sProp 𝕄}
    (n : ℕ) (hn : dst.view.dmaCredit = n) :
    iprop(Ctx m ∗ Ow c i ∗ fly c sem' n D)
      ⊢ iprop(((Ow c i ∗ idle c sem' ∗ D) -∗ WP c (kt ⟨⟩) Q) -∗ WP c (.op (.waitDma2 sem src dst hsrc hdst) kt) Q) := by
  subst hs
  unfold Ow
  iintro ⟨#HC, ⟨%W, HO⟩, HF⟩ Hk
  iapply (Transfers.wp_waitLocalO EC 𝒱₀ (c : Thread nD τ) none () hn (D := D) (O := owe ((debts c).drop i)) (W := W)) $$ [HO HF]
  · isplitl [HF]; · iexact HF
    isplitl [HO]; · iexact HO
    iapply (may_wait m c (SemLoc.dma sem) i v hv hl); iexact HC
  iintro ⟨HD, Hv, HO⟩
  iapply Hk
  isplitl [HO]; · iexists insert (SemLoc.dma sem, ()) W; iexact HO
  isplitl [Hv]; · iexact Hv
  iexact HD

/-! ## A device's own slab -/

theorem act_copyX {Q : α → sProp 𝕄} (c : Dev nD) {sem sem' : DmaSem sig} (hs : sem = sem') (q : PosShare TreeShare) {off : Fin 3 → ℕ} (hoff : off = ![c.val, 0, 0]) {inb hr hq}
    {hsrc : xbM.view.WordExact} {hdst}
    {hty : DmaTarget.Typed .vmem (.dma sem) (.here ((xgM.slice (Rect.unit (s := S4x256x1024) off S1x256x1024.size inb) hr).squeeze S256x1024 hq) : DmaTarget nD τ sig .tc .vmem S256x1024 .bf16)} :
    iprop(pts c cc0_scratch0 Finset.univ q (xb m c) ∗ any c cc0_scratch1 (slab c) ∗ idle c sem')
      ⊢ iprop((fly c sem' NX iprop(pts c cc0_scratch1 (slab c) fullShare (XG m) ∗ pts c cc0_scratch0 Finset.univ q (xb m c)) -∗ WP c (kt ⟨⟩) Q)
        -∗ WP c (.op (.enqueueDma xbM (.here ((xgM.slice (Rect.unit (s := S4x256x1024) off S1x256x1024.size inb) hr).squeeze S256x1024 hq))
            (.dma sem) hsrc hdst hty) kt) Q) := by
  have hset := set_slab c hoff inb hr hq
  have hsu : xbM.view.set = Finset.univ := View.set_whole _
  unfold any
  iintro ⟨Hs, ⟨%fd, Hd⟩, Hv⟩
  iapply (act_copy c hs (q := q) (fs := xb m c) (fd := fd) NX rfl (RefSig.tileCredit_pos _ _ (by decide)) (by
    show iprop((((c : Dev nD) : Thread nD τ).loc cc0_scratch1 ↦[_]{fullShare} _) ∗ _) ⊢ _
    rw [pointsTo_congr (movedX m c hoff inb hr hq fd), hset, hsu]))
  isplitl [Hs]; · rw [hsu]; iexact Hs
  isplitl [Hd]; · rw [hset]; iexact Hd
  iexact Hv

theorem act_copyA {Q : α → sProp 𝕄} (c : Dev nD) (h : Fin 2) {sem sem' : DmaSem sig} (hs : sem = sem') {offS offD : Fin 5 → ℕ}
    (hoffS : offS = ![c.val, 4 * h.val, 0, 0, 0]) (hoffD : offD = ![c.val, 4 * h.val, 0, 0, 0]) {inbS hrS hqS inbD hrD hqD}
    {hsrc : ((paM.slice (Rect.unit (s := S4x8x4x64x128) offS S1x4x4x64x128.size inbS) hrS).squeeze S4x4x64x128 hqS).view.WordExact} {hdst}
    {hty : DmaTarget.Typed .vmem (.dma sem) (.here ((rbM.slice (Rect.unit (s := S4x8x4x64x128) offD S1x4x4x64x128.size inbD) hrD).squeeze S4x4x64x128 hqD) : DmaTarget nD τ sig .tc .vmem S4x4x64x128 .bf16)} :
    iprop(pts c cc0_scratch5 (pcA h c) fullShare (PA m c) ∗ any c cc0_scratch7 (pcA h c) ∗ idle c sem')
      ⊢ iprop((fly c sem' NA iprop(pts c cc0_scratch7 (pcA h c) fullShare (RB m c) ∗ pts c cc0_scratch5 (pcA h c) fullShare (PA m c)) -∗ WP c (kt ⟨⟩) Q)
        -∗ WP c (.op (.enqueueDma ((paM.slice (Rect.unit (s := S4x8x4x64x128) offS S1x4x4x64x128.size inbS) hrS).squeeze S4x4x64x128 hqS)
            (.here ((rbM.slice (Rect.unit (s := S4x8x4x64x128) offD S1x4x4x64x128.size inbD) hrD).squeeze S4x4x64x128 hqD))
            (.dma sem) hsrc hdst hty) kt) Q) := by
  have hsetS := set_pa c h hoffS inbS hrS hqS
  have hset := set_rb c h hoffD inbD hrD hqD
  unfold any
  iintro ⟨Hs, ⟨%fd, Hd⟩, Hv⟩
  iapply (act_copy c hs (q := fullShare) (fs := PA m c) (fd := fd) NA rfl (RefSig.tileCredit_pos _ _ (by decide)) (by
    show iprop((((c : Dev nD) : Thread nD τ).loc cc0_scratch7 ↦[_]{fullShare} _) ∗ _) ⊢ _
    rw [pointsTo_congr (movedA m c c h hoffS hoffD inbS hrS hqS inbD hrD hqD fd), hset, hsetS]))
  isplitl [Hs]; · rw [hsetS]; iexact Hs
  isplitl [Hd]; · rw [hset]; iexact Hd
  iexact Hv

theorem act_copyS {Q : α → sProp 𝕄} (c : Dev nD) (h : Fin 2) {sem sem' : DmaSem sig} (hs : sem = sem') {offS offD : Fin 5 → ℕ}
    (hoffS : offS = ![c.val, 0, 0, 0, 0]) (hoffD : offD = ![c.val, 0, 0, 0, 0])
    {offS' offD' : Fin 4 → ℕ} (hoffS' : offS' = ![4 * h.val, 0, 0, 0]) (hoffD' : offD' = ![4 * h.val, 0, 0, 0])
    {inbS hrS hqS inbS' hrS' inbD hrD hqD inbD' hrD'}
    {hsrc : (((psM.slice (Rect.unit (s := S4x8x4x64x2) offS S1x8x4x64x2.size inbS) hrS).squeeze S8x4x64x2 hqS).slice
      (Rect.unit (s := S8x4x64x2) offS' S4x4x64x2.size inbS') hrS').view.WordExact} {hdst}
    {hty : DmaTarget.Typed .vmem (.dma sem) (.here (((rsM.slice (Rect.unit (s := S4x8x4x64x2) offD S1x8x4x64x2.size inbD) hrD).squeeze S8x4x64x2 hqD).slice
      (Rect.unit (s := S8x4x64x2) offD' S4x4x64x2.size inbD') hrD') : DmaTarget nD τ sig .tc .vmem S4x4x64x2 .f32)} :
    iprop(pts c cc0_scratch6 (pcS h c) fullShare (PS m c) ∗ any c cc0_scratch8 (pcS h c) ∗ idle c sem')
      ⊢ iprop((fly c sem' NS iprop(pts c cc0_scratch8 (pcS h c) fullShare (RS m c) ∗ pts c cc0_scratch6 (pcS h c) fullShare (PS m c)) -∗ WP c (kt ⟨⟩) Q)
        -∗ WP c (.op (.enqueueDma (((psM.slice (Rect.unit (s := S4x8x4x64x2) offS S1x8x4x64x2.size inbS) hrS).squeeze S8x4x64x2 hqS).slice
            (Rect.unit (s := S8x4x64x2) offS' S4x4x64x2.size inbS') hrS')
            (.here (((rsM.slice (Rect.unit (s := S4x8x4x64x2) offD S1x8x4x64x2.size inbD) hrD).squeeze S8x4x64x2 hqD).slice
              (Rect.unit (s := S8x4x64x2) offD' S4x4x64x2.size inbD') hrD'))
            (.dma sem) hsrc hdst hty) kt) Q) := by
  have hsetS := set_ps c h hoffS hoffS' inbS hrS hqS inbS' hrS'
  have hset := set_rs c h hoffD hoffD' inbD hrD hqD inbD' hrD'
  unfold any
  iintro ⟨Hs, ⟨%fd, Hd⟩, Hv⟩
  iapply (act_copy c hs (q := fullShare) (fs := PS m c) (fd := fd) NS rfl (RefSig.tileCredit_pos _ _ (by decide)) (by
    show iprop((((c : Dev nD) : Thread nD τ).loc cc0_scratch8 ↦[_]{fullShare} _) ∗ _) ⊢ _
    rw [pointsTo_congr (movedS m c c h hoffS hoffD hoffS' hoffD' inbS hrS hqS inbS' hrS' inbD hrD hqD inbD' hrD' fd), hset, hsetS]))
  isplitl [Hs]; · rw [hsetS]; iexact Hs
  isplitl [Hd]; · rw [hset]; iexact Hd
  iexact Hv

/-! ## A head of the keys or the values -/

/-- The share of the array a slot's copies read at. -/
abbrev hq (s : Fin 3) : PosShare TreeShare := shareTokN fullShare s.val

/-- Head `h` of the keys, landed in slot `s`, with the elements copied. -/
def kfull (c : Dev nD) (s : Fin 3) (h : Fin 8) : sProp 𝕄 :=
  iprop(pts c cc0_scratch3 (slot s) fullShare (hd (karr m c) h) ∗ pts c main_arg2 (headOf h) (hq s) (karr m c))
def vfull (c : Dev nD) (s : Fin 3) (h : Fin 8) : sProp 𝕄 :=
  iprop(pts c cc0_scratch4 (slot s) fullShare (hd (varr m c) h) ∗ pts c main_arg3 (headOf h) (hq s) (varr m c))
/-- Slot `s` of the keys under way to holding head `h`, with the rest of its share of the array; -/
def kfly (c : Dev nD) (s : Fin 3) (h : Fin 8) : sProp 𝕄 :=
  iprop(fly c (kcpS s) NH (kfull m c s h) ∗ pts c main_arg2 (Finset.univ \ headOf h) (hq s) (karr m c))
def vfly (c : Dev nD) (s : Fin 3) (h : Fin 8) : sProp 𝕄 :=
  iprop(fly c (vcpS s) NH (vfull m c s h) ∗ pts c main_arg3 (Finset.univ \ headOf h) (hq s) (varr m c))
/-- arrived, with its share of the whole array; -/
def kgot (c : Dev nD) (s : Fin 3) (h : Fin 8) : sProp 𝕄 :=
  iprop(pts c cc0_scratch3 (slot s) fullShare (hd (karr m c) h) ∗ pts c main_arg2 Finset.univ (hq s) (karr m c) ∗ idle c (kcpS s))
def vgot (c : Dev nD) (s : Fin 3) (h : Fin 8) : sProp 𝕄 :=
  iprop(pts c cc0_scratch4 (slot s) fullShare (hd (varr m c) h) ∗ pts c main_arg3 Finset.univ (hq s) (varr m c) ∗ idle c (vcpS s))
/-- and free. -/
def kfree (c : Dev nD) (s : Fin 3) : sProp 𝕄 :=
  iprop(any (F := F) c cc0_scratch3 (slot s) ∗ pts c main_arg2 Finset.univ (hq s) (karr m c) ∗ idle c (kcpS s))
def vfree (c : Dev nD) (s : Fin 3) : sProp 𝕄 :=
  iprop(any (F := F) c cc0_scratch4 (slot s) ∗ pts c main_arg3 Finset.univ (hq s) (varr m c) ∗ idle c (vcpS s))

theorem kgot_free (c : Dev nD) (s : Fin 3) (h : Fin 8) : kgot m c s h ⊢ kfree m c s := by
  unfold kgot kfree any
  iintro ⟨Hs, Hr⟩
  isplitl [Hs]; · iexists _; iexact Hs
  iexact Hr
theorem vgot_free (c : Dev nD) (s : Fin 3) (h : Fin 8) : vgot m c s h ⊢ vfree m c s := by
  unfold vgot vfree any
  iintro ⟨Hs, Hr⟩
  isplitl [Hs]; · iexists _; iexact Hs
  iexact Hr

theorem head_split (b : Ref sig .tc) (c : Dev nD) (S : Finset b.ty.shape.Idx) (q : PosShare TreeShare) (f : b.ty.Contents (Elt F)) :
    pts c b Finset.univ q f = iprop(pts c b S q f ∗ pts c b (Finset.univ \ S) q f) :=
  have h := pointsTo_split_subset (Ix := Unit) (Name := ℕ) (U := UU) (Lvl := ℕ) (ℓ := (c : Thread nD τ).loc b) (I := S) (S := Finset.univ) (q := q) (f := f) (Finset.subset_univ S)
  equiv_iff.mp ⟨h.1, h.2⟩

theorem movedK (c : Dev nD) (s : Fin 3) (h : Fin 8) {offS offD : Fin 5 → ℕ} (hoffS : offS = ![0, 0, 0, h.val, 0]) (hoffD : offD = ![s.val, 0, 0, 0, 0])
    (inbS hrS hqS inbD hrD hqD) (K : Vec F S16x4x64x8x128 .f32) (fd : Vec F S3x16x4x64x128 .f32) :
    ∀ i ∈ ((ksM.slice (Rect.unit (s := S3x16x4x64x128) offD S1x16x4x64x128.size inbD) hrD).squeeze S16x4x64x128 hqD).view.set,
      ((ksM.slice (Rect.unit (s := S3x16x4x64x128) offD S1x16x4x64x128.size inbD) hrD).squeeze S16x4x64x128 hqD).view.write (Elt F) fd
        (((kM.slice (Rect.unit (s := S16x4x64x8x128) offS S16x4x64x1x128.size inbS) hrS).squeeze S16x4x64x128 hqS).view.read (Elt F) K) Finset.univ i
        = hd K h i :=
  moved (Val := Elt F) ((ksM.slice (Rect.unit (s := S3x16x4x64x128) offD S1x16x4x64x128.size inbD) hrD).squeeze S16x4x64x128 hqD).view
    ((kM.slice (Rect.unit (s := S16x4x64x8x128) offS S16x4x64x1x128.size inbS) hrS).squeeze S16x4x64x128 hqS).view fd (hd K h) K
    fun y => ((congrArg (hd K h) (emb_slot ksM s hoffD inbD hrD hqD y)).trans
          (congrArg K (emb_head kM h hoffS inbS hrS hqS y)).symm : _)

theorem act_copyK {Q : α → sProp 𝕄} (c : Dev nD) (s : Fin 3) (h : Fin 8) {sem : DmaSem sig} (hs : sem = kcpS s) {offS offD : Fin 5 → ℕ}
    (hoffS : offS = ![0, 0, 0, h.val, 0]) (hoffD : offD = ![s.val, 0, 0, 0, 0]) {inbS hrS hqS inbD hrD hqD}
    {hsrc : ((kM.slice (Rect.unit (s := S16x4x64x8x128) offS S16x4x64x1x128.size inbS) hrS).squeeze S16x4x64x128 hqS).view.WordExact} {hdst}
    {hty : DmaTarget.Typed .hbm (.dma sem) (.here ((ksM.slice (Rect.unit (s := S3x16x4x64x128) offD S1x16x4x64x128.size inbD) hrD).squeeze S16x4x64x128 hqD) : DmaTarget nD τ sig .tc .vmem S16x4x64x128 .f32)} :
    kfree m c s
      ⊢ iprop((kfly m c s h -∗ WP c (kt ⟨⟩) Q)
        -∗ WP c (.op (.enqueueDma ((kM.slice (Rect.unit (s := S16x4x64x8x128) offS S16x4x64x1x128.size inbS) hrS).squeeze S16x4x64x128 hqS)
            (.here ((ksM.slice (Rect.unit (s := S3x16x4x64x128) offD S1x16x4x64x128.size inbD) hrD).squeeze S16x4x64x128 hqD))
            (.dma sem) hsrc hdst hty) kt) Q) := by
  have hsetS := set_khead h hoffS inbS hrS hqS
  have hset := set_kslot s hoffD inbD hrD hqD
  unfold kfree kfly any
  rw [head_split main_arg2 c (headOf h)]
  iintro ⟨⟨%fd, Hd⟩, ⟨Hs, Hr⟩, Hv⟩ Hk
  iapply (act_copy c hs (q := hq s) (fs := karr m c) (fd := fd) NH rfl (RefSig.tileCredit_pos _ _ (by decide)) (D := kfull m c s h) (by
    show iprop((((c : Dev nD) : Thread nD τ).loc cc0_scratch3 ↦[_]{fullShare} _) ∗ _) ⊢ _
    rw [pointsTo_congr (movedK c s h hoffS hoffD inbS hrS hqS inbD hrD hqD (karr m c) fd), hset, hsetS]; exact Entails.refl _)) $$ [Hs Hd Hv]
  · isplitl [Hs]; · rw [hsetS]; iexact Hs
    isplitl [Hd]; · rw [hset]; iexact Hd
    iexact Hv
  iintro HF
  iapply Hk
  isplitl [HF]; · iexact HF
  iexact Hr

theorem act_copyV {Q : α → sProp 𝕄} (c : Dev nD) (s : Fin 3) (h : Fin 8) {sem : DmaSem sig} (hs : sem = vcpS s) {offS offD : Fin 5 → ℕ}
    (hoffS : offS = ![0, 0, 0, h.val, 0]) (hoffD : offD = ![s.val, 0, 0, 0, 0]) {inbS hrS hqS inbD hrD hqD}
    {hsrc : ((vM.slice (Rect.unit (s := S16x4x64x8x128) offS S16x4x64x1x128.size inbS) hrS).squeeze S16x4x64x128 hqS).view.WordExact} {hdst}
    {hty : DmaTarget.Typed .hbm (.dma sem) (.here ((vsM.slice (Rect.unit (s := S3x16x4x64x128) offD S1x16x4x64x128.size inbD) hrD).squeeze S16x4x64x128 hqD) : DmaTarget nD τ sig .tc .vmem S16x4x64x128 .f32)} :
    vfree m c s
      ⊢ iprop((vfly m c s h -∗ WP c (kt ⟨⟩) Q)
        -∗ WP c (.op (.enqueueDma ((vM.slice (Rect.unit (s := S16x4x64x8x128) offS S16x4x64x1x128.size inbS) hrS).squeeze S16x4x64x128 hqS)
            (.here ((vsM.slice (Rect.unit (s := S3x16x4x64x128) offD S1x16x4x64x128.size inbD) hrD).squeeze S16x4x64x128 hqD))
            (.dma sem) hsrc hdst hty) kt) Q) := by
  have hsetS := set_vhead h hoffS inbS hrS hqS
  have hset := set_vslot s hoffD inbD hrD hqD
  unfold vfree vfly any
  rw [head_split main_arg3 c (headOf h)]
  iintro ⟨⟨%fd, Hd⟩, ⟨Hs, Hr⟩, Hv⟩ Hk
  iapply (act_copy c hs (q := hq s) (fs := varr m c) (fd := fd) NH rfl (RefSig.tileCredit_pos _ _ (by decide)) (D := vfull m c s h) (by
    show iprop((((c : Dev nD) : Thread nD τ).loc cc0_scratch4 ↦[_]{fullShare} _) ∗ _) ⊢ _
    rw [pointsTo_congr (movedK c s h hoffS hoffD inbS hrS hqS inbD hrD hqD (varr m c) fd), hset, hsetS]; exact Entails.refl _)) $$ [Hs Hd Hv]
  · isplitl [Hs]; · rw [hsetS]; iexact Hs
    isplitl [Hd]; · rw [hset]; iexact Hd
    iexact Hv
  iintro HF
  iapply Hk
  isplitl [HF]; · iexact HF
  iexact Hr

theorem lvS_kcp : ∀ s : Fin 3, lvS (.dma (kcpS s)) ≤ 2 := by decide
theorem lvS_vcp : ∀ s : Fin 3, lvS (.dma (vcpS s)) ≤ 2 := by decide

theorem act_waitK {Q : α → sProp 𝕄} (c : Dev nD) (s : Fin 3) (h : Fin 8) {sem : DmaSem sig} (hs : sem = kcpS s)
    {sp sp' : Space} {s₁ s₂ : Shape} {e e' : EltTy} {src : Memref sig .tc sp s₁ e} {dst : Memref sig .tc sp' s₂ e'}
    {hsrc : src.view.WordExact} {hdst : dst.view.WordExact} (hn : dst.view.dmaCredit = NH) :
    iprop(Ctx m ∗ Ow c 6 ∗ kfly m c s h)
      ⊢ iprop(((Ow c 6 ∗ kgot m c s h) -∗ WP c (kt ⟨⟩) Q) -∗ WP c (.op (.waitDma2 sem src dst hsrc hdst) kt) Q) := by
  have hl : lvS (.dma (kcpS s)) ≤ 2 := lvS_kcp s
  unfold kfly kgot
  rw [head_split main_arg2 c (headOf h)]
  iintro ⟨#HC, HO, HF, Hr⟩ Hk
  iapply (act_wait_copy m c hs 6 2 above_6 hl NH hn) $$ [HO HF]
  · isplitr; · iexact HC
    isplitl [HO]; · iexact HO
    iexact HF
  unfold kfull
  iintro ⟨HO, Hv, Hd, Hs⟩
  iapply Hk
  isplitl [HO]; · iexact HO
  isplitl [Hd]; · iexact Hd
  isplitl [Hs Hr]
  · isplitl [Hs]; · iexact Hs
    iexact Hr
  iexact Hv

theorem act_waitV {Q : α → sProp 𝕄} (c : Dev nD) (s : Fin 3) (h : Fin 8) {sem : DmaSem sig} (hs : sem = vcpS s)
    {sp sp' : Space} {s₁ s₂ : Shape} {e e' : EltTy} {src : Memref sig .tc sp s₁ e} {dst : Memref sig .tc sp' s₂ e'}
    {hsrc : src.view.WordExact} {hdst : dst.view.WordExact} (hn : dst.view.dmaCredit = NH) :
    iprop(Ctx m ∗ Ow c 6 ∗ vfly m c s h)
      ⊢ iprop(((Ow c 6 ∗ vgot m c s h) -∗ WP c (kt ⟨⟩) Q) -∗ WP c (.op (.waitDma2 sem src dst hsrc hdst) kt) Q) := by
  have hl : lvS (.dma (vcpS s)) ≤ 2 := lvS_vcp s
  unfold vfly vgot
  rw [head_split main_arg3 c (headOf h)]
  iintro ⟨#HC, HO, HF, Hr⟩ Hk
  iapply (act_wait_copy m c hs 6 2 above_6 hl NH hn) $$ [HO HF]
  · isplitr; · iexact HC
    isplitl [HO]; · iexact HO
    iexact HF
  unfold vfull
  iintro ⟨HO, Hv, Hd, Hs⟩
  iapply Hk
  isplitl [HO]; · iexact HO
  isplitl [Hd]; · iexact Hd
  isplitl [Hs Hr]
  · isplitl [Hs]; · iexact Hs
    iexact Hr
  iexact Hv

end Cert.Attn

end
-- ==== Proof.Memory.lean ====
/-
Loads and stores: of any rectangle of a buffer, and of the rectangles the kernel reads and writes of the queries, the
keys and values of a slot, the query weights, and the partial sums and statistics.
-/
module

public import proofs.«01_k».proof.Proof.Copies

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

/-! ## Loads and stores -/

/-- A load of a rectangle of a buffer held over elements that include it. -/
theorem act_load {Q : α → sProp 𝕄} (c : Dev nD) {s : Shape} {e : EltTy} (M : Memref sig .tc .vmem s e) (r : Rect s) {hl : M.view.LoadsAt r.toLoadRect}
    {k : (r.shape.Idx → Elt F e) → Prog (TpuEff nD τ sig (Elt F) Λ₀ .tc) α}
    {S : Finset (Idx (M.view.loc (c : Thread nD τ)))} {q : PosShare TreeShare} {f : Buf (Elt F) (M.view.loc (c : Thread nD τ))} (hS : ∀ y, M.view.emb (r.emb y) ∈ S)
    (v : r.shape.Idx → Elt F e) (hv : ∀ y, M.view.read (Elt F) f (r.emb y) = v y) :
    (M.view.loc (c : Thread nD τ) ↦[S]{q} f) ⊢ iprop(((M.view.loc (c : Thread nD τ) ↦[S]{q} f) -∗ WP c (k v) Q)
      -∗ WP c (.op (.load M r.toLoadRect hl) k) Q) := by
  have hr : (M.access r).read (Elt F) f = v := funext hv
  subst hr
  refine wp_load_rect 𝒱₀ (c : Thread nD τ) none Set.univ (m := M) (r := r) (S := S) ?_
  intro i hi
  obtain ⟨y, -, rfl⟩ := Finset.mem_map.mp hi
  exact hS y

/-- A store to a rectangle of a buffer held whole. -/
theorem act_store {Q : α → sProp 𝕄} (c : Dev nD) {s : Shape} {e : EltTy} (M : Memref sig .tc .vmem s e) (r : Rect s) {hx hm}
    {w : r.shape.Idx → Elt F e} {f : Buf (Elt F) (M.view.loc (c : Thread nD τ))} :
    (M.view.loc (c : Thread nD τ) ↦[Finset.univ]{fullShare} f) ⊢ iprop((∀ g : Buf (Elt F) (M.view.loc (c : Thread nD τ)),
        ⌜(∀ y, M.view.read (Elt F) g (r.emb y) = w y) ∧ (∀ i, (∀ y, M.view.emb (r.emb y) ≠ i) → g i = f i)⌝
          -∗ (M.view.loc (c : Thread nD τ) ↦[Finset.univ]{fullShare} g) -∗ WP c (kt ⟨⟩) Q)
      -∗ WP c (.op (.store M r w Finset.univ hx hm) kt) Q) := by
  iintro H Hk
  iapply (wp_store 𝒱₀ (c : Thread nD τ) none Set.univ (m := M) (r := r) (Mk := Finset.univ) (S := Finset.univ) (f := f) (Finset.subset_univ _)) $$ H
  iintro Hp
  iapply Hk $$ %_ [] Hp
  ipureintro
  refine ⟨fun y => ?_, fun i hi => ?_⟩
  · exact congrFun (View.read_write_univ (v := M.access r) f w) y
  · refine View.write_of_not_mem (v := M.access r) f w _ fun h => ?_
    obtain ⟨y, -, rfl⟩ := Finset.mem_map.mp h
    exact hi y rfl

/-! ## The query buffer -/

theorem emb_q (h : Fin 8) (r : Fin 4) {off : Fin 4 → ℕ} (hoff : off = ![h.val, r.val, 0, 0]) (inb) (y : S1x1x256x128.Idx) :
    (Rect.unit (s := S8x4x256x128) off S1x1x256x128.size inb).emb y = (ix4 h r (y 2) (y 3) : S8x4x256x128.Idx) := by
  subst hoff
  refine funext fun a => Fin.ext ((Rect.emb_apply _ _ _).trans ?_)
  have h0 : (y 0).val < 1 := (y 0).isLt
  have h1 : (y 1).val < 1 := (y 1).isLt
  fin_cases a
  · show h.val + 1 * (y 0).val = h.val; omega
  · show r.val + 1 * (y 1).val = r.val; omega
  · show 0 + 1 * (y 2).val = (y 2).val; omega
  · show 0 + 1 * (y 3).val = (y 3).val; omega

theorem eq_q (y : S1x1x256x128.Idx) : y = (ix4 (0 : Fin 1) (0 : Fin 1) (y 2) (y 3) : S1x1x256x128.Idx) := by
  refine funext fun a => Fin.ext ?_
  have h0 : (y 0).val < 1 := (y 0).isLt
  have h1 : (y 1).val < 1 := (y 1).isLt
  fin_cases a
  · show (y 0).val = 0; omega
  · show (y 1).val = 0; omega
  · rfl
  · rfl

/-- The query buffer, whole and complete; -/
abbrev qfull (c : Dev nD) : sProp 𝕄 := pts c cc0_scratch2 Finset.univ fullShare (QF m c)
/-- and with its first `n` groups of rows in place. -/
def qst (c : Dev nD) (n : ℕ) : sProp 𝕄 :=
  iprop(∃ f : Vec F S8x4x256x128 .f32, ⌜∀ i : S8x4x256x128.Idx, 4 * (i 0).val + (i 1).val < n → f i = QF m c i⌝ ∗ pts c cc0_scratch2 Finset.univ fullShare f)

theorem qst_start (c : Dev nD) : any (F := F) c cc0_scratch2 Finset.univ ⊢ qst m c 0 := by
  unfold any qst
  iintro ⟨%f, H⟩
  iexists f
  isplitr; · ipureintro; exact fun i hi => absurd hi (Nat.not_lt_zero _)
  iexact H

theorem qst_full (c : Dev nD) : qst m c 32 ⊢ qfull m c := by
  unfold qst
  iintro ⟨%f, %hf, H⟩
  have hfe : f = QF m c := funext fun i => hf i (by
    have h0 : (i 0).val < 8 := (i 0).isLt
    have h1 : (i 1).val < 4 := (i 1).isLt
    omega)
  subst hfe
  iexact H

/-- A load of a group of rows. -/
theorem act_load_q {Q : α → sProp 𝕄} (c : Dev nD) (h : Fin 8) (r : Fin 4) {off : Fin 4 → ℕ} (hoff : off = ![h.val, r.val, 0, 0]) {inb}
    {hl : qM.view.LoadsAt (Rect.unit (s := S8x4x256x128) off S1x1x256x128.size inb).toLoadRect} {k : Vec F S1x1x256x128 .f32 → Prog (TpuEff nD τ sig (Elt F) Λ₀ .tc) α} :
    qfull m c ⊢ iprop((qfull m c -∗ WP c (k (qch m (wqh m c h) r)) Q)
      -∗ WP c (.op (.load qM (Rect.unit (s := S8x4x256x128) off S1x1x256x128.size inb).toLoadRect hl) k) Q) :=
  act_load c qM (Rect.unit (s := S8x4x256x128) off S1x1x256x128.size inb) (fun _ => Finset.mem_univ _) _ fun y =>
    ((congrArg (QF m c) (emb_q h r hoff inb y)).trans (congrArg (qch m (wqh m c h) r) (eq_q y).symm) : _)

/-- A load before the store that overwrites it. -/
theorem act_peek_q {Q : α → sProp 𝕄} (c : Dev nD) (n : ℕ) {r : Rect S8x4x256x128}
    {hl : qM.view.LoadsAt r.toLoadRect} {k : (r.shape.Idx → Elt F .f32) → Prog (TpuEff nD τ sig (Elt F) Λ₀ .tc) α} :
    qst m c n ⊢ iprop((∀ v, qst m c n -∗ WP c (k v) Q) -∗ WP c (.op (.load qM r.toLoadRect hl) k) Q) := by
  unfold qst
  iintro ⟨%f, %hf, H⟩ Hk
  iapply (act_load c qM r (f := f) (fun _ => Finset.mem_univ _) _ fun _ => rfl) $$ H
  iintro H
  iapply Hk
  iexists f
  isplitr; · ipureintro; exact hf
  iexact H

/-- The store of the next group of rows. -/
theorem act_put_q {Q : α → sProp 𝕄} (c : Dev nD) (h : Fin 8) (r : Fin 4) {off : Fin 4 → ℕ} (hoff : off = ![h.val, r.val, 0, 0]) {n n' : ℕ}
    (hn : n = 4 * h.val + r.val) (hn' : n' = n + 1) {inb}
    {w : Vec F S1x1x256x128 .f32} (hw : w = qch m (wqh m c h) r) {hx hm} :
    qst m c n ⊢ iprop((qst m c n' -∗ WP c (kt ⟨⟩) Q)
      -∗ WP c (.op (.store qM (Rect.unit (s := S8x4x256x128) off S1x1x256x128.size inb) w Finset.univ hx hm) kt) Q) := by
  unfold qst
  iintro ⟨%f, %hf, H⟩ Hk
  iapply (act_store c qM (Rect.unit (s := S8x4x256x128) off S1x1x256x128.size inb) (f := f)) $$ H
  iintro %g %hg H
  iapply Hk
  iexists g
  isplitr
  · ipureintro
    intro i hi
    by_cases hlt : 4 * (i 0).val + (i 1).val < n
    · refine (hg.2 i fun y hy => ?_).trans (hf i hlt)
      have hy' := (emb_q h r hoff inb y).symm.trans hy
      have h0 : h.val = (i 0).val := congrArg (fun j : S8x4x256x128.Idx => (j 0).val) hy'
      have h1 : r.val = (i 1).val := congrArg (fun j : S8x4x256x128.Idx => (j 1).val) hy'
      omega
    · have h1 : (i 1).val < 4 := (i 1).isLt
      have e0 : i 0 = h := Fin.ext (by omega)
      have e1 : i 1 = r := Fin.ext (by omega)
      have hy := hg.1 (ix4 (0 : Fin 1) (0 : Fin 1) (i 2) (i 3) : S1x1x256x128.Idx)
      have he : (Rect.unit (s := S8x4x256x128) off S1x1x256x128.size inb).emb (ix4 (0 : Fin 1) (0 : Fin 1) (i 2) (i 3) : S1x1x256x128.Idx) = i :=
        (emb_q h r hoff inb _).trans (funext fun a => Fin.ext (by fin_cases a <;> first | exact congrArg Fin.val e0.symm | exact congrArg Fin.val e1.symm | rfl))
      rw [he, hw] at hy
      refine (hy : g i = _).trans ?_
      unfold QF
      rw [e0, e1]
  iexact H

/-! ## The buffer of partial sums -/

theorem emb_a (h : Fin 8) (r : Fin 4) {off : Fin 5 → ℕ} (hoff : off = ![0, h.val, r.val, 0, 0]) (inb) (y : S4x1x1x64x128.Idx) :
    (Rect.unit (s := S4x8x4x64x128) off S4x1x1x64x128.size inb).emb y = (ix5 (y 0) h r (y 3) (y 4) : S4x8x4x64x128.Idx) := by
  subst hoff
  refine funext fun a => Fin.ext ((Rect.emb_apply _ _ _).trans ?_)
  have h1 : (y 1).val < 1 := (y 1).isLt
  have h2 : (y 2).val < 1 := (y 2).isLt
  fin_cases a
  · show 0 + 1 * (y 0).val = (y 0).val; omega
  · show h.val + 1 * (y 1).val = h.val; omega
  · show r.val + 1 * (y 2).val = r.val; omega
  · show 0 + 1 * (y 3).val = (y 3).val; omega
  · show 0 + 1 * (y 4).val = (y 4).val; omega

/-- The buffer with its first `n` groups in place. -/
def ast (c : Dev nD) (n : ℕ) : sProp 𝕄 :=
  iprop(∃ f : Vec F S4x8x4x64x128 .bf16, ⌜∀ i : S4x8x4x64x128.Idx, 4 * (i 1).val + (i 2).val < n → f i = PA m c i⌝ ∗ pts c cc0_scratch5 Finset.univ fullShare f)

theorem ast_start (c : Dev nD) : any (F := F) c cc0_scratch5 Finset.univ ⊢ ast m c 0 := by
  unfold any ast
  iintro ⟨%f, H⟩
  iexists f
  isplitr; · ipureintro; exact fun i hi => absurd hi (Nat.not_lt_zero _)
  iexact H

theorem ast_full (c : Dev nD) : ast m c 32 ⊢ pts c cc0_scratch5 Finset.univ fullShare (PA m c) := by
  unfold ast
  iintro ⟨%f, %hf, H⟩
  have hfe : f = PA m c := funext fun i => hf i (by
    have h0 : (i 1).val < 8 := (i 1).isLt
    have h1 : (i 2).val < 4 := (i 2).isLt
    omega)
  subst hfe
  iexact H

theorem act_peek_a {Q : α → sProp 𝕄} (c : Dev nD) (n : ℕ) {r : Rect S4x8x4x64x128}
    {hl : paM.view.LoadsAt r.toLoadRect} {k : (r.shape.Idx → Elt F .bf16) → Prog (TpuEff nD τ sig (Elt F) Λ₀ .tc) α} :
    ast m c n ⊢ iprop((∀ v, ast m c n -∗ WP c (k v) Q) -∗ WP c (.op (.load paM r.toLoadRect hl) k) Q) := by
  unfold ast
  iintro ⟨%f, %hf, H⟩ Hk
  iapply (act_load c paM r (f := f) (fun _ => Finset.mem_univ _) _ fun _ => rfl) $$ H
  iintro H
  iapply Hk
  iexists f
  isplitr; · ipureintro; exact hf
  iexact H

theorem act_put_a {Q : α → sProp 𝕄} (c : Dev nD) (h : Fin 8) (r : Fin 4) {off : Fin 5 → ℕ} (hoff : off = ![0, h.val, r.val, 0, 0]) {n n' : ℕ}
    (hn : n = 4 * h.val + r.val) (hn' : n' = n + 1) {inb}
    {w : Vec F S4x1x1x64x128 .bf16} (hw : w = AV m c h r) {hx hm} :
    ast m c n ⊢ iprop((ast m c n' -∗ WP c (kt ⟨⟩) Q)
      -∗ WP c (.op (.store paM (Rect.unit (s := S4x8x4x64x128) off S4x1x1x64x128.size inb) w Finset.univ hx hm) kt) Q) := by
  unfold ast
  iintro ⟨%f, %hf, H⟩ Hk
  iapply (act_store c paM (Rect.unit (s := S4x8x4x64x128) off S4x1x1x64x128.size inb) (f := f)) $$ H
  iintro %g %hg H
  iapply Hk
  iexists g
  isplitr
  · ipureintro
    intro i hi
    by_cases hlt : 4 * (i 1).val + (i 2).val < n
    · refine (hg.2 i fun y hy => ?_).trans (hf i hlt)
      have hy' := (emb_a h r hoff inb y).symm.trans hy
      have h0 : h.val = (i 1).val := congrArg (fun j : S4x8x4x64x128.Idx => (j 1).val) hy'
      have h1 : r.val = (i 2).val := congrArg (fun j : S4x8x4x64x128.Idx => (j 2).val) hy'
      omega
    · have h1 : (i 2).val < 4 := (i 2).isLt
      have e0 : i 1 = h := Fin.ext (by omega)
      have e1 : i 2 = r := Fin.ext (by omega)
      have hy := hg.1 (ix5 (i 0) (0 : Fin 1) (0 : Fin 1) (i 3) (i 4) : S4x1x1x64x128.Idx)
      have he : (Rect.unit (s := S4x8x4x64x128) off S4x1x1x64x128.size inb).emb (ix5 (i 0) (0 : Fin 1) (0 : Fin 1) (i 3) (i 4) : S4x1x1x64x128.Idx) = i :=
        (emb_a h r hoff inb _).trans (funext fun a => Fin.ext (by fin_cases a <;> first | exact congrArg Fin.val e0.symm | exact congrArg Fin.val e1.symm | rfl))
      rw [he, hw] at hy
      refine (hy : g i = _).trans ?_
      unfold PA
      rw [e0, e1]
  iexact H

/-! ## The buffer of statistics -/

theorem emb_s (h : Fin 8) (r : Fin 4) {off : Fin 5 → ℕ} (hoff : off = ![0, h.val, r.val, 0, 0]) (inb) (y : S4x1x1x64x2.Idx) :
    (Rect.unit (s := S4x8x4x64x2) off S4x1x1x64x2.size inb).emb y = (ix5 (y 0) h r (y 3) (y 4) : S4x8x4x64x2.Idx) := by
  subst hoff
  refine funext fun a => Fin.ext ((Rect.emb_apply _ _ _).trans ?_)
  have h1 : (y 1).val < 1 := (y 1).isLt
  have h2 : (y 2).val < 1 := (y 2).isLt
  fin_cases a
  · show 0 + 1 * (y 0).val = (y 0).val; omega
  · show h.val + 1 * (y 1).val = h.val; omega
  · show r.val + 1 * (y 2).val = r.val; omega
  · show 0 + 1 * (y 3).val = (y 3).val; omega
  · show 0 + 1 * (y 4).val = (y 4).val; omega

/-- The buffer with its first `n` groups in place. -/
def sst (c : Dev nD) (n : ℕ) : sProp 𝕄 :=
  iprop(∃ f : Vec F S4x8x4x64x2 .f32, ⌜∀ i : S4x8x4x64x2.Idx, 4 * (i 1).val + (i 2).val < n → f i = PS m c i⌝ ∗ pts c cc0_scratch6 Finset.univ fullShare f)

theorem sst_start (c : Dev nD) : any (F := F) c cc0_scratch6 Finset.univ ⊢ sst m c 0 := by
  unfold any sst
  iintro ⟨%f, H⟩
  iexists f
  isplitr; · ipureintro; exact fun i hi => absurd hi (Nat.not_lt_zero _)
  iexact H

theorem sst_full (c : Dev nD) : sst m c 32 ⊢ pts c cc0_scratch6 Finset.univ fullShare (PS m c) := by
  unfold sst
  iintro ⟨%f, %hf, H⟩
  have hfe : f = PS m c := funext fun i => hf i (by
    have h0 : (i 1).val < 8 := (i 1).isLt
    have h1 : (i 2).val < 4 := (i 2).isLt
    omega)
  subst hfe
  iexact H

theorem act_peek_s {Q : α → sProp 𝕄} (c : Dev nD) (n : ℕ) {r : Rect S4x8x4x64x2}
    {hl : psM.view.LoadsAt r.toLoadRect} {k : (r.shape.Idx → Elt F .f32) → Prog (TpuEff nD τ sig (Elt F) Λ₀ .tc) α} :
    sst m c n ⊢ iprop((∀ v, sst m c n -∗ WP c (k v) Q) -∗ WP c (.op (.load psM r.toLoadRect hl) k) Q) := by
  unfold sst
  iintro ⟨%f, %hf, H⟩ Hk
  iapply (act_load c psM r (f := f) (fun _ => Finset.mem_univ _) _ fun _ => rfl) $$ H
  iintro H
  iapply Hk
  iexists f
  isplitr; · ipureintro; exact hf
  iexact H

theorem act_put_s {Q : α → sProp 𝕄} (c : Dev nD) (h : Fin 8) (r : Fin 4) {off : Fin 5 → ℕ} (hoff : off = ![0, h.val, r.val, 0, 0]) {n n' : ℕ}
    (hn : n = 4 * h.val + r.val) (hn' : n' = n + 1) {inb}
    {w : Vec F S4x1x1x64x2 .f32} (hw : w = SV m c h r) {hx hm} :
    sst m c n ⊢ iprop((sst m c n' -∗ WP c (kt ⟨⟩) Q)
      -∗ WP c (.op (.store psM (Rect.unit (s := S4x8x4x64x2) off S4x1x1x64x2.size inb) w Finset.univ hx hm) kt) Q) := by
  unfold sst
  iintro ⟨%f, %hf, H⟩ Hk
  iapply (act_store c psM (Rect.unit (s := S4x8x4x64x2) off S4x1x1x64x2.size inb) (f := f)) $$ H
  iintro %g %hg H
  iapply Hk
  iexists g
  isplitr
  · ipureintro
    intro i hi
    by_cases hlt : 4 * (i 1).val + (i 2).val < n
    · refine (hg.2 i fun y hy => ?_).trans (hf i hlt)
      have hy' := (emb_s h r hoff inb y).symm.trans hy
      have h0 : h.val = (i 1).val := congrArg (fun j : S4x8x4x64x2.Idx => (j 1).val) hy'
      have h1 : r.val = (i 2).val := congrArg (fun j : S4x8x4x64x2.Idx => (j 2).val) hy'
      omega
    · have h1 : (i 2).val < 4 := (i 2).isLt
      have e0 : i 1 = h := Fin.ext (by omega)
      have e1 : i 2 = r := Fin.ext (by omega)
      have hy := hg.1 (ix5 (i 0) (0 : Fin 1) (0 : Fin 1) (i 3) (i 4) : S4x1x1x64x2.Idx)
      have he : (Rect.unit (s := S4x8x4x64x2) off S4x1x1x64x2.size inb).emb (ix5 (i 0) (0 : Fin 1) (0 : Fin 1) (i 3) (i 4) : S4x1x1x64x2.Idx) = i :=
        (emb_s h r hoff inb _).trans (funext fun a => Fin.ext (by fin_cases a <;> first | exact congrArg Fin.val e0.symm | exact congrArg Fin.val e1.symm | rfl))
      rw [he, hw] at hy
      refine (hy : g i = _).trans ?_
      unfold PS
      rw [e0, e1]
  iexact H

/-! ## The keys and the values of a slot -/

theorem emb_k (s : Fin 3) (r : Fin 4) {off : Fin 5 → ℕ} (hoff : off = ![s.val, 0, r.val, 0, 0]) (inb) (y : S1x16x1x64x128.Idx) :
    (Rect.unit (s := S3x16x4x64x128) off S1x16x1x64x128.size inb).emb y = (ix5 s (y 1) r (y 3) (y 4) : S3x16x4x64x128.Idx) := by
  subst hoff
  refine funext fun a => Fin.ext ((Rect.emb_apply _ _ _).trans ?_)
  have h1 : (y 0).val < 1 := (y 0).isLt
  have h2 : (y 2).val < 1 := (y 2).isLt
  fin_cases a
  · show s.val + 1 * (y 0).val = s.val; omega
  · show 0 + 1 * (y 1).val = (y 1).val; omega
  · show r.val + 1 * (y 2).val = r.val; omega
  · show 0 + 1 * (y 3).val = (y 3).val; omega
  · show 0 + 1 * (y 4).val = (y 4).val; omega

theorem act_load_k {Q : α → sProp 𝕄} (c : Dev nD) (s : Fin 3) (h : Fin 8) (r : Fin 4) {off : Fin 5 → ℕ} (hoff : off = ![s.val, 0, r.val, 0, 0]) {inb}
    {hl : ksM.view.LoadsAt (Rect.unit (s := S3x16x4x64x128) off S1x16x1x64x128.size inb).toLoadRect} {k : Vec F S1x16x1x64x128 .f32 → Prog (TpuEff nD τ sig (Elt F) Λ₀ .tc) α} :
    kgot m c s h ⊢ iprop((kgot m c s h -∗ WP c (k (hdr (karr m c) h r)) Q)
      -∗ WP c (.op (.load ksM (Rect.unit (s := S3x16x4x64x128) off S1x16x1x64x128.size inb).toLoadRect hl) k) Q) := by
  unfold kgot
  iintro ⟨Hd, Hr⟩ Hk
  iapply (act_load c ksM (Rect.unit (s := S3x16x4x64x128) off S1x16x1x64x128.size inb) (S := slot s) (q := fullShare) (f := hd (karr m c) h)
    (fun y => by
      show (Rect.unit (s := S3x16x4x64x128) off S1x16x1x64x128.size inb).emb y ∈ slot s
      rw [emb_k s r hoff inb y]
      exact Finset.mem_filter.mpr ⟨Finset.mem_univ _, rfl⟩) (hdr (karr m c) h r) fun y => (congrArg (hd (karr m c) h) (emb_k s r hoff inb y) : _)) $$ Hd
  iintro Hd
  iapply Hk
  isplitl [Hd]; · iexact Hd
  iexact Hr

theorem act_load_v {Q : α → sProp 𝕄} (c : Dev nD) (s : Fin 3) (h : Fin 8) (r : Fin 4) {off : Fin 5 → ℕ} (hoff : off = ![s.val, 0, r.val, 0, 0]) {inb}
    {hl : vsM.view.LoadsAt (Rect.unit (s := S3x16x4x64x128) off S1x16x1x64x128.size inb).toLoadRect} {k : Vec F S1x16x1x64x128 .f32 → Prog (TpuEff nD τ sig (Elt F) Λ₀ .tc) α} :
    vgot m c s h ⊢ iprop((vgot m c s h -∗ WP c (k (hdr (varr m c) h r)) Q)
      -∗ WP c (.op (.load vsM (Rect.unit (s := S3x16x4x64x128) off S1x16x1x64x128.size inb).toLoadRect hl) k) Q) := by
  unfold vgot
  iintro ⟨Hd, Hr⟩ Hk
  iapply (act_load c vsM (Rect.unit (s := S3x16x4x64x128) off S1x16x1x64x128.size inb) (S := slot s) (q := fullShare) (f := hd (varr m c) h)
    (fun y => by
      show (Rect.unit (s := S3x16x4x64x128) off S1x16x1x64x128.size inb).emb y ∈ slot s
      rw [emb_k s r hoff inb y]
      exact Finset.mem_filter.mpr ⟨Finset.mem_univ _, rfl⟩) (hdr (varr m c) h r) fun y => (congrArg (hd (varr m c) h) (emb_k s r hoff inb y) : _)) $$ Hd
  iintro Hd
  iapply Hk
  isplitl [Hd]; · iexact Hd
  iexact Hr

/-! ## The query weights -/

theorem act_load_w {Q : α → sProp 𝕄} (c : Dev nD) (h : Fin 8) {off : Fin 2 → ℕ} (hoff : off = ![0, 128 * h.val]) {inb}
    {hl : wM.view.LoadsAt (Rect.unit (s := S1024x1024) off S1024x128.size inb).toLoadRect} {k : Vec F S1024x128 .f32 → Prog (TpuEff nD τ sig (Elt F) Λ₀ .tc) α} :
    pts c cc0_stg1_0 Finset.univ fullShare (wstg m c) ⊢ iprop((pts c cc0_stg1_0 Finset.univ fullShare (wstg m c) -∗ WP c (k (wqh m c h)) Q)
      -∗ WP c (.op (.load wM (Rect.unit (s := S1024x1024) off S1024x128.size inb).toLoadRect hl) k) Q) :=
  act_load c wM (Rect.unit (s := S1024x1024) off S1024x128.size inb) (fun _ => Finset.mem_univ _) _ fun y => by
    subst hoff
    refine congrArg (wstg m c) (funext fun a => Fin.ext ((Rect.emb_apply _ _ _).trans ?_))
    fin_cases a
    · show 0 + 1 * (y 0).val = (y 0).val; omega
    · show 128 * h.val + 1 * (y 1).val = 128 * h.val + (y 1).val; omega

end Cert.Attn

end
-- ==== Proof.Loop.lean ====
/-
The loop over the heads: one trip waits for its head, asks for the head two further on, and leaves the partial
sums and statistics of the four residues; and the loop.
-/
module

public import proofs.«01_k».proof.Proof.Memory

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

theorem act_ret {Q : α → sProp 𝕄} (c : Dev nD) (a : α) : Q a ⊢ WP c (.ret a) Q := fupd_intro

theorem act_bind {β : Type} {Q : α → sProp 𝕄} (c : Dev nD) (p : Prog (TpuEff nD τ sig (Elt F) Λ₀ .tc) β) (k : β → Prog (TpuEff nD τ sig (Elt F) Λ₀ .tc) α) :
    WP c (p >>= k) Q = WP c p (fun a => WP c (k a) Q) := wp_bind _ _ _ p k Q

theorem sem_k (s : Fin 3) {off : Fin 1 → ℕ} (hoff : off = ![s.val]) (inb hq) :
    ((cc0_scratch16.slice (Rect.unit (s := S3) off S1.size inb)).squeeze S_ hq).sem = kcpS s := by
  subst hoff; fin_cases s <;> with_unfolding_all rfl
theorem sem_v (s : Fin 3) {off : Fin 1 → ℕ} (hoff : off = ![s.val]) (inb hq) :
    ((cc0_scratch17.slice (Rect.unit (s := S3) off S1.size inb)).squeeze S_ hq).sem = vcpS s := by
  subst hoff; fin_cases s <;> with_unfolding_all rfl

section
variable (c : Dev nD) (t : Fin k0_t1_loop.trips) (s s' : Fin 3) (h h' : Fin 8) (v : Sems sig S_)

theorem run_part1 (hs : s.val = t.val % 3) (a b : BitVec 32) {Q} :
    iprop(Ctx m ∗ Ow c 6 ∗ kfly m c s h ∗ vfly m c s h)
      ⊢ iprop((∀ r, (Ow c 6 ∗ kgot m c s h ∗ vgot m c s h) -∗ Q r) -∗ WP c (k0_part1 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v a b t) Q) := by
  rw [k0_part1_eq_skeleton]
  unfold k0_part1_skel
  simp only [semSignalWord, semWaitWord, Prog.lift, Prog.bind_op, Prog.bind_ret, Prog.pure_eq_ret, wp_deviceId]
  have h5 : k0_off5 t = ![s.val] := by rw [off5_eq, hs]
  iintro ⟨#HC, HO, HK, HV⟩ Hk
  iapply (act_waitK m c s h (sem_k s h5 _ _) rfl) $$ [HO HK]
  · isplitr; · iexact HC
    isplitl [HO]; · iexact HO
    iexact HK
  iintro ⟨HO, HK⟩
  iapply (act_waitV m c s h (sem_v s h5 _ _) rfl) $$ [HO HV]
  · isplitr; · iexact HC
    isplitl [HO]; · iexact HO
    iexact HV
  iintro ⟨HO, HV⟩
  iapply (act_ret c)
  iapply Hk
  isplitl [HO]; · iexact HO
  isplitl [HK]; · iexact HK
  iexact HV

theorem run_part2 (hs : s.val = t.val % 3) (hs' : s'.val = (t.val + 2) % 3) (hh : h.val = t.val) (hh' : h'.val = min (t.val + 2) 7)
    (a b d e f : BitVec 32) {Q} :
    iprop(kfree m c s' ∗ vfree m c s' ∗ qfull m c ∗ kgot m c s h ∗ vgot m c s h)
      ⊢ iprop(((kfly m c s' h' ∗ vfly m c s' h' ∗ qfull m c ∗ kgot m c s h ∗ vgot m c s h)
            -∗ Q ⟨k0_pay1 (qch m (wqh m c h) 0), k0_pay2 (hdr (karr m c) h 0), k0_pay3 (hdr (varr m c) h 0)⟩)
        -∗ WP c (k0_part2 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v t a b d e f) Q) := by
  rw [k0_part2_eq_skeleton]
  unfold k0_part2_skel
  simp only [semSignalWord, semWaitWord, Prog.lift, Prog.bind_op, Prog.bind_ret, Prog.pure_eq_ret, wp_deviceId]
  have h8 : k0_off8 t = ![s'.val] := by rw [off8_eq, hs']
  have h9 : k0_off9 t = ![s'.val, 0, 0, 0, 0] := by rw [off9_eq, hs']
  have h10 : k0_off10 t = ![0, 0, 0, h'.val, 0] := by rw [k0_off10_eq, hh']
  have h11 : k0_off11 t = ![h.val, ((0 : Fin 4) : ℕ), 0, 0] := by rw [k0_off11_eq, hh]; rfl
  have h12 : k0_off12 t = ![s.val, 0, ((0 : Fin 4) : ℕ), 0, 0] := by rw [off12_eq, hs]; rfl
  iintro ⟨HK', HV', HQ, HK, HV⟩ Hk
  iapply (act_copyK m c s' h' (sem_k s' h8 _ _) h10 h9) $$ HK'
  iintro HK'
  iapply (act_copyV m c s' h' (sem_v s' h8 _ _) h10 h9) $$ HV'
  iintro HV'
  iapply (act_load_q m c h 0 h11) $$ HQ
  iintro HQ
  iapply (act_load_k m c s h 0 h12) $$ HK
  iintro HK
  iapply (act_load_v m c s h 0 h12) $$ HV
  iintro HV
  iapply (act_ret c)
  iapply Hk
  isplitl [HK']; · iexact HK'
  isplitl [HV']; · iexact HV'
  isplitl [HQ]; · iexact HQ
  isplitl [HK]; · iexact HK
  iexact HV

theorem run_part3 (hs : s.val = t.val % 3) (hh : h.val = t.val) (a b : BitVec 32) {Q} :
    iprop(qfull m c ∗ kgot m c s h ∗ vgot m c s h ∗ ast m c (4 * h.val + 0) ∗ sst m c (4 * h.val + 0))
      ⊢ iprop(((qfull m c ∗ kgot m c s h ∗ vgot m c s h ∗ ast m c (4 * h.val + 1) ∗ sst m c (4 * h.val + 1))
            -∗ Q ⟨k0_pay9 (qch m (wqh m c h) 1), k0_pay10 (hdr (karr m c) h 1), k0_pay11 (hdr (varr m c) h 1)⟩)
        -∗ WP c (k0_part3 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v t a b (k0_pay1 (qch m (wqh m c h) 0)) (k0_pay2 (hdr (karr m c) h 0)) (k0_pay3 (hdr (varr m c) h 0))) Q) := by
  rw [k0_part3_eq_skeleton]
  unfold k0_part3_skel
  simp only [semSignalWord, semWaitWord, Prog.lift, Prog.bind_op, Prog.bind_ret, Prog.pure_eq_ret, wp_deviceId]
  have ha : k0_off13 t = ![0, h.val, ((0 : Fin 4) : ℕ), 0, 0] := by rw [k0_off13_eq, hh]; rfl
  have hst : k0_off14 t = ![0, h.val, ((0 : Fin 4) : ℕ), 0, 0] := by rw [k0_off14_eq, hh]; rfl
  have hq : k0_off15 t = ![h.val, ((1 : Fin 4) : ℕ), 0, 0] := by rw [k0_off15_eq, hh]; rfl
  have hk : k0_off16 t = ![s.val, 0, ((1 : Fin 4) : ℕ), 0, 0] := by rw [off16_eq, hs]; rfl
  iintro ⟨HQ, HK, HV, HA, HS⟩ Hk
  iapply (act_peek_a m c (4 * h.val + 0)) $$ HA
  iintro %_ HA
  iapply (act_put_a m c h 0 ha (n' := 4 * h.val + 1) rfl rfl (by rfl)) $$ HA
  iintro HA
  iapply (act_peek_s m c (4 * h.val + 0)) $$ HS
  iintro %_ HS
  iapply (act_put_s m c h 0 hst (n' := 4 * h.val + 1) rfl rfl (by rfl)) $$ HS
  iintro HS
  iapply (act_load_q m c h 1 hq) $$ HQ
  iintro HQ
  iapply (act_load_k m c s h 1 hk) $$ HK
  iintro HK
  iapply (act_load_v m c s h 1 hk) $$ HV
  iintro HV
  iapply (act_ret c)
  iapply Hk
  isplitl [HQ]; · iexact HQ
  isplitl [HK]; · iexact HK
  isplitl [HV]; · iexact HV
  isplitl [HA]; · iexact HA
  iexact HS

theorem run_part4 (hs : s.val = t.val % 3) (hh : h.val = t.val) (a b : BitVec 32) {Q} :
    iprop(qfull m c ∗ kgot m c s h ∗ vgot m c s h ∗ ast m c (4 * h.val + 1) ∗ sst m c (4 * h.val + 1))
      ⊢ iprop(((qfull m c ∗ kgot m c s h ∗ vgot m c s h ∗ ast m c (4 * h.val + 2) ∗ sst m c (4 * h.val + 2))
            -∗ Q ⟨k0_pay17 (qch m (wqh m c h) 2), k0_pay18 (hdr (karr m c) h 2), k0_pay19 (hdr (varr m c) h 2)⟩)
        -∗ WP c (k0_part4 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v t a b (k0_pay9 (qch m (wqh m c h) 1)) (k0_pay10 (hdr (karr m c) h 1)) (k0_pay11 (hdr (varr m c) h 1))) Q) := by
  rw [k0_part4_eq_skeleton]
  unfold k0_part4_skel
  simp only [semSignalWord, semWaitWord, Prog.lift, Prog.bind_op, Prog.bind_ret, Prog.pure_eq_ret, wp_deviceId]
  have ha : k0_off17 t = ![0, h.val, ((1 : Fin 4) : ℕ), 0, 0] := by rw [k0_off17_eq, hh]; rfl
  have hst : k0_off18 t = ![0, h.val, ((1 : Fin 4) : ℕ), 0, 0] := by rw [k0_off18_eq, hh]; rfl
  have hq : k0_off19 t = ![h.val, ((2 : Fin 4) : ℕ), 0, 0] := by rw [k0_off19_eq, hh]; rfl
  have hk : k0_off20 t = ![s.val, 0, ((2 : Fin 4) : ℕ), 0, 0] := by rw [off20_eq, hs]; rfl
  iintro ⟨HQ, HK, HV, HA, HS⟩ Hk
  iapply (act_peek_a m c (4 * h.val + 1)) $$ HA
  iintro %_ HA
  iapply (act_put_a m c h 1 ha (n' := 4 * h.val + 2) rfl rfl (by rfl)) $$ HA
  iintro HA
  iapply (act_peek_s m c (4 * h.val + 1)) $$ HS
  iintro %_ HS
  iapply (act_put_s m c h 1 hst (n' := 4 * h.val + 2) rfl rfl (by rfl)) $$ HS
  iintro HS
  iapply (act_load_q m c h 2 hq) $$ HQ
  iintro HQ
  iapply (act_load_k m c s h 2 hk) $$ HK
  iintro HK
  iapply (act_load_v m c s h 2 hk) $$ HV
  iintro HV
  iapply (act_ret c)
  iapply Hk
  isplitl [HQ]; · iexact HQ
  isplitl [HK]; · iexact HK
  isplitl [HV]; · iexact HV
  isplitl [HA]; · iexact HA
  iexact HS

theorem run_part5 (hs : s.val = t.val % 3) (hh : h.val = t.val) (a b : BitVec 32) {Q} :
    iprop(qfull m c ∗ kgot m c s h ∗ vgot m c s h ∗ ast m c (4 * h.val + 2) ∗ sst m c (4 * h.val + 2))
      ⊢ iprop(((qfull m c ∗ kgot m c s h ∗ vgot m c s h ∗ ast m c (4 * h.val + 3) ∗ sst m c (4 * h.val + 3))
            -∗ Q ⟨k0_pay25 (qch m (wqh m c h) 3), k0_pay26 (hdr (karr m c) h 3), k0_pay27 (hdr (varr m c) h 3)⟩)
        -∗ WP c (k0_part5 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v t a b (k0_pay17 (qch m (wqh m c h) 2)) (k0_pay18 (hdr (karr m c) h 2)) (k0_pay19 (hdr (varr m c) h 2))) Q) := by
  rw [k0_part5_eq_skeleton]
  unfold k0_part5_skel
  simp only [semSignalWord, semWaitWord, Prog.lift, Prog.bind_op, Prog.bind_ret, Prog.pure_eq_ret, wp_deviceId]
  have ha : k0_off21 t = ![0, h.val, ((2 : Fin 4) : ℕ), 0, 0] := by rw [k0_off21_eq, hh]; rfl
  have hst : k0_off22 t = ![0, h.val, ((2 : Fin 4) : ℕ), 0, 0] := by rw [k0_off22_eq, hh]; rfl
  have hq : k0_off23 t = ![h.val, ((3 : Fin 4) : ℕ), 0, 0] := by rw [k0_off23_eq, hh]; rfl
  have hk : k0_off24 t = ![s.val, 0, ((3 : Fin 4) : ℕ), 0, 0] := by rw [off24_eq, hs]; rfl
  iintro ⟨HQ, HK, HV, HA, HS⟩ Hk
  iapply (act_peek_a m c (4 * h.val + 2)) $$ HA
  iintro %_ HA
  iapply (act_put_a m c h 2 ha (n' := 4 * h.val + 3) rfl rfl (by rfl)) $$ HA
  iintro HA
  iapply (act_peek_s m c (4 * h.val + 2)) $$ HS
  iintro %_ HS
  iapply (act_put_s m c h 2 hst (n' := 4 * h.val + 3) rfl rfl (by rfl)) $$ HS
  iintro HS
  iapply (act_load_q m c h 3 hq) $$ HQ
  iintro HQ
  iapply (act_load_k m c s h 3 hk) $$ HK
  iintro HK
  iapply (act_load_v m c s h 3 hk) $$ HV
  iintro HV
  iapply (act_ret c)
  iapply Hk
  isplitl [HQ]; · iexact HQ
  isplitl [HK]; · iexact HK
  isplitl [HV]; · iexact HV
  isplitl [HA]; · iexact HA
  iexact HS

theorem run_trip (hs : s.val = t.val % 3) (hs' : s'.val = (t.val + 2) % 3) (hh : h.val = t.val) (hh' : h'.val = min (t.val + 2) 7)
    (w : FVec F S1x1x256x128 .f32) {Q} :
    iprop(Ctx m ∗ Ow c 6 ∗ kfly m c s h ∗ vfly m c s h ∗ kfree m c s' ∗ vfree m c s' ∗ qfull m c ∗ ast m c (4 * h.val) ∗ sst m c (4 * h.val))
      ⊢ iprop(((Ow c 6 ∗ kfree m c s ∗ vfree m c s ∗ kfly m c s' h' ∗ vfly m c s' h' ∗ qfull m c ∗ ast m c (4 * h.val + 4) ∗ sst m c (4 * h.val + 4)) -∗ Q ())
        -∗ WP c (k0_t1_body (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v w t ()) Q) := by
  unfold k0_t1_body
  simp only [Prog.lift, Prog.bind_op, Prog.bind_ret, Prog.pure_eq_ret]
  simp only [act_bind]
  have ha : k0_off25 t = ![0, h.val, ((3 : Fin 4) : ℕ), 0, 0] := by rw [k0_off25_eq, hh]; rfl
  have hst : k0_off26 t = ![0, h.val, ((3 : Fin 4) : ℕ), 0, 0] := by rw [k0_off26_eq, hh]; rfl
  iintro ⟨#HC, HO, HK, HV, HK', HV', HQ, HA, HS⟩ Hk
  iapply (run_part1 m c t s h v hs _ _) $$ [HO HK HV]
  · isplitr; · iexact HC
    isplitl [HO]; · iexact HO
    isplitl [HK]; · iexact HK
    iexact HV
  iintro %r ⟨HO, HK, HV⟩
  obtain ⟨_, _, _, _, _⟩ := r
  iapply (run_part2 m c t s s' h h' v hs hs' hh hh' _ _ _ _ _) $$ [HK' HV' HQ HK HV]
  · isplitl [HK']; · iexact HK'
    isplitl [HV']; · iexact HV'
    isplitl [HQ]; · iexact HQ
    isplitl [HK]; · iexact HK
    iexact HV
  iintro ⟨HK', HV', HQ, HK, HV⟩
  iapply (run_part3 m c t s h v hs hh _ _) $$ [HQ HK HV HA HS]
  · isplitl [HQ]; · iexact HQ
    isplitl [HK]; · iexact HK
    isplitl [HV]; · iexact HV
    isplitl [HA]; · iexact HA
    iexact HS
  iintro ⟨HQ, HK, HV, HA, HS⟩
  iapply (run_part4 m c t s h v hs hh _ _) $$ [HQ HK HV HA HS]
  · isplitl [HQ]; · iexact HQ
    isplitl [HK]; · iexact HK
    isplitl [HV]; · iexact HV
    isplitl [HA]; · iexact HA
    iexact HS
  iintro ⟨HQ, HK, HV, HA, HS⟩
  iapply (run_part5 m c t s h v hs hh _ _) $$ [HQ HK HV HA HS]
  · isplitl [HQ]; · iexact HQ
    isplitl [HK]; · iexact HK
    isplitl [HV]; · iexact HV
    isplitl [HA]; · iexact HA
    iexact HS
  iintro ⟨HQ, HK, HV, HA, HS⟩
  iapply (act_peek_a m c (4 * h.val + 3)) $$ HA
  iintro %_ HA
  iapply (act_put_a m c h 3 ha (n' := 4 * h.val + 4) rfl rfl (by rfl)) $$ HA
  iintro HA
  iapply (act_peek_s m c (4 * h.val + 3)) $$ HS
  iintro %_ HS
  iapply (act_put_s m c h 3 hst (n' := 4 * h.val + 4) rfl rfl (by rfl)) $$ HS
  iintro HS
  iapply (act_ret c)
  iapply Hk
  isplitl [HO]; · iexact HO
  isplitl [HK]; · iapply (kgot_free m c s h); iexact HK
  isplitl [HV]; · iapply (vgot_free m c s h); iexact HV
  isplitl [HK']; · iexact HK'
  isplitl [HV']; · iexact HV'
  isplitl [HQ]; · iexact HQ
  isplitl [HA]; · iexact HA
  iexact HS

end

/-- The slot and the head of the copy numbered `n`: the last head again once they run out. -/
def s3 (n : ℕ) : Fin 3 := ⟨n % 3, Nat.mod_lt _ (by decide)⟩
def h8 (n : ℕ) : Fin 8 := ⟨min n 7, by omega⟩

/-- What is held before trip `n`. -/
def loopI (c : Dev nD) (n : ℕ) : sProp 𝕄 :=
  iprop(Ctx m ∗ Ow c 6 ∗ qfull m c ∗ ast m c (4 * n) ∗ sst m c (4 * n) ∗ kfly m c (s3 n) (h8 n) ∗ vfly m c (s3 n) (h8 n)
    ∗ kfly m c (s3 (n + 1)) (h8 (n + 1)) ∗ vfly m c (s3 (n + 1)) (h8 (n + 1)) ∗ kfree m c (s3 (n + 2)) ∗ vfree m c (s3 (n + 2)))

theorem loop_step (c : Dev nD) (v : Sems sig S_) (w : FVec F S1x1x256x128 .f32) (t : Fin k0_t1_loop.trips) :
    loopI m c t.val ⊢ WP c (k0_t1_body (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v w t ()) (fun _ => loopI m c (t.val + 1)) := by
  have ht : t.val < 8 := lt_of_lt_of_eq t.isLt trips_eq
  have hh : (h8 t.val).val = t.val := by show min t.val 7 = t.val; omega
  have e : s3 (t.val + 1 + 2) = s3 t.val := Fin.ext (by show (t.val + 1 + 2) % 3 = t.val % 3; omega)
  unfold loopI
  rw [e]
  iintro ⟨#HC, HO, HQ, HA, HS, HK, HV, HK1, HV1, HK2, HV2⟩
  iapply (run_trip m c t (s3 t.val) (s3 (t.val + 2)) (h8 t.val) (h8 (t.val + 2)) v rfl rfl hh rfl w) $$ [HO HQ HA HS HK HV HK2 HV2]
  · rw [hh]
    isplitr; · iexact HC
    isplitl [HO]; · iexact HO
    isplitl [HK]; · iexact HK
    isplitl [HV]; · iexact HV
    isplitl [HK2]; · iexact HK2
    isplitl [HV2]; · iexact HV2
    isplitl [HQ]; · iexact HQ
    isplitl [HA]; · iexact HA
    iexact HS
  rw [hh]
  iintro ⟨HO, HK, HV, HK2, HV2, HQ, HA, HS⟩
  isplitr; · iexact HC
  isplitl [HO]; · iexact HO
  isplitl [HQ]; · iexact HQ
  isplitl [HA]; · iexact HA
  isplitl [HS]; · iexact HS
  isplitl [HK1]; · iexact HK1
  isplitl [HV1]; · iexact HV1
  isplitl [HK2]; · iexact HK2
  isplitl [HV2]; · iexact HV2
  isplitl [HK]; · iexact HK
  iexact HV

/-- The loop. -/
theorem run_loop {Q : α → sProp 𝕄} (c : Dev nD) (v : Sems sig S_) (w : FVec F S1x1x256x128 .f32) {kk : Unit → Prog (TpuEff nD τ sig (Elt F) Λ₀ .tc) α} :
    loopI m c 0 ⊢ iprop((loopI m c 8 -∗ WP c (kk ()) Q) -∗ WP c (Scf.Loop.for k0_t1_loop k0_t1_ok ⟨⟩ (k0_t1_body (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v w) >>= kk) Q) := by
  have h := Scf.wp_for_bind frame (wpE (defs₀ (F := F)) 𝒱₀ (c : Thread nD τ) none) Set.univ k0_t1_loop.lb k0_t1_loop.ub k0_t1_loop.st k0_t1_ok ()
    (k0_t1_body (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v w) (fun n _ => loopI m c n) (fun k _ => loop_step m c v w k) (kk := kk) (Q := Q)
  have h8 : Scf.trips k0_t1_loop.lb k0_t1_loop.ub k0_t1_loop.st = 8 := trips_eq
  rw [h8] at h
  iintro H Hk
  iapply h $$ H
  iintro %_ H
  iapply Hk; iexact H

end Cert.Attn

end
-- ==== Proof.Parcels.lean ====
/-
What passes between the devices: the semaphores by name, what a device holds to send, to receive and to take
back one piece, and the pieces put together.
-/
module

public import proofs.«01_k».proof.Proof.Loop

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

/-! ## The semaphores by name -/

theorem sem_xs (j : Fin 3) {off : Fin 1 → ℕ} (hoff : off = ![j.val]) (inb hq) :
    SemLoc.dma ((cc0_scratch9.slice (Rect.unit (s := S3) off S1.size inb)).squeeze S_ hq).sem = csem (.xs j) := by
  subst hoff; fin_cases j <;> with_unfolding_all rfl
theorem sem_xr (s : Fin 4) {off : Fin 1 → ℕ} (hoff : off = ![s.val]) (inb hq) :
    SemLoc.dma ((cc0_scratch10.slice (Rect.unit (s := S4) off S1.size inb)).squeeze S_ hq).sem = csem (.xr s) := by
  subst hoff; fin_cases s <;> with_unfolding_all rfl
theorem sem_pa (h : Fin 2) (j : Fin 3) {off : Fin 2 → ℕ} {off' : Fin 1 → ℕ} (hoff : off = ![h.val, 0]) (hoff' : off' = ![j.val]) (inb hq inb' hq') :
    SemLoc.dma ((((cc0_scratch11.slice (Rect.unit (s := S2x3) off S1x3.size inb)).squeeze S3 hq).slice (Rect.unit (s := S3) off' S1.size inb')).squeeze S_ hq').sem
      = csem (.pa h j) := by
  subst hoff hoff'; fin_cases h <;> fin_cases j <;> with_unfolding_all rfl
theorem sem_ps (h : Fin 2) (j : Fin 3) {off : Fin 2 → ℕ} {off' : Fin 1 → ℕ} (hoff : off = ![h.val, 0]) (hoff' : off' = ![j.val]) (inb hq inb' hq') :
    SemLoc.dma ((((cc0_scratch13.slice (Rect.unit (s := S2x3) off S1x3.size inb)).squeeze S3 hq).slice (Rect.unit (s := S3) off' S1.size inb')).squeeze S_ hq').sem
      = csem (.ps h j) := by
  subst hoff hoff'; fin_cases h <;> fin_cases j <;> with_unfolding_all rfl
theorem sem_ra (h : Fin 2) (s : Fin 4) {off : Fin 2 → ℕ} {off' : Fin 1 → ℕ} (hoff : off = ![h.val, 0]) (hoff' : off' = ![s.val]) (inb hq inb' hq') :
    SemLoc.dma ((((cc0_scratch12.slice (Rect.unit (s := S2x4) off S1x4.size inb)).squeeze S4 hq).slice (Rect.unit (s := S4) off' S1.size inb')).squeeze S_ hq').sem
      = csem (.ra h s) := by
  subst hoff hoff'; fin_cases h <;> fin_cases s <;> with_unfolding_all rfl
theorem sem_rs (h : Fin 2) (s : Fin 4) {off : Fin 2 → ℕ} {off' : Fin 1 → ℕ} (hoff : off = ![h.val, 0]) (hoff' : off' = ![s.val]) (inb hq inb' hq') :
    SemLoc.dma ((((cc0_scratch14.slice (Rect.unit (s := S2x4) off S1x4.size inb)).squeeze S4 hq).slice (Rect.unit (s := S4) off' S1.size inb')).squeeze S_ hq').sem
      = csem (.rs h s) := by
  subst hoff hoff'; fin_cases h <;> fin_cases s <;> with_unfolding_all rfl
theorem sem_cpy (i : Fin 5) {off : Fin 1 → ℕ} (hoff : off = ![i.val]) (inb hq) :
    ((cc0_scratch15.slice (Rect.unit (s := S5) off S1.size inb)).squeeze S_ hq).sem = cpyS i := by
  subst hoff; fin_cases i <;> with_unfolding_all rfl

/-! ## Bundles -/

/-- The barrier signal to the `j`-th peer, ready to go: -/
def outB (c : Dev nD) (j : Fin 3) : sProp 𝕄 := iprop(tok (F := F) (pr c j) .bar c ∗ gift (F := F) c (pr c j))
/-- the own rows to the `j`-th peer, the landing elements open; -/
def outX (c : Dev nD) (j : Fin 3) : sProp 𝕄 := iprop(tok (F := F) c (.xs j) 0 ∗ tok (F := F) (pr c j) (.xr c) 0
  ∗ pts c cc0_scratch0 Finset.univ (shareTokN fullShare j.val) (xb m c) ∗ any (F := F) (pr c j) cc0_scratch1 (slab c))
/-- a half of the partial sums; -/
def outA (c : Dev nD) (h : Fin 2) (j : Fin 3) : sProp 𝕄 := iprop(tok (F := F) c (.pa h j) 0 ∗ tok (F := F) (pr c j) (.ra h c) 0
  ∗ pts c cc0_scratch5 (pcA h (pr c j)) fullShare (PA m c) ∗ any (F := F) (pr c j) cc0_scratch7 (pcA h c))
/-- a half of the statistics. -/
def outS (c : Dev nD) (h : Fin 2) (j : Fin 3) : sProp 𝕄 := iprop(tok (F := F) c (.ps h j) 0 ∗ tok (F := F) (pr c j) (.rs h c) 0
  ∗ pts c cc0_scratch6 (pcS h (pr c j)) fullShare (PS m c) ∗ any (F := F) (pr c j) cc0_scratch8 (pcS h c))
/-- A meeting point the device is to wait at, with the launch's credit; -/
def wants (c : Dev nD) (k : Ck) : sProp 𝕄 := iprop(due (F := F) c k (amt k) ∗ at_ (F := F) c k 0)
/-- and once it has waited there. -/
def got (c : Dev nD) (k : Ck) : sProp 𝕄 := iprop(at_ (F := F) c k 1 ∗ pay m c k 0)

section
variable (c : Dev nD)

/-- Waiting for the one payment of a meeting point. -/
theorem act_take {Q : α → sProp 𝕄} (k : Ck) (i v : ℕ) (hv : above i v) (hl : lvCk k ≤ v) {sem : DmaSem sig} (hs : SemLoc.dma sem = csem k) (hd : dutiesOf c k = {0})
    {sp sp' : Space} {s s' : Shape} {e e' : EltTy} {src : Memref sig .tc sp s e} {dst : Memref sig .tc sp' s' e'}
    {hsrc : src.view.WordExact} {hdst : dst.view.WordExact} (hn : amt k = dst.view.dmaCredit) :
    iprop(Ctx m ∗ Ow c i ∗ wants (F := F) c k)
      ⊢ iprop(((Ow c i ∗ got m c k) -∗ WP c (kt ⟨⟩) Q) -∗ WP c (.op (.waitDma2 sem src dst hsrc hdst) kt) Q) := by
  have ht : total c k = amt k := by rw [total, hd, Finset.card_singleton, Nat.one_mul]
  unfold wants got
  iintro ⟨#HC, HO, Hd, Ha⟩ Hk
  iapply (act_wait_dma m c k i v hv hl hs (ht.trans hn)) $$ [HO Hd Ha]
  · isplitr; · iexact HC
    isplitl [HO]; · iexact HO
    isplitl [Hd]; · rw [ht]; iexact Hd
    iexact Ha
  rw [pay_one m c k hd]
  iexact Hk

theorem got_xs (j : Fin 3) : got m c (.xs j) = iprop(at_ c (.xs j) 1 ∗ pts c cc0_scratch0 Finset.univ (shareTokN fullShare j.val) (xb m c)) := rfl
theorem got_xr (s : Fin 4) : got m c (.xr s) = iprop(at_ c (.xr s) 1 ∗ pts c cc0_scratch1 (slab s) fullShare (XG m)) := rfl
theorem got_pa (h : Fin 2) (j : Fin 3) : got m c (.pa h j) = iprop(at_ c (.pa h j) 1 ∗ pts c cc0_scratch5 (pcA h (pr c j)) fullShare (PA m c)) := rfl
theorem got_ra (h : Fin 2) (s : Fin 4) : got m c (.ra h s) = iprop(at_ c (.ra h s) 1 ∗ pts c cc0_scratch7 (pcA h s) fullShare (RB m c)) := rfl
theorem got_ps (h : Fin 2) (j : Fin 3) : got m c (.ps h j) = iprop(at_ c (.ps h j) 1 ∗ pts c cc0_scratch6 (pcS h (pr c j)) fullShare (PS m c)) := rfl
theorem got_rs (h : Fin 2) (s : Fin 4) : got m c (.rs h s) = iprop(at_ c (.rs h s) 1 ∗ pts c cc0_scratch8 (pcS h s) fullShare (RS m c)) := rfl

theorem one_xr (j : Fin 3) : dutiesOf c (.xr (pr c j)) = {0} := if_neg (pr_ne c j)
theorem one_ra (h : Fin 2) (j : Fin 3) : dutiesOf c (.ra h (pr c j)) = {0} := if_neg (pr_ne c j)
theorem one_rs (h : Fin 2) (j : Fin 3) : dutiesOf c (.rs h (pr c j)) = {0} := if_neg (pr_ne c j)

/-- The barrier signal to the `j`-th peer. -/
theorem act_bar {Q : α → sProp 𝕄} (n : Dev nD) (j : Fin 3) (i : ℕ) (hn : n = pr c j) {sem : Sem sig} (hs : SemLoc.reg sem = csem .bar)
    (hdebt : (debts c).drop i = (pr c j, .bar) :: (debts c).drop (i + 1)) {u : ℕ} (hk : amt .bar = u) :
    iprop(Ctx m ∗ Ow c i ∗ outB (F := F) c j)
      ⊢ iprop((Ow c (i + 1) -∗ WP c (kt ⟨⟩) Q) -∗ WP c (.op (.semSignal (Dev.tc n : Thread nD τ) sem u) kt) Q) :=
  act_signal m c n (pr c j) .bar i hn hs (Finset.mem_erase.mpr ⟨(pr_ne c j).symm, Finset.mem_univ _⟩) hdebt hk

/-- The own rows to the `j`-th peer. -/
theorem send_x {Q : α → sProp 𝕄} (n : Dev nD) (j : Fin 3) (i : ℕ) (hn : n = pr c j) {sS sem : DmaSem sig} (hsS : SemLoc.dma sS = csem (.xs j))
    (hsem : SemLoc.dma sem = csem (.xr c)) (hdebt : (debts c).drop i = (pr c j, .xr c) :: (debts c).drop (i + 1))
    {off : Fin 3 → ℕ} (hoff : off = ![c.val, 0, 0]) {inb hr hq hsc hsrc hdst hty} :
    iprop(Ctx m ∗ Ow c i ∗ outX m c j)
      ⊢ iprop(((Ow c (i + 1) ∗ due c (.xs j) (amt (.xs j))) -∗ WP c (kt ⟨⟩) Q)
        -∗ WP c (.op (.enqueueDma xbM (.remote (Dev.tc n : Thread nD τ)
            ((xgM.slice (Rect.unit (s := S4x256x1024) off S1x256x1024.size inb) hr).squeeze S256x1024 hq) (.dma sS) hsc)
            (.dma sem) hsrc hdst hty) kt) Q) :=
  act_sendX m c n j i hn hsS hsem hdebt hoff

/-- A half of the partial sums to the `j`-th peer. -/
theorem send_a {Q : α → sProp 𝕄} (n : Dev nD) (h : Fin 2) (j : Fin 3) (i : ℕ) (hn : n = pr c j) {sS sem : DmaSem sig} (hsS : SemLoc.dma sS = csem (.pa h j))
    (hsem : SemLoc.dma sem = csem (.ra h c)) (hdebt : (debts c).drop i = (pr c j, .ra h c) :: (debts c).drop (i + 1))
    {offS offD : Fin 5 → ℕ} (hoffS : offS = ![(pr c j).val, 4 * h.val, 0, 0, 0]) (hoffD : offD = ![c.val, 4 * h.val, 0, 0, 0])
    {inbS hrS hqS inbD hrD hqD hsc hsrc hdst hty} :
    iprop(Ctx m ∗ Ow c i ∗ outA m c h j)
      ⊢ iprop(((Ow c (i + 1) ∗ due c (.pa h j) (amt (.pa h j))) -∗ WP c (kt ⟨⟩) Q)
        -∗ WP c (.op (.enqueueDma ((paM.slice (Rect.unit (s := S4x8x4x64x128) offS S1x4x4x64x128.size inbS) hrS).squeeze S4x4x64x128 hqS)
            (.remote (Dev.tc n : Thread nD τ)
            ((rbM.slice (Rect.unit (s := S4x8x4x64x128) offD S1x4x4x64x128.size inbD) hrD).squeeze S4x4x64x128 hqD) (.dma sS) hsc)
            (.dma sem) hsrc hdst hty) kt) Q) :=
  act_sendA m c n h j i hn hsS hsem hdebt hoffS hoffD

/-- A half of the statistics to the `j`-th peer. -/
theorem send_s {Q : α → sProp 𝕄} (n : Dev nD) (h : Fin 2) (j : Fin 3) (i : ℕ) (hn : n = pr c j) {sS sem : DmaSem sig} (hsS : SemLoc.dma sS = csem (.ps h j))
    (hsem : SemLoc.dma sem = csem (.rs h c)) (hdebt : (debts c).drop i = (pr c j, .rs h c) :: (debts c).drop (i + 1))
    {offS offD : Fin 5 → ℕ} (hoffS : offS = ![(pr c j).val, 0, 0, 0, 0]) (hoffD : offD = ![c.val, 0, 0, 0, 0])
    {offS' offD' : Fin 4 → ℕ} (hoffS' : offS' = ![4 * h.val, 0, 0, 0]) (hoffD' : offD' = ![4 * h.val, 0, 0, 0])
    {inbS hrS hqS inbS' hrS' inbD hrD hqD inbD' hrD' hsc hsrc hdst hty} :
    iprop(Ctx m ∗ Ow c i ∗ outS m c h j)
      ⊢ iprop(((Ow c (i + 1) ∗ due c (.ps h j) (amt (.ps h j))) -∗ WP c (kt ⟨⟩) Q)
        -∗ WP c (.op (.enqueueDma (((psM.slice (Rect.unit (s := S4x8x4x64x2) offS S1x8x4x64x2.size inbS) hrS).squeeze S8x4x64x2 hqS).slice
            (Rect.unit (s := S8x4x64x2) offS' S4x4x64x2.size inbS') hrS')
            (.remote (Dev.tc n : Thread nD τ)
            (((rsM.slice (Rect.unit (s := S4x8x4x64x2) offD S1x8x4x64x2.size inbD) hrD).squeeze S8x4x64x2 hqD).slice
            (Rect.unit (s := S8x4x64x2) offD' S4x4x64x2.size inbD') hrD') (.dma sS) hsc)
            (.dma sem) hsrc hdst hty) kt) Q) :=
  act_sendS m c n h j i hn hsS hsem hdebt hoffS hoffD hoffS' hoffD'

end

/-! ## The pieces -/

theorem bigSep_devs (c : Dev nD) (Φ : Dev nD → sProp 𝕄) :
    bigSep Finset.univ Φ = iprop(Φ c ∗ Φ (pr c 0) ∗ Φ (pr c 1) ∗ Φ (pr c 2)) :=
  bigSep_eq_bigSepL_of_eq [c, pr c 0, pr c 1, pr c 2] (by revert c; decide) (by revert c; decide) Φ

theorem bigSep_peers (c : Dev nD) (Φ : Dev nD → sProp 𝕄) :
    bigSep (Finset.univ.erase c) Φ = iprop(Φ (pr c 0) ∗ Φ (pr c 1) ∗ Φ (pr c 2)) :=
  bigSep_eq_bigSepL_of_eq [pr c 0, pr c 1, pr c 2] (by revert c; decide) (by revert c; decide) Φ

/-- What the barrier brings. -/
theorem gifts (c : Dev nD) : bigSep (dutiesOf c .bar) (pay m c .bar)
    = iprop(gift (F := F) (pr c 0) c ∗ gift (F := F) (pr c 1) c ∗ gift (F := F) (pr c 2) c) := bigSep_peers c fun d => gift (F := F) d c

/-- A buffer held over sets that split it by device. -/
theorem by_devs (c d : Dev nD) (b : Ref sig .tc) (K : Fin 4 → Finset b.ty.shape.Idx) (S : Finset b.ty.shape.Idx) (hK : ∀ i, i ∈ S ↔ ∃ s, i ∈ K s)
    (hd : ∀ s s', s ≠ s' → Disjoint (K s) (K s')) (q : PosShare TreeShare) (f : b.ty.Contents (Elt F)) :
    pts c b S q f = iprop(pts c b (K d) q f ∗ pts c b (K (pr d 0)) q f ∗ pts c b (K (pr d 1)) q f ∗ pts c b (K (pr d 2)) q f) := by
  have hS : S = Finset.univ.biUnion K := by ext i; rw [hK]; simp
  rw [hS, ← bigSep_devs d (fun s => pts c b (K s) q f)]
  exact pointsTo_biUnion (Ix := Unit) (Name := ℕ) (U := UU) (Lvl := ℕ) (ℓ := (c : Thread nD τ).loc b) Finset.univ K fun s _ s' _ h => hd s s' h

/-- The partial sums' and the statistics' elements of one half of the heads. -/
def halfA (h : Fin 2) : Finset S4x8x4x64x128.Idx := Finset.univ.filter fun i => (i 1).val / 4 = h.val
def halfS (h : Fin 2) : Finset S4x8x4x64x2.Idx := Finset.univ.filter fun i => (i 1).val / 4 = h.val

theorem slabs (c d : Dev nD) (q) (f : (cc0_scratch1 : Ref sig .tc).ty.Contents (Elt F)) : pts c cc0_scratch1 Finset.univ q f
    = iprop(pts c cc0_scratch1 (slab d) q f ∗ pts c cc0_scratch1 (slab (pr d 0)) q f ∗ pts c cc0_scratch1 (slab (pr d 1)) q f ∗ pts c cc0_scratch1 (slab (pr d 2)) q f) :=
  by_devs c d cc0_scratch1 slab Finset.univ (fun i => by simpa [slab] using ⟨(i 0 : Fin 4), rfl⟩)
    (fun s s' h => Finset.disjoint_filter.mpr fun i _ h₁ h₂ => h (Fin.ext (h₁.symm.trans h₂))) q f

theorem pieces5 (c d : Dev nD) (h : Fin 2) (q) (f : (cc0_scratch5 : Ref sig .tc).ty.Contents (Elt F)) : pts c cc0_scratch5 (halfA h) q f
    = iprop(pts c cc0_scratch5 (pcA h d) q f ∗ pts c cc0_scratch5 (pcA h (pr d 0)) q f ∗ pts c cc0_scratch5 (pcA h (pr d 1)) q f ∗ pts c cc0_scratch5 (pcA h (pr d 2)) q f) :=
  by_devs c d cc0_scratch5 (pcA h) (halfA h)
    (fun i => ⟨fun hi => ⟨(i 0 : Fin 4), Finset.mem_filter.mpr ⟨Finset.mem_univ _, rfl, (Finset.mem_filter.mp hi).2⟩⟩,
      fun ⟨s, hi⟩ => Finset.mem_filter.mpr ⟨Finset.mem_univ _, (Finset.mem_filter.mp hi).2.2⟩⟩)
    (fun s s' h => Finset.disjoint_filter.mpr fun i _ h₁ h₂ => h (Fin.ext (h₁.1.symm.trans h₂.1))) q f

theorem halves5 (c : Dev nD) (q) (f : (cc0_scratch5 : Ref sig .tc).ty.Contents (Elt F)) : pts c cc0_scratch5 Finset.univ q f
    = iprop(pts c cc0_scratch5 (halfA 0) q f ∗ pts c cc0_scratch5 (halfA 1) q f) := by
  have hS : Finset.univ = halfA 0 ∪ halfA 1 := by
    ext i
    have := (i 1).isLt
    have h8 : (i 1).val < 8 := this
    simp only [halfA, Finset.mem_univ, Finset.mem_union, Finset.mem_filter, true_and, true_iff]
    show (i 1).val / 4 = 0 ∨ (i 1).val / 4 = 1
    omega
  have hd : Disjoint (halfA 0) (halfA 1) := Finset.disjoint_filter.mpr fun i _ h₁ h₂ => absurd (h₁.symm.trans h₂) (by decide)
  rw [hS]
  have h := pointsTo_union (Ix := Unit) (Name := ℕ) (U := UU) (Lvl := ℕ) (ℓ := (c : Thread nD τ).loc cc0_scratch5) (q := q) (f := f) hd
  exact equiv_iff.mp ⟨h.1, h.2⟩

theorem pieces7 (c d : Dev nD) (h : Fin 2) (q) (f : (cc0_scratch7 : Ref sig .tc).ty.Contents (Elt F)) : pts c cc0_scratch7 (halfA h) q f
    = iprop(pts c cc0_scratch7 (pcA h d) q f ∗ pts c cc0_scratch7 (pcA h (pr d 0)) q f ∗ pts c cc0_scratch7 (pcA h (pr d 1)) q f ∗ pts c cc0_scratch7 (pcA h (pr d 2)) q f) :=
  by_devs c d cc0_scratch7 (pcA h) (halfA h)
    (fun i => ⟨fun hi => ⟨(i 0 : Fin 4), Finset.mem_filter.mpr ⟨Finset.mem_univ _, rfl, (Finset.mem_filter.mp hi).2⟩⟩,
      fun ⟨s, hi⟩ => Finset.mem_filter.mpr ⟨Finset.mem_univ _, (Finset.mem_filter.mp hi).2.2⟩⟩)
    (fun s s' h => Finset.disjoint_filter.mpr fun i _ h₁ h₂ => h (Fin.ext (h₁.1.symm.trans h₂.1))) q f

theorem halves7 (c : Dev nD) (q) (f : (cc0_scratch7 : Ref sig .tc).ty.Contents (Elt F)) : pts c cc0_scratch7 Finset.univ q f
    = iprop(pts c cc0_scratch7 (halfA 0) q f ∗ pts c cc0_scratch7 (halfA 1) q f) := by
  have hS : Finset.univ = halfA 0 ∪ halfA 1 := by
    ext i
    have := (i 1).isLt
    have h8 : (i 1).val < 8 := this
    simp only [halfA, Finset.mem_univ, Finset.mem_union, Finset.mem_filter, true_and, true_iff]
    show (i 1).val / 4 = 0 ∨ (i 1).val / 4 = 1
    omega
  have hd : Disjoint (halfA 0) (halfA 1) := Finset.disjoint_filter.mpr fun i _ h₁ h₂ => absurd (h₁.symm.trans h₂) (by decide)
  rw [hS]
  have h := pointsTo_union (Ix := Unit) (Name := ℕ) (U := UU) (Lvl := ℕ) (ℓ := (c : Thread nD τ).loc cc0_scratch7) (q := q) (f := f) hd
  exact equiv_iff.mp ⟨h.1, h.2⟩

theorem pieces6 (c d : Dev nD) (h : Fin 2) (q) (f : (cc0_scratch6 : Ref sig .tc).ty.Contents (Elt F)) : pts c cc0_scratch6 (halfS h) q f
    = iprop(pts c cc0_scratch6 (pcS h d) q f ∗ pts c cc0_scratch6 (pcS h (pr d 0)) q f ∗ pts c cc0_scratch6 (pcS h (pr d 1)) q f ∗ pts c cc0_scratch6 (pcS h (pr d 2)) q f) :=
  by_devs c d cc0_scratch6 (pcS h) (halfS h)
    (fun i => ⟨fun hi => ⟨(i 0 : Fin 4), Finset.mem_filter.mpr ⟨Finset.mem_univ _, rfl, (Finset.mem_filter.mp hi).2⟩⟩,
      fun ⟨s, hi⟩ => Finset.mem_filter.mpr ⟨Finset.mem_univ _, (Finset.mem_filter.mp hi).2.2⟩⟩)
    (fun s s' h => Finset.disjoint_filter.mpr fun i _ h₁ h₂ => h (Fin.ext (h₁.1.symm.trans h₂.1))) q f

theorem halves6 (c : Dev nD) (q) (f : (cc0_scratch6 : Ref sig .tc).ty.Contents (Elt F)) : pts c cc0_scratch6 Finset.univ q f
    = iprop(pts c cc0_scratch6 (halfS 0) q f ∗ pts c cc0_scratch6 (halfS 1) q f) := by
  have hS : Finset.univ = halfS 0 ∪ halfS 1 := by
    ext i
    have := (i 1).isLt
    have h8 : (i 1).val < 8 := this
    simp only [halfS, Finset.mem_univ, Finset.mem_union, Finset.mem_filter, true_and, true_iff]
    show (i 1).val / 4 = 0 ∨ (i 1).val / 4 = 1
    omega
  have hd : Disjoint (halfS 0) (halfS 1) := Finset.disjoint_filter.mpr fun i _ h₁ h₂ => absurd (h₁.symm.trans h₂) (by decide)
  rw [hS]
  have h := pointsTo_union (Ix := Unit) (Name := ℕ) (U := UU) (Lvl := ℕ) (ℓ := (c : Thread nD τ).loc cc0_scratch6) (q := q) (f := f) hd
  exact equiv_iff.mp ⟨h.1, h.2⟩

theorem pieces8 (c d : Dev nD) (h : Fin 2) (q) (f : (cc0_scratch8 : Ref sig .tc).ty.Contents (Elt F)) : pts c cc0_scratch8 (halfS h) q f
    = iprop(pts c cc0_scratch8 (pcS h d) q f ∗ pts c cc0_scratch8 (pcS h (pr d 0)) q f ∗ pts c cc0_scratch8 (pcS h (pr d 1)) q f ∗ pts c cc0_scratch8 (pcS h (pr d 2)) q f) :=
  by_devs c d cc0_scratch8 (pcS h) (halfS h)
    (fun i => ⟨fun hi => ⟨(i 0 : Fin 4), Finset.mem_filter.mpr ⟨Finset.mem_univ _, rfl, (Finset.mem_filter.mp hi).2⟩⟩,
      fun ⟨s, hi⟩ => Finset.mem_filter.mpr ⟨Finset.mem_univ _, (Finset.mem_filter.mp hi).2.2⟩⟩)
    (fun s s' h => Finset.disjoint_filter.mpr fun i _ h₁ h₂ => h (Fin.ext (h₁.1.symm.trans h₂.1))) q f

theorem halves8 (c : Dev nD) (q) (f : (cc0_scratch8 : Ref sig .tc).ty.Contents (Elt F)) : pts c cc0_scratch8 Finset.univ q f
    = iprop(pts c cc0_scratch8 (halfS 0) q f ∗ pts c cc0_scratch8 (halfS 1) q f) := by
  have hS : Finset.univ = halfS 0 ∪ halfS 1 := by
    ext i
    have := (i 1).isLt
    have h8 : (i 1).val < 8 := this
    simp only [halfS, Finset.mem_univ, Finset.mem_union, Finset.mem_filter, true_and, true_iff]
    show (i 1).val / 4 = 0 ∨ (i 1).val / 4 = 1
    omega
  have hd : Disjoint (halfS 0) (halfS 1) := Finset.disjoint_filter.mpr fun i _ h₁ h₂ => absurd (h₁.symm.trans h₂) (by decide)
  rw [hS]
  have h := pointsTo_union (Ix := Unit) (Name := ℕ) (U := UU) (Lvl := ℕ) (ℓ := (c : Thread nD τ).loc cc0_scratch8) (q := q) (f := f) hd
  exact equiv_iff.mp ⟨h.1, h.2⟩

/-- The own rows, shared out: one share a peer and the rest. -/
theorem rows_shares (c : Dev nD) (f : (cc0_scratch0 : Ref sig .tc).ty.Contents (Elt F)) : pts c cc0_scratch0 Finset.univ fullShare f
    = iprop(pts c cc0_scratch0 Finset.univ (shareDrop fullShare 3) f ∗ pts c cc0_scratch0 Finset.univ (shareTokN fullShare 0) f
      ∗ pts c cc0_scratch0 Finset.univ (shareTokN fullShare 1) f ∗ pts c cc0_scratch0 Finset.univ (shareTokN fullShare 2) f) := by
  have h := (Transfers.pointsTo_toks_range (Ix := Unit) (Name := ℕ) (U := UU) (Lvl := ℕ) (ℓ := (c : Thread nD τ).loc cc0_scratch0) (S := Finset.univ) (f := f) fullShare 3)
  refine (equiv_iff.mp ⟨h.1, h.2⟩).trans ?_
  rw [bigSep_eq_bigSepL_of_eq [0, 1, 2] (by decide) (by decide)]
  rfl

end Cert.Attn

end
-- ==== Proof.Queries.lean ====
/-
The queries: a head at a time, the rows of the four residues put in the query buffer.
-/
module

public import proofs.«01_k».proof.Proof.Loop

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

/-- The staged query weights, held whole. -/
abbrev wfull (c : Dev nD) : sProp 𝕄 := pts c cc0_stg1_0 Finset.univ fullShare (wstg m c)

section
variable (c : Dev nD) (v : Sems sig S_)

theorem run_part13 {Q} :
    iprop(wfull m c ∗ qst m c 3)
      ⊢ iprop(((wfull m c ∗ qst m c 8) -∗ Q ⟨k0_pay41 (wqh m c 2), constant S1024x128 .f32 0x00000000#32⟩) -∗ WP c (k0_part13 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v (k0_pay29 (XG m)) (k0_pay34 (XG m) (wqh m c 0))) Q) := by
  rw [k0_part13_eq_skeleton]
  unfold k0_part13_skel
  simp only [semSignalWord, semWaitWord, Prog.lift, Prog.bind_op, Prog.bind_ret, Prog.pure_eq_ret, wp_deviceId]
  iintro ⟨HW, HQ⟩ Hk
  iapply (act_peek_q m c 3) $$ HQ
  iintro %_ HQ
  iapply (act_put_q m c 0 3 rfl (n := 3) (n' := 4) rfl rfl (by rfl)) $$ HQ
  iintro HQ
  iapply (act_load_w m c 1 rfl) $$ HW
  iintro HW
  iapply (act_peek_q m c 4) $$ HQ
  iintro %_ HQ
  iapply (act_put_q m c 1 0 rfl (n := 4) (n' := 5) rfl rfl (by rfl)) $$ HQ
  iintro HQ
  iapply (act_peek_q m c 5) $$ HQ
  iintro %_ HQ
  iapply (act_put_q m c 1 1 rfl (n := 5) (n' := 6) rfl rfl (by rfl)) $$ HQ
  iintro HQ
  iapply (act_peek_q m c 6) $$ HQ
  iintro %_ HQ
  iapply (act_put_q m c 1 2 rfl (n := 6) (n' := 7) rfl rfl (by rfl)) $$ HQ
  iintro HQ
  iapply (act_peek_q m c 7) $$ HQ
  iintro %_ HQ
  iapply (act_put_q m c 1 3 rfl (n := 7) (n' := 8) rfl rfl (by rfl)) $$ HQ
  iintro HQ
  iapply (act_load_w m c 2 rfl) $$ HW
  iintro HW
  iapply (act_ret c)
  iapply Hk
  isplitl [HW]; · iexact HW
  iexact HQ

theorem run_part14 {Q} :
    iprop(wfull m c ∗ qst m c 8)
      ⊢ iprop(((wfull m c ∗ qst m c 12) -∗ Q ⟨k0_pay47 (k0_pay29 (XG m)) (wqh m c 3), k0_pay48 (k0_pay29 (XG m)) (wqh m c 3)⟩) -∗ WP c (k0_part14 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v (k0_pay29 (XG m)) (k0_pay41 (wqh m c 2)) (constant S1024x128 .f32 0x00000000#32)) Q) := by
  rw [k0_part14_eq_skeleton]
  unfold k0_part14_skel
  simp only [semSignalWord, semWaitWord, Prog.lift, Prog.bind_op, Prog.bind_ret, Prog.pure_eq_ret, wp_deviceId]
  iintro ⟨HW, HQ⟩ Hk
  iapply (act_peek_q m c 8) $$ HQ
  iintro %_ HQ
  iapply (act_put_q m c 2 0 rfl (n := 8) (n' := 9) rfl rfl (by rfl)) $$ HQ
  iintro HQ
  iapply (act_peek_q m c 9) $$ HQ
  iintro %_ HQ
  iapply (act_put_q m c 2 1 rfl (n := 9) (n' := 10) rfl rfl (by rfl)) $$ HQ
  iintro HQ
  iapply (act_peek_q m c 10) $$ HQ
  iintro %_ HQ
  iapply (act_put_q m c 2 2 rfl (n := 10) (n' := 11) rfl rfl (by rfl)) $$ HQ
  iintro HQ
  iapply (act_peek_q m c 11) $$ HQ
  iintro %_ HQ
  iapply (act_put_q m c 2 3 rfl (n := 11) (n' := 12) rfl rfl (by rfl)) $$ HQ
  iintro HQ
  iapply (act_load_w m c 3 rfl) $$ HW
  iintro HW
  iapply (act_ret c)
  iapply Hk
  isplitl [HW]; · iexact HW
  iexact HQ

theorem run_part15 {Q} :
    iprop(wfull m c ∗ qst m c 12)
      ⊢ iprop(((wfull m c ∗ qst m c 17) -∗ Q ⟨k0_pay53 (k0_pay29 (XG m)) (wqh m c 4), k0_pay55 (k0_pay29 (XG m)) (wqh m c 4)⟩) -∗ WP c (k0_part15 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v (k0_pay29 (XG m)) (k0_pay47 (k0_pay29 (XG m)) (wqh m c 3)) (k0_pay48 (k0_pay29 (XG m)) (wqh m c 3))) Q) := by
  rw [k0_part15_eq_skeleton]
  unfold k0_part15_skel
  simp only [semSignalWord, semWaitWord, Prog.lift, Prog.bind_op, Prog.bind_ret, Prog.pure_eq_ret, wp_deviceId]
  iintro ⟨HW, HQ⟩ Hk
  iapply (act_peek_q m c 12) $$ HQ
  iintro %_ HQ
  iapply (act_put_q m c 3 0 rfl (n := 12) (n' := 13) rfl rfl (by rfl)) $$ HQ
  iintro HQ
  iapply (act_peek_q m c 13) $$ HQ
  iintro %_ HQ
  iapply (act_put_q m c 3 1 rfl (n := 13) (n' := 14) rfl rfl (by rfl)) $$ HQ
  iintro HQ
  iapply (act_peek_q m c 14) $$ HQ
  iintro %_ HQ
  iapply (act_put_q m c 3 2 rfl (n := 14) (n' := 15) rfl rfl (by rfl)) $$ HQ
  iintro HQ
  iapply (act_peek_q m c 15) $$ HQ
  iintro %_ HQ
  iapply (act_put_q m c 3 3 rfl (n := 15) (n' := 16) rfl rfl (by rfl)) $$ HQ
  iintro HQ
  iapply (act_load_w m c 4 rfl) $$ HW
  iintro HW
  iapply (act_peek_q m c 16) $$ HQ
  iintro %_ HQ
  iapply (act_put_q m c 4 0 rfl (n := 16) (n' := 17) rfl rfl (by rfl)) $$ HQ
  iintro HQ
  iapply (act_ret c)
  iapply Hk
  isplitl [HW]; · iexact HW
  iexact HQ

theorem run_part16 {Q} :
    iprop(wfull m c ∗ qst m c 17)
      ⊢ iprop(((wfull m c ∗ qst m c 22) -∗ Q ⟨k0_pay59 (k0_pay29 (XG m)) (wqh m c 5), k0_pay62 (k0_pay29 (XG m)) (wqh m c 5)⟩) -∗ WP c (k0_part16 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v (k0_pay29 (XG m)) (k0_pay53 (k0_pay29 (XG m)) (wqh m c 4)) (k0_pay55 (k0_pay29 (XG m)) (wqh m c 4))) Q) := by
  rw [k0_part16_eq_skeleton]
  unfold k0_part16_skel
  simp only [semSignalWord, semWaitWord, Prog.lift, Prog.bind_op, Prog.bind_ret, Prog.pure_eq_ret, wp_deviceId]
  iintro ⟨HW, HQ⟩ Hk
  iapply (act_peek_q m c 17) $$ HQ
  iintro %_ HQ
  iapply (act_put_q m c 4 1 rfl (n := 17) (n' := 18) rfl rfl (by rfl)) $$ HQ
  iintro HQ
  iapply (act_peek_q m c 18) $$ HQ
  iintro %_ HQ
  iapply (act_put_q m c 4 2 rfl (n := 18) (n' := 19) rfl rfl (by rfl)) $$ HQ
  iintro HQ
  iapply (act_peek_q m c 19) $$ HQ
  iintro %_ HQ
  iapply (act_put_q m c 4 3 rfl (n := 19) (n' := 20) rfl rfl (by rfl)) $$ HQ
  iintro HQ
  iapply (act_load_w m c 5 rfl) $$ HW
  iintro HW
  iapply (act_peek_q m c 20) $$ HQ
  iintro %_ HQ
  iapply (act_put_q m c 5 0 rfl (n := 20) (n' := 21) rfl rfl (by rfl)) $$ HQ
  iintro HQ
  iapply (act_peek_q m c 21) $$ HQ
  iintro %_ HQ
  iapply (act_put_q m c 5 1 rfl (n := 21) (n' := 22) rfl rfl (by rfl)) $$ HQ
  iintro HQ
  iapply (act_ret c)
  iapply Hk
  isplitl [HW]; · iexact HW
  iexact HQ

theorem run_part17 {Q} :
    iprop(wfull m c ∗ qst m c 22)
      ⊢ iprop(((wfull m c ∗ qst m c 27) -∗ Q (k0_pay69 (k0_pay29 (XG m)) (wqh m c 6))) -∗ WP c (k0_part17 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v (k0_pay29 (XG m)) (k0_pay59 (k0_pay29 (XG m)) (wqh m c 5)) (k0_pay62 (k0_pay29 (XG m)) (wqh m c 5))) Q) := by
  rw [k0_part17_eq_skeleton]
  unfold k0_part17_skel
  simp only [semSignalWord, semWaitWord, Prog.lift, Prog.bind_op, Prog.bind_ret, Prog.pure_eq_ret, wp_deviceId]
  iintro ⟨HW, HQ⟩ Hk
  iapply (act_peek_q m c 22) $$ HQ
  iintro %_ HQ
  iapply (act_put_q m c 5 2 rfl (n := 22) (n' := 23) rfl rfl (by rfl)) $$ HQ
  iintro HQ
  iapply (act_peek_q m c 23) $$ HQ
  iintro %_ HQ
  iapply (act_put_q m c 5 3 rfl (n := 23) (n' := 24) rfl rfl (by rfl)) $$ HQ
  iintro HQ
  iapply (act_load_w m c 6 rfl) $$ HW
  iintro HW
  iapply (act_peek_q m c 24) $$ HQ
  iintro %_ HQ
  iapply (act_put_q m c 6 0 rfl (n := 24) (n' := 25) rfl rfl (by rfl)) $$ HQ
  iintro HQ
  iapply (act_peek_q m c 25) $$ HQ
  iintro %_ HQ
  iapply (act_put_q m c 6 1 rfl (n := 25) (n' := 26) rfl rfl (by rfl)) $$ HQ
  iintro HQ
  iapply (act_peek_q m c 26) $$ HQ
  iintro %_ HQ
  iapply (act_put_q m c 6 2 rfl (n := 26) (n' := 27) rfl rfl (by rfl)) $$ HQ
  iintro HQ
  iapply (act_ret c)
  iapply Hk
  isplitl [HW]; · iexact HW
  iexact HQ

theorem run_part18 {Q} :
    iprop(wfull m c ∗ qst m c 27)
      ⊢ iprop(((wfull m c ∗ qst m c 31) -∗ Q (k0_pay75 (k0_pay29 (XG m)) (wqh m c 7))) -∗ WP c (k0_part18 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v (k0_pay29 (XG m)) (k0_pay69 (k0_pay29 (XG m)) (wqh m c 6))) Q) := by
  rw [k0_part18_eq_skeleton]
  unfold k0_part18_skel
  simp only [semSignalWord, semWaitWord, Prog.lift, Prog.bind_op, Prog.bind_ret, Prog.pure_eq_ret, wp_deviceId]
  iintro ⟨HW, HQ⟩ Hk
  iapply (act_peek_q m c 27) $$ HQ
  iintro %_ HQ
  iapply (act_put_q m c 6 3 rfl (n := 27) (n' := 28) rfl rfl (by rfl)) $$ HQ
  iintro HQ
  iapply (act_load_w m c 7 rfl) $$ HW
  iintro HW
  iapply (act_peek_q m c 28) $$ HQ
  iintro %_ HQ
  iapply (act_put_q m c 7 0 rfl (n := 28) (n' := 29) rfl rfl (by rfl)) $$ HQ
  iintro HQ
  iapply (act_peek_q m c 29) $$ HQ
  iintro %_ HQ
  iapply (act_put_q m c 7 1 rfl (n := 29) (n' := 30) rfl rfl (by rfl)) $$ HQ
  iintro HQ
  iapply (act_peek_q m c 30) $$ HQ
  iintro %_ HQ
  iapply (act_put_q m c 7 2 rfl (n := 30) (n' := 31) rfl rfl (by rfl)) $$ HQ
  iintro HQ
  iapply (act_peek_q m c 31) $$ HQ
  iintro %_ HQ
  iapply (act_ret c)
  iapply Hk
  isplitl [HW]; · iexact HW
  iexact HQ

end

end Cert.Attn

end
-- ==== Proof.Front.lean ====
/-
The beginning: the barrier, the first heads, the own rows gathered, and the first queries; and the last head brought in.
-/
module

public import proofs.«01_k».proof.Proof.Parcels
public import proofs.«01_k».proof.Proof.Queries

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

/-- The rows' buffer and the gathered rows held whole. -/
abbrev gfull (c : Dev nD) : sProp 𝕄 := pts c cc0_scratch1 Finset.univ fullShare (XG m)

theorem sem_bar : SemLoc.reg ((SemArray.scalar (sig.barrier 0 rfl) : Sems sig S_).sem) = csem .bar := by with_unfolding_all rfl

section
variable (c : Dev nD) (v : Sems sig S_)

/-- The barrier signals to the first two peers. -/
theorem run_part6 {Q} :
    iprop(Ctx m ∗ Ow c 0 ∗ outB (F := F) c 0 ∗ outB (F := F) c 1)
      ⊢ iprop((∀ v2 v30 w b, Ow c 2 -∗ Q ⟨c, v2, SemArray.scalar (sig.barrier 0 rfl), v30, w, b⟩) -∗ WP c (k0_part6 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v) Q) := by
  rw [k0_part6_eq_skeleton]
  unfold k0_part6_skel
  simp only [semSignalWord, semWaitWord, Prog.lift, Prog.bind_op, Prog.bind_ret, Prog.pure_eq_ret, wp_deviceId]
  iintro ⟨#HC, HO, HB0, HB1⟩ Hk
  iapply (act_bar m c _ 0 0 (dev1_eq c) sem_bar rfl (by decide)) $$ [HO HB0]
  · isplitr; · iexact HC
    isplitl [HO]; · iexact HO
    iexact HB0
  iintro HO
  iapply (act_bar m c _ 1 1 (dev2_eq c) sem_bar rfl (by decide)) $$ [HO HB1]
  · isplitr; · iexact HC
    isplitl [HO]; · iexact HO
    iexact HB1
  iintro HO
  iapply (act_ret c)
  iapply Hk
  iexact HO

theorem total_bar (c : Dev nD) : total c .bar = 3 := by revert c; decide

/-- The third signal, the wait for the three peers, and head 0 asked for. -/
theorem run_part7 (a b d) {Q} :
    iprop(Ctx m ∗ Ow c 2 ∗ outB (F := F) c 2 ∗ due (F := F) c .bar (total c .bar) ∗ at_ (F := F) c .bar 0 ∗ kfree m c 0 ∗ vfree m c 0)
      ⊢ iprop((∀ r, (Ow c 3 ∗ at_ (F := F) c .bar 1 ∗ (gift (F := F) (pr c 0) c ∗ gift (F := F) (pr c 1) c ∗ gift (F := F) (pr c 2) c) ∗ kfly m c 0 0 ∗ vfly m c 0 0) -∗ Q r) -∗ WP c (k0_part7 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c (SemArray.scalar (sig.barrier 0 rfl)) a b d) Q) := by
  rw [k0_part7_eq_skeleton]
  unfold k0_part7_skel
  simp only [semSignalWord, semWaitWord, Prog.lift, Prog.bind_op, Prog.bind_ret, Prog.pure_eq_ret, wp_deviceId]
  iintro ⟨#HC, HO, HB, Hd, Ha, HK, HV⟩ Hk
  iapply (act_bar m c _ 2 2 (dev3_eq c) sem_bar rfl (by decide)) $$ [HO HB]
  · isplitr; · iexact HC
    isplitl [HO]; · iexact HO
    iexact HB
  iintro HO
  iapply (act_wait_sem m c .bar 3 1 above_3 (by decide) sem_bar (total_bar c)) $$ [HO Hd Ha]
  · isplitr; · iexact HC
    isplitl [HO]; · iexact HO
    isplitl [Hd]; · iexact Hd
    iexact Ha
  iintro ⟨HO, Ha, HG⟩
  ihave HG := (Entails.of_eq (gifts m c)) $$ HG
  iapply (act_copyK m c 0 0 (sem_k 0 rfl _ _) rfl rfl) $$ HK
  iintro HK
  iapply (act_copyV m c 0 0 (sem_v 0 rfl _ _) rfl rfl) $$ HV
  iintro HV
  iapply (act_ret c)
  iapply Hk
  isplitl [HO]; · iexact HO
  isplitl [Ha]; · iexact Ha
  isplitl [HG]; · iexact HG
  isplitl [HK]; · iexact HK
  iexact HV

theorem rows_emb (y : S256x1024.Idx) : (Rect.unit (s := S256x1024) ![0, 0] S256x1024.size inb_S256x1024_S256x1024_0_0).emb y = y :=
  funext fun a => Fin.ext ((Rect.emb_apply _ _ _).trans (by fin_cases a <;> exact (Nat.zero_add _).trans (Nat.one_mul _)))

/-- Head 1 asked for, and the own rows rounded. -/
theorem run_part8 (v2) {Q} :
    iprop(kfree m c 1 ∗ vfree m c 1 ∗ pts c cc0_stg0_0 Finset.univ fullShare (xstg m c) ∗ any (F := F) c cc0_scratch0 Finset.univ)
      ⊢ iprop((∀ r, (kfly m c 1 1 ∗ vfly m c 1 1 ∗ pts c cc0_stg0_0 Finset.univ fullShare (xstg m c) ∗ pts c cc0_scratch0 Finset.univ fullShare (xb m c)) -∗ Q r) -∗ WP c (k0_part8 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v v2) Q) := by
  rw [k0_part8_eq_skeleton]
  unfold k0_part8_skel
  simp only [semSignalWord, semWaitWord, Prog.lift, Prog.bind_op, Prog.bind_ret, Prog.pure_eq_ret, wp_deviceId]
  iintro ⟨HK, HV, HX, HR⟩ Hk
  icases HR with ⟨%f, HR⟩
  iapply (act_copyK m c 1 1 (sem_k 1 rfl _ _) rfl rfl) $$ HK
  iintro HK
  iapply (act_copyV m c 1 1 (sem_v 1 rfl _ _) rfl rfl) $$ HV
  iintro HV
  iapply (act_load c xM (Rect.unit (s := S256x1024) ![0, 0] S256x1024.size inb_S256x1024_S256x1024_0_0) (f := xstg m c) (fun _ => Finset.mem_univ _) (xstg m c) (fun y => congrArg (xstg m c) (rows_emb y))) $$ HX
  iintro HX
  iapply (act_load c xbM (Rect.unit (s := S256x1024) ![0, 0] S256x1024.size inb_S256x1024_S256x1024_0_0) (fun _ => Finset.mem_univ _) _ (fun _ => rfl)) $$ HR
  iintro HR
  iapply (act_store c xbM (Rect.unit (s := S256x1024) ![0, 0] S256x1024.size inb_S256x1024_S256x1024_0_0)) $$ HR
  iintro %g %hg HR
  have hgx : g = xb m c := funext fun i => (congrArg g (rows_emb i).symm).trans (hg.1 i)
  subst hgx
  iapply (act_ret c)
  iapply Hk
  isplitl [HK]; · iexact HK
  isplitl [HV]; · iexact HV
  isplitl [HX]; · iexact HX
  iexact HR

/-- The own rows sent to the first two peers. -/
theorem run_part9 (a b d e f) {Q} :
    iprop(Ctx m ∗ Ow c 3 ∗ outX m c 0 ∗ outX m c 1)
      ⊢ iprop((∀ r, (Ow c 5 ∗ due (F := F) c (.xs 0) (amt (.xs 0)) ∗ due (F := F) c (.xs 1) (amt (.xs 1))) -∗ Q r) -∗ WP c (k0_part9 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b d e f) Q) := by
  rw [k0_part9_eq_skeleton]
  unfold k0_part9_skel
  simp only [semSignalWord, semWaitWord, Prog.lift, Prog.bind_op, Prog.bind_ret, Prog.pure_eq_ret, wp_deviceId]
  iintro ⟨#HC, HO, HX0, HX1⟩ Hk
  iapply (send_x m c _ 0 3 (dev4_eq c) (sem_xs 0 rfl _ _) (sem_xr c (k0_off1_eq c) _ _) rfl (k0_off2_eq c)) $$ [HO HX0]
  · isplitr; · iexact HC
    isplitl [HO]; · iexact HO
    iexact HX0
  iintro ⟨HO, HD0⟩
  iapply (send_x m c _ 1 4 (dev5_eq c) (sem_xs 1 rfl _ _) (sem_xr c (k0_off1_eq c) _ _) rfl (k0_off2_eq c)) $$ [HO HX1]
  · isplitr; · iexact HC
    isplitl [HO]; · iexact HO
    iexact HX1
  iintro ⟨HO, HD1⟩
  iapply (act_ret c)
  iapply Hk
  isplitl [HO]; · iexact HO
  isplitl [HD0]; · iexact HD0
  iexact HD1

/-- The own rows sent to the third peer, and copied into the own slab. -/
theorem run_part10 (a b d e f) {Q} :
    iprop(Ctx m ∗ Ow c 5 ∗ outX m c 2 ∗ pts c cc0_scratch0 Finset.univ (shareDrop fullShare 3) (xb m c) ∗ any (F := F) c cc0_scratch1 (slab c) ∗ idle (F := F) c (cpyS 0))
      ⊢ iprop((∀ r, (Ow c 6 ∗ due (F := F) c (.xs 2) (amt (.xs 2)) ∗ pts c cc0_scratch0 Finset.univ (shareDrop fullShare 3) (xb m c) ∗ pts c cc0_scratch1 (slab c) fullShare (XG m) ∗ idle (F := F) c (cpyS 0)) -∗ Q r) -∗ WP c (k0_part10 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b d e f) Q) := by
  rw [k0_part10_eq_skeleton]
  unfold k0_part10_skel
  simp only [semSignalWord, semWaitWord, Prog.lift, Prog.bind_op, Prog.bind_ret, Prog.pure_eq_ret, wp_deviceId]
  iintro ⟨#HC, HO, HX2, HR, HS, HI⟩ Hk
  iapply (send_x m c _ 2 5 (dev6_eq c) (sem_xs 2 rfl _ _) (sem_xr c (k0_off1_eq c) _ _) rfl (k0_off2_eq c)) $$ [HO HX2]
  · isplitr; · iexact HC
    isplitl [HO]; · iexact HO
    iexact HX2
  iintro ⟨HO, HD2⟩
  iapply (act_copyX m c (sem_cpy 0 rfl _ _) (shareDrop fullShare 3) (k0_off2_eq c)) $$ [HR HS HI]
  · isplitl [HR]; · iexact HR
    isplitl [HS]; · iexact HS
    iexact HI
  iintro HF
  iapply (act_wait_copy m c (sem_cpy 0 rfl _ _) 6 2 above_6 (by decide) NX rfl) $$ [HO HF]
  · isplitr; · iexact HC
    isplitl [HO]; · iexact HO
    iexact HF
  iintro ⟨HO, HI, HS, HR⟩
  iapply (act_ret c)
  iapply Hk
  isplitl [HO]; · iexact HO
  isplitl [HD2]; · iexact HD2
  isplitl [HR]; · iexact HR
  isplitl [HS]; · iexact HS
  iexact HI

/-- The rows of the first two peers arrive. -/
theorem run_part11 (a) {Q} :
    iprop(Ctx m ∗ Ow c 6 ∗ wants (F := F) c (.xr (pr c 0)) ∗ wants (F := F) c (.xr (pr c 1)))
      ⊢ iprop((∀ r, (Ow c 6 ∗ got m c (.xr (pr c 0)) ∗ got m c (.xr (pr c 1))) -∗ Q r) -∗ WP c (k0_part11 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part11_eq_skeleton]
  unfold k0_part11_skel
  simp only [semSignalWord, semWaitWord, Prog.lift, Prog.bind_op, Prog.bind_ret, Prog.pure_eq_ret, wp_deviceId]
  iintro ⟨#HC, HO, HW0, HW1⟩ Hk
  iapply (act_take m c (.xr (pr c 0)) 6 2 above_6 (le_refl 2) (sem_xr (pr c 0) (off3_eq c 0) _ _) (one_xr c 0) rfl) $$ [HO HW0]
  · isplitr; · iexact HC
    isplitl [HO]; · iexact HO
    iexact HW0
  iintro ⟨HO, HW0⟩
  iapply (act_take m c (.xr (pr c 1)) 6 2 above_6 (le_refl 2) (sem_xr (pr c 1) (off3_eq c 1) _ _) (one_xr c 1) rfl) $$ [HO HW1]
  · isplitr; · iexact HC
    isplitl [HO]; · iexact HO
    iexact HW1
  iintro ⟨HO, HW1⟩
  iapply (act_ret c)
  iapply Hk
  isplitl [HO]; · iexact HO
  isplitl [HW0]; · iexact HW0
  iexact HW1

theorem gath_emb (y : S4x256x1024.Idx) : (Rect.unit (s := S4x256x1024) ![0, 0, 0] S4x256x1024.size inb_S4x256x1024_S4x256x1024_0_0_0).emb y = y :=
  funext fun a => Fin.ext ((Rect.emb_apply _ _ _).trans (by fin_cases a <;> exact (Nat.zero_add _).trans (Nat.one_mul _)))

/-- The third peer's rows arrive; the gathered rows are read whole, and the first queries put in place. -/
theorem run_part12 {Q} :
    iprop(Ctx m ∗ Ow c 6 ∗ got m c (.xr (pr c 0)) ∗ got m c (.xr (pr c 1)) ∗ wants (F := F) c (.xr (pr c 2)) ∗ pts c cc0_scratch1 (slab c) fullShare (XG m) ∗ wfull m c ∗ qst m c 0)
      ⊢ iprop(((Ow c 6 ∗ at_ (F := F) c (.xr (pr c 0)) 1 ∗ at_ (F := F) c (.xr (pr c 1)) 1 ∗ at_ (F := F) c (.xr (pr c 2)) 1 ∗ gfull m c ∗ wfull m c ∗ qst m c 3) -∗ Q ⟨k0_pay29 (XG m), k0_pay34 (XG m) (wqh m c 0)⟩) -∗ WP c (k0_part12 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part12_eq_skeleton]
  unfold k0_part12_skel
  simp only [semSignalWord, semWaitWord, Prog.lift, Prog.bind_op, Prog.bind_ret, Prog.pure_eq_ret, wp_deviceId]
  iintro ⟨#HC, HO, HW0, HW1, HW2, HS, HW, HQ⟩ Hk
  iapply (act_take m c (.xr (pr c 2)) 6 2 above_6 (le_refl 2) (sem_xr (pr c 2) (off3_eq c 2) _ _) (one_xr c 2) rfl) $$ [HO HW2]
  · isplitr; · iexact HC
    isplitl [HO]; · iexact HO
    iexact HW2
  iintro ⟨HO, HW2⟩
  ihave HW0 := (Entails.of_eq (got_xr m c (pr c 0))) $$ HW0
  icases HW0 with ⟨Ha0, HP0⟩
  ihave HW1 := (Entails.of_eq (got_xr m c (pr c 1))) $$ HW1
  icases HW1 with ⟨Ha1, HP1⟩
  ihave HW2 := (Entails.of_eq (got_xr m c (pr c 2))) $$ HW2
  icases HW2 with ⟨Ha2, HP2⟩
  ihave HG := (Entails.of_eq (slabs c c fullShare (XG m)).symm) $$ [HS HP0 HP1 HP2]
  · isplitl [HS]; · iexact HS
    isplitl [HP0]; · iexact HP0
    isplitl [HP1]; · iexact HP1
    iexact HP2
  iapply (act_load c xgM (Rect.unit (s := S4x256x1024) ![0, 0, 0] S4x256x1024.size inb_S4x256x1024_S4x256x1024_0_0_0) (f := XG m) (fun _ => Finset.mem_univ _) (XG m) (fun y => congrArg (XG m) (gath_emb y))) $$ HG
  iintro HG
  iapply (act_load_w m c 0 rfl) $$ HW
  iintro HW
  iapply (act_peek_q m c 0) $$ HQ
  iintro %_ HQ
  iapply (act_put_q m c 0 0 rfl (n := 0) (n' := 1) rfl rfl (by rfl)) $$ HQ
  iintro HQ
  iapply (act_peek_q m c 1) $$ HQ
  iintro %_ HQ
  iapply (act_put_q m c 0 1 rfl (n := 1) (n' := 2) rfl rfl (by rfl)) $$ HQ
  iintro HQ
  iapply (act_peek_q m c 2) $$ HQ
  iintro %_ HQ
  iapply (act_put_q m c 0 2 rfl (n := 2) (n' := 3) rfl rfl (by rfl)) $$ HQ
  iintro HQ
  iapply (act_ret c)
  iapply Hk
  isplitl [HO]; · iexact HO
  isplitl [Ha0]; · iexact Ha0
  isplitl [Ha1]; · iexact Ha1
  isplitl [Ha2]; · iexact Ha2
  isplitl [HG]; · iexact HG
  isplitl [HW]; · iexact HW
  iexact HQ

end

end Cert.Attn

end
-- ==== Proof.Middle.lean ====
/-
The middle: the last head brought in, and the partial results sent to their owners.
-/
module

public import proofs.«01_k».proof.Proof.Front

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

section
variable (c : Dev nD) (v : Sems sig S_)

theorem loop_start : loopI m c 0 = iprop(Ctx m ∗ Ow c 6 ∗ qfull m c ∗ ast m c 0 ∗ sst m c 0 ∗ kfly m c 0 0 ∗ vfly m c 0 0
    ∗ kfly m c 1 1 ∗ vfly m c 1 1 ∗ kfree m c 2 ∗ vfree m c 2) := rfl
theorem loop_end : loopI m c 8 = iprop(Ctx m ∗ Ow c 6 ∗ qfull m c ∗ ast m c 32 ∗ sst m c 32 ∗ kfly m c 2 7 ∗ vfly m c 2 7
    ∗ kfly m c 0 7 ∗ vfly m c 0 7 ∗ kfree m c 1 ∗ vfree m c 1) := rfl

/-- The last query, the loop over the heads, and the last head brought in. -/
theorem run_part19 {Q} :
    iprop(Ctx m ∗ Ow c 6 ∗ qst m c 31 ∗ ast m c 0 ∗ sst m c 0 ∗ kfly m c 0 0 ∗ vfly m c 0 0 ∗ kfly m c 1 1 ∗ vfly m c 1 1 ∗ kfree m c 2 ∗ vfree m c 2)
      ⊢ iprop((∀ r, (Ow c 6 ∗ qfull m c ∗ ast m c 32 ∗ sst m c 32 ∗ kfly m c 0 7 ∗ vfly m c 0 7 ∗ kfree m c 1 ∗ vfree m c 1 ∗ kfree m c 2 ∗ vfree m c 2) -∗ Q r) -∗ WP c (k0_part19 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v (k0_pay75 (k0_pay29 (XG m)) (wqh m c 7))) Q) := by
  rw [k0_part19_eq_skeleton]
  unfold k0_part19_skel
  simp only [semSignalWord, semWaitWord, Prog.lift, Prog.bind_op, Prog.bind_ret, Prog.pure_eq_ret, wp_deviceId]
  iintro ⟨#HC, HO, HQ, HA, HS, HK0, HV0, HK1, HV1, HK2, HV2⟩ Hk
  iapply (act_put_q m c 7 3 rfl (n := 31) (n' := 32) rfl rfl (by rfl)) $$ HQ
  iintro HQ
  ihave HQ := (qst_full m c) $$ HQ
  iapply (run_loop m c v _) $$ [HO HQ HA HS HK0 HV0 HK1 HV1 HK2 HV2]
  · iapply (Entails.of_eq (loop_start m c).symm)
    isplitr; · iexact HC
    isplitl [HO]; · iexact HO
    isplitl [HQ]; · iexact HQ
    isplitl [HA]; · iexact HA
    isplitl [HS]; · iexact HS
    isplitl [HK0]; · iexact HK0
    isplitl [HV0]; · iexact HV0
    isplitl [HK1]; · iexact HK1
    isplitl [HV1]; · iexact HV1
    isplitl [HK2]; · iexact HK2
    iexact HV2
  iintro HL
  ihave HL := (Entails.of_eq (loop_end m c)) $$ HL
  icases HL with ⟨-, HO, HQ, HA, HS, HK1, HV1, HK2, HV2, HK3, HV3⟩
  iapply (act_waitK m c 2 7 (sem_k 2 rfl _ _) rfl) $$ [HO HK1]
  · isplitr; · iexact HC
    isplitl [HO]; · iexact HO
    iexact HK1
  iintro ⟨HO, HK1⟩
  iapply (act_waitV m c 2 7 (sem_v 2 rfl _ _) rfl) $$ [HO HV1]
  · isplitr; · iexact HC
    isplitl [HO]; · iexact HO
    iexact HV1
  iintro ⟨HO, HV1⟩
  ihave HK1 := (kgot_free m c 2 7) $$ HK1
  ihave HV1 := (vgot_free m c 2 7) $$ HV1
  iapply (act_ret c)
  iapply Hk
  isplitl [HO]; · iexact HO
  isplitl [HQ]; · iexact HQ
  isplitl [HA]; · iexact HA
  isplitl [HS]; · iexact HS
  isplitl [HK2]; · iexact HK2
  isplitl [HV2]; · iexact HV2
  isplitl [HK3]; · iexact HK3
  isplitl [HV3]; · iexact HV3
  isplitl [HK1]; · iexact HK1
  iexact HV1

/-- The other copy of the last head brought in. -/
theorem run_part20 (a) {Q} :
    iprop(Ctx m ∗ Ow c 6 ∗ kfly m c 0 7 ∗ vfly m c 0 7)
      ⊢ iprop((∀ r, (Ow c 6 ∗ kfree m c 0 ∗ vfree m c 0) -∗ Q r) -∗ WP c (k0_part20 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part20_eq_skeleton]
  unfold k0_part20_skel
  simp only [semSignalWord, semWaitWord, Prog.lift, Prog.bind_op, Prog.bind_ret, Prog.pure_eq_ret, wp_deviceId]
  iintro ⟨#HC, HO, HK, HV⟩ Hk
  iapply (act_waitK m c 0 7 (sem_k 0 rfl _ _) rfl) $$ [HO HK]
  · isplitr; · iexact HC
    isplitl [HO]; · iexact HO
    iexact HK
  iintro ⟨HO, HK⟩
  iapply (act_waitV m c 0 7 (sem_v 0 rfl _ _) rfl) $$ [HO HV]
  · isplitr; · iexact HC
    isplitl [HO]; · iexact HO
    iexact HV
  iintro ⟨HO, HV⟩
  ihave HK := (kgot_free m c 0 7) $$ HK
  ihave HV := (vgot_free m c 0 7) $$ HV
  iapply (act_ret c)
  iapply Hk
  isplitl [HO]; · iexact HO
  isplitl [HK]; · iexact HK
  iexact HV

/-- Sends of half 0. -/
theorem run_part21 (a b) {Q} :
    iprop(Ctx m ∗ Ow c 6 ∗ outA m c 0 0 ∗ outS m c 0 0)
      ⊢ iprop((∀ r, (Ow c 8 ∗ due (F := F) c (.pa 0 0) (amt (.pa 0 0)) ∗ due (F := F) c (.ps 0 0) (amt (.ps 0 0))) -∗ Q r) -∗ WP c (k0_part21 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b) Q) := by
  rw [k0_part21_eq_skeleton]
  unfold k0_part21_skel
  simp only [semSignalWord, semWaitWord, Prog.lift, Prog.bind_op, Prog.bind_ret, Prog.pure_eq_ret, wp_deviceId]
  iintro ⟨#HC, HO, HA0, HS0⟩ Hk
  iapply (send_a m c _ 0 0 6 (dev7_eq c) (sem_pa 0 0 rfl rfl _ _ _ _) (sem_ra 0 c rfl (k0_off1_eq c) _ _ _ _) rfl (off29_eq c 0) (k0_off30_eq c)) $$ [HO HA0]
  · isplitr; · iexact HC
    isplitl [HO]; · iexact HO
    iexact HA0
  iintro ⟨HO, HA0⟩
  iapply (send_s m c _ 0 0 7 (dev8_eq c) (sem_ps 0 0 rfl rfl _ _ _ _) (sem_rs 0 c rfl (k0_off1_eq c) _ _ _ _) rfl (off32_eq c 0) (k0_off31_eq c) rfl rfl) $$ [HO HS0]
  · isplitr; · iexact HC
    isplitl [HO]; · iexact HO
    iexact HS0
  iintro ⟨HO, HS0⟩
  iapply (act_ret c)
  iapply Hk
  isplitl [HO]; · iexact HO
  isplitl [HA0]; · iexact HA0
  iexact HS0

/-- Sends of half 0. -/
theorem run_part22 (a b) {Q} :
    iprop(Ctx m ∗ Ow c 8 ∗ outA m c 0 1)
      ⊢ iprop((∀ r, (Ow c 9 ∗ due (F := F) c (.pa 0 1) (amt (.pa 0 1))) -∗ Q r) -∗ WP c (k0_part22 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b) Q) := by
  rw [k0_part22_eq_skeleton]
  unfold k0_part22_skel
  simp only [semSignalWord, semWaitWord, Prog.lift, Prog.bind_op, Prog.bind_ret, Prog.pure_eq_ret, wp_deviceId]
  iintro ⟨#HC, HO, HA1⟩ Hk
  iapply (send_a m c _ 0 1 8 (dev9_eq c) (sem_pa 0 1 rfl rfl _ _ _ _) (sem_ra 0 c rfl (k0_off1_eq c) _ _ _ _) rfl (off29_eq c 1) (k0_off30_eq c)) $$ [HO HA1]
  · isplitr; · iexact HC
    isplitl [HO]; · iexact HO
    iexact HA1
  iintro ⟨HO, HA1⟩
  iapply (act_ret c)
  iapply Hk
  isplitl [HO]; · iexact HO
  iexact HA1

/-- Sends of half 0. -/
theorem run_part23 (a b) {Q} :
    iprop(Ctx m ∗ Ow c 9 ∗ outS m c 0 1)
      ⊢ iprop((∀ r, (Ow c 10 ∗ due (F := F) c (.ps 0 1) (amt (.ps 0 1))) -∗ Q r) -∗ WP c (k0_part23 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b) Q) := by
  rw [k0_part23_eq_skeleton]
  unfold k0_part23_skel
  simp only [semSignalWord, semWaitWord, Prog.lift, Prog.bind_op, Prog.bind_ret, Prog.pure_eq_ret, wp_deviceId]
  iintro ⟨#HC, HO, HS1⟩ Hk
  iapply (send_s m c _ 0 1 9 (dev10_eq c) (sem_ps 0 1 rfl rfl _ _ _ _) (sem_rs 0 c rfl (k0_off1_eq c) _ _ _ _) rfl (off32_eq c 1) (k0_off31_eq c) rfl rfl) $$ [HO HS1]
  · isplitr; · iexact HC
    isplitl [HO]; · iexact HO
    iexact HS1
  iintro ⟨HO, HS1⟩
  iapply (act_ret c)
  iapply Hk
  isplitl [HO]; · iexact HO
  iexact HS1

/-- Sends of half 0. -/
theorem run_part24 (a) {Q} :
    iprop(Ctx m ∗ Ow c 10 ∗ outA m c 0 2)
      ⊢ iprop((∀ r, (Ow c 11 ∗ due (F := F) c (.pa 0 2) (amt (.pa 0 2))) -∗ Q r) -∗ WP c (k0_part24 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part24_eq_skeleton]
  unfold k0_part24_skel
  simp only [semSignalWord, semWaitWord, Prog.lift, Prog.bind_op, Prog.bind_ret, Prog.pure_eq_ret, wp_deviceId]
  iintro ⟨#HC, HO, HA2⟩ Hk
  iapply (send_a m c _ 0 2 10 (dev11_eq c) (sem_pa 0 2 rfl rfl _ _ _ _) (sem_ra 0 c rfl (k0_off1_eq c) _ _ _ _) rfl (off29_eq c 2) (k0_off30_eq c)) $$ [HO HA2]
  · isplitr; · iexact HC
    isplitl [HO]; · iexact HO
    iexact HA2
  iintro ⟨HO, HA2⟩
  iapply (act_ret c)
  iapply Hk
  isplitl [HO]; · iexact HO
  iexact HA2

/-- Sends of half 0. -/
theorem run_part25 {Q} :
    iprop(Ctx m ∗ Ow c 11 ∗ outS m c 0 2 ∗ pts c cc0_scratch5 (pcA 0 c) fullShare (PA m c) ∗ any (F := F) c cc0_scratch7 (pcA 0 c) ∗ idle (F := F) c (cpyS 1))
      ⊢ iprop((∀ r, (Ow c 12 ∗ due (F := F) c (.ps 0 2) (amt (.ps 0 2)) ∗ (fly (F := F) c (cpyS 1) NA iprop(pts c cc0_scratch7 (pcA 0 c) fullShare (RB m c) ∗ pts c cc0_scratch5 (pcA 0 c) fullShare (PA m c)))) -∗ Q r) -∗ WP c (k0_part25 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part25_eq_skeleton]
  unfold k0_part25_skel
  simp only [semSignalWord, semWaitWord, Prog.lift, Prog.bind_op, Prog.bind_ret, Prog.pure_eq_ret, wp_deviceId]
  iintro ⟨#HC, HO, HS2, HPA, HRA, HIA⟩ Hk
  iapply (send_s m c _ 0 2 11 (dev12_eq c) (sem_ps 0 2 rfl rfl _ _ _ _) (sem_rs 0 c rfl (k0_off1_eq c) _ _ _ _) rfl (off32_eq c 2) (k0_off31_eq c) rfl rfl) $$ [HO HS2]
  · isplitr; · iexact HC
    isplitl [HO]; · iexact HO
    iexact HS2
  iintro ⟨HO, HS2⟩
  iapply (act_copyA m c 0 (sem_cpy 1 rfl _ _) (k0_off30_eq c) (k0_off30_eq c)) $$ [HPA HRA HIA]
  · isplitl [HPA]; · iexact HPA
    isplitl [HRA]; · iexact HRA
    iexact HIA
  iintro HFA
  iapply (act_ret c)
  iapply Hk
  isplitl [HO]; · iexact HO
  isplitl [HS2]; · iexact HS2
  iexact HFA

/-- The own pieces of half 0. -/
theorem run_part26 (a) {Q} :
    iprop(pts c cc0_scratch6 (pcS 0 c) fullShare (PS m c) ∗ any (F := F) c cc0_scratch8 (pcS 0 c) ∗ idle (F := F) c (cpyS 2))
      ⊢ iprop((∀ r, ((fly (F := F) c (cpyS 2) NS iprop(pts c cc0_scratch8 (pcS 0 c) fullShare (RS m c) ∗ pts c cc0_scratch6 (pcS 0 c) fullShare (PS m c)))) -∗ Q r) -∗ WP c (k0_part26 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part26_eq_skeleton]
  unfold k0_part26_skel
  simp only [semSignalWord, semWaitWord, Prog.lift, Prog.bind_op, Prog.bind_ret, Prog.pure_eq_ret, wp_deviceId]
  iintro ⟨HPS, HRS, HIS⟩ Hk
  iapply (act_copyS m c 0 (sem_cpy 2 rfl _ _) (k0_off31_eq c) (k0_off31_eq c) rfl rfl) $$ [HPS HRS HIS]
  · isplitl [HPS]; · iexact HPS
    isplitl [HRS]; · iexact HRS
    iexact HIS
  iintro HFS
  iapply (act_ret c)
  iapply Hk
  iexact HFS

/-- Sends of half 1. -/
theorem run_part27 (a b) {Q} :
    iprop(Ctx m ∗ Ow c 12 ∗ outA m c 1 0 ∗ outS m c 1 0)
      ⊢ iprop((∀ r, (Ow c 14 ∗ due (F := F) c (.pa 1 0) (amt (.pa 1 0)) ∗ due (F := F) c (.ps 1 0) (amt (.ps 1 0))) -∗ Q r) -∗ WP c (k0_part27 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b) Q) := by
  rw [k0_part27_eq_skeleton]
  unfold k0_part27_skel
  simp only [semSignalWord, semWaitWord, Prog.lift, Prog.bind_op, Prog.bind_ret, Prog.pure_eq_ret, wp_deviceId]
  iintro ⟨#HC, HO, HA0, HS0⟩ Hk
  iapply (send_a m c _ 1 0 12 (dev13_eq c) (sem_pa 1 0 rfl rfl _ _ _ _) (sem_ra 1 c rfl (k0_off1_eq c) _ _ _ _) rfl (off33_eq c 0) (k0_off34_eq c)) $$ [HO HA0]
  · isplitr; · iexact HC
    isplitl [HO]; · iexact HO
    iexact HA0
  iintro ⟨HO, HA0⟩
  iapply (send_s m c _ 1 0 13 (dev14_eq c) (sem_ps 1 0 rfl rfl _ _ _ _) (sem_rs 1 c rfl (k0_off1_eq c) _ _ _ _) rfl (off32_eq c 0) (k0_off31_eq c) rfl rfl) $$ [HO HS0]
  · isplitr; · iexact HC
    isplitl [HO]; · iexact HO
    iexact HS0
  iintro ⟨HO, HS0⟩
  iapply (act_ret c)
  iapply Hk
  isplitl [HO]; · iexact HO
  isplitl [HA0]; · iexact HA0
  iexact HS0

/-- Sends of half 1. -/
theorem run_part28 (a b d) {Q} :
    iprop(Ctx m ∗ Ow c 14 ∗ outA m c 1 1)
      ⊢ iprop((∀ r, (Ow c 15 ∗ due (F := F) c (.pa 1 1) (amt (.pa 1 1))) -∗ Q r) -∗ WP c (k0_part28 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b d) Q) := by
  rw [k0_part28_eq_skeleton]
  unfold k0_part28_skel
  simp only [semSignalWord, semWaitWord, Prog.lift, Prog.bind_op, Prog.bind_ret, Prog.pure_eq_ret, wp_deviceId]
  iintro ⟨#HC, HO, HA1⟩ Hk
  iapply (send_a m c _ 1 1 14 (dev15_eq c) (sem_pa 1 1 rfl rfl _ _ _ _) (sem_ra 1 c rfl (k0_off1_eq c) _ _ _ _) rfl (off33_eq c 1) (k0_off34_eq c)) $$ [HO HA1]
  · isplitr; · iexact HC
    isplitl [HO]; · iexact HO
    iexact HA1
  iintro ⟨HO, HA1⟩
  iapply (act_ret c)
  iapply Hk
  isplitl [HO]; · iexact HO
  iexact HA1

/-- Sends of half 1. -/
theorem run_part29 (a) {Q} :
    iprop(Ctx m ∗ Ow c 15 ∗ outS m c 1 1)
      ⊢ iprop((∀ r, (Ow c 16 ∗ due (F := F) c (.ps 1 1) (amt (.ps 1 1))) -∗ Q r) -∗ WP c (k0_part29 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part29_eq_skeleton]
  unfold k0_part29_skel
  simp only [semSignalWord, semWaitWord, Prog.lift, Prog.bind_op, Prog.bind_ret, Prog.pure_eq_ret, wp_deviceId]
  iintro ⟨#HC, HO, HS1⟩ Hk
  iapply (send_s m c _ 1 1 15 (dev16_eq c) (sem_ps 1 1 rfl rfl _ _ _ _) (sem_rs 1 c rfl (k0_off1_eq c) _ _ _ _) rfl (off32_eq c 1) (k0_off31_eq c) rfl rfl) $$ [HO HS1]
  · isplitr; · iexact HC
    isplitl [HO]; · iexact HO
    iexact HS1
  iintro ⟨HO, HS1⟩
  iapply (act_ret c)
  iapply Hk
  isplitl [HO]; · iexact HO
  iexact HS1

/-- Sends of half 1. -/
theorem run_part30 (a) {Q} :
    iprop(Ctx m ∗ Ow c 16 ∗ outA m c 1 2 ∗ outS m c 1 2)
      ⊢ iprop((∀ r, (Ow c 18 ∗ due (F := F) c (.pa 1 2) (amt (.pa 1 2)) ∗ due (F := F) c (.ps 1 2) (amt (.ps 1 2))) -∗ Q r) -∗ WP c (k0_part30 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part30_eq_skeleton]
  unfold k0_part30_skel
  simp only [semSignalWord, semWaitWord, Prog.lift, Prog.bind_op, Prog.bind_ret, Prog.pure_eq_ret, wp_deviceId]
  iintro ⟨#HC, HO, HA2, HS2⟩ Hk
  iapply (send_a m c _ 1 2 16 (dev17_eq c) (sem_pa 1 2 rfl rfl _ _ _ _) (sem_ra 1 c rfl (k0_off1_eq c) _ _ _ _) rfl (off33_eq c 2) (k0_off34_eq c)) $$ [HO HA2]
  · isplitr; · iexact HC
    isplitl [HO]; · iexact HO
    iexact HA2
  iintro ⟨HO, HA2⟩
  iapply (send_s m c _ 1 2 17 (dev18_eq c) (sem_ps 1 2 rfl rfl _ _ _ _) (sem_rs 1 c rfl (k0_off1_eq c) _ _ _ _) rfl (off32_eq c 2) (k0_off31_eq c) rfl rfl) $$ [HO HS2]
  · isplitr; · iexact HC
    isplitl [HO]; · iexact HO
    iexact HS2
  iintro ⟨HO, HS2⟩
  iapply (act_ret c)
  iapply Hk
  isplitl [HO]; · iexact HO
  isplitl [HA2]; · iexact HA2
  iexact HS2

/-- The own pieces of half 1. -/
theorem run_part31 {Q} :
    iprop(pts c cc0_scratch5 (pcA 1 c) fullShare (PA m c) ∗ any (F := F) c cc0_scratch7 (pcA 1 c) ∗ idle (F := F) c (cpyS 3) ∗ pts c cc0_scratch6 (pcS 1 c) fullShare (PS m c) ∗ any (F := F) c cc0_scratch8 (pcS 1 c) ∗ idle (F := F) c (cpyS 4))
      ⊢ iprop((∀ r, ((fly (F := F) c (cpyS 3) NA iprop(pts c cc0_scratch7 (pcA 1 c) fullShare (RB m c) ∗ pts c cc0_scratch5 (pcA 1 c) fullShare (PA m c))) ∗ (fly (F := F) c (cpyS 4) NS iprop(pts c cc0_scratch8 (pcS 1 c) fullShare (RS m c) ∗ pts c cc0_scratch6 (pcS 1 c) fullShare (PS m c)))) -∗ Q r) -∗ WP c (k0_part31 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part31_eq_skeleton]
  unfold k0_part31_skel
  simp only [semSignalWord, semWaitWord, Prog.lift, Prog.bind_op, Prog.bind_ret, Prog.pure_eq_ret, wp_deviceId]
  iintro ⟨HPA, HRA, HIA, HPS, HRS, HIS⟩ Hk
  iapply (act_copyA m c 1 (sem_cpy 3 rfl _ _) (k0_off34_eq c) (k0_off34_eq c)) $$ [HPA HRA HIA]
  · isplitl [HPA]; · iexact HPA
    isplitl [HRA]; · iexact HRA
    iexact HIA
  iintro HFA
  iapply (act_copyS m c 1 (sem_cpy 4 rfl _ _) (k0_off31_eq c) (k0_off31_eq c) rfl rfl) $$ [HPS HRS HIS]
  · isplitl [HPS]; · iexact HPS
    isplitl [HRS]; · iexact HRS
    iexact HIS
  iintro HFS
  iapply (act_ret c)
  iapply Hk
  isplitl [HFA]; · iexact HFA
  iexact HFS

end

end Cert.Attn

end
-- ==== Proof.Back.lean ====
/-
The end: the partial results of the peers arrive, the two halves are put together and the result stored,
and the sends are waited for.
-/
module

public import proofs.«01_k».proof.Proof.Middle

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

theorem half_emb7 (h : Fin 2) {off : Fin 5 → ℕ} (hoff : off = ![0, 4 * h.val, 0, 0, 0]) (inb) (y : S4x4x4x64x128.Idx) :
    ((Rect.unit (s := S4x8x4x64x128) off S4x4x4x64x128.size inb).emb y : S4x8x4x64x128.Idx) = ix5 (y 0) (hf h (y 1)) (y 2) (y 3) (y 4) := by
  subst hoff
  refine funext fun a => Fin.ext ((Rect.emb_apply _ _ _).trans ?_)
  fin_cases a
  · show 0 + 1 * (y 0).val = (y 0).val; omega
  · show 4 * h.val + 1 * (y 1).val = 4 * h.val + (y 1).val; omega
  · show 0 + 1 * (y 2).val = (y 2).val; omega
  · show 0 + 1 * (y 3).val = (y 3).val; omega
  · show 0 + 1 * (y 4).val = (y 4).val; omega

theorem half_emb8 (h : Fin 2) {off : Fin 5 → ℕ} (hoff : off = ![0, 4 * h.val, 0, 0, 0]) (inb) (y : S4x4x4x64x2.Idx) :
    ((Rect.unit (s := S4x8x4x64x2) off S4x4x4x64x2.size inb).emb y : S4x8x4x64x2.Idx) = ix5 (y 0) (hf h (y 1)) (y 2) (y 3) (y 4) := by
  subst hoff
  refine funext fun a => Fin.ext ((Rect.emb_apply _ _ _).trans ?_)
  fin_cases a
  · show 0 + 1 * (y 0).val = (y 0).val; omega
  · show 4 * h.val + 1 * (y 1).val = 4 * h.val + (y 1).val; omega
  · show 0 + 1 * (y 2).val = (y 2).val; omega
  · show 0 + 1 * (y 3).val = (y 3).val; omega
  · show 0 + 1 * (y 4).val = (y 4).val; omega

theorem hf_half (h : Fin 2) (a : Fin 4) : (hf h a).val / 4 = h.val := by
  show (4 * h.val + a.val) / 4 = h.val
  omega

/-- The staged output weights, held whole. -/
abbrev ofull (c : Dev nD) : sProp 𝕄 := pts c cc0_stg2_0 Finset.univ fullShare (ostg m c)
abbrev hA (c : Dev nD) (h : Fin 2) : sProp 𝕄 := pts c cc0_scratch7 (halfA h) fullShare (RB m c)
abbrev hS (c : Dev nD) (h : Fin 2) : sProp 𝕄 := pts c cc0_scratch8 (halfS h) fullShare (RS m c)

section
variable (c : Dev nD)

theorem act_load_ra {Q : α → sProp 𝕄} (h : Fin 2) {off : Fin 5 → ℕ} (hoff : off = ![0, 4 * h.val, 0, 0, 0]) {inb}
    {hl : rbM.view.LoadsAt (Rect.unit (s := S4x8x4x64x128) off S4x4x4x64x128.size inb).toLoadRect} {k : Vec F S4x4x4x64x128 .bf16 → Prog (TpuEff nD τ sig (Elt F) Λ₀ .tc) α} :
    hA m c h ⊢ iprop((hA m c h -∗ WP c (k (rbh m c h)) Q)
      -∗ WP c (.op (.load rbM (Rect.unit (s := S4x8x4x64x128) off S4x4x4x64x128.size inb).toLoadRect hl) k) Q) :=
  act_load c rbM (Rect.unit (s := S4x8x4x64x128) off S4x4x4x64x128.size inb) (f := RB m c)
    (fun y => Finset.mem_filter.mpr ⟨Finset.mem_univ _, ((congrArg (fun i : S4x8x4x64x128.Idx => (i 1).val / 4) (half_emb7 h hoff inb y)).trans (hf_half h (y 1)) : _)⟩) _
    fun y => congrArg (RB m c) (half_emb7 h hoff inb y)

theorem act_load_rs {Q : α → sProp 𝕄} (h : Fin 2) {off : Fin 5 → ℕ} (hoff : off = ![0, 4 * h.val, 0, 0, 0]) {inb}
    {hl : rsM.view.LoadsAt (Rect.unit (s := S4x8x4x64x2) off S4x4x4x64x2.size inb).toLoadRect} {k : Vec F S4x4x4x64x2 .f32 → Prog (TpuEff nD τ sig (Elt F) Λ₀ .tc) α} :
    hS m c h ⊢ iprop((hS m c h -∗ WP c (k (rsh m c h)) Q)
      -∗ WP c (.op (.load rsM (Rect.unit (s := S4x8x4x64x2) off S4x4x4x64x2.size inb).toLoadRect hl) k) Q) :=
  act_load c rsM (Rect.unit (s := S4x8x4x64x2) off S4x4x4x64x2.size inb) (f := RS m c)
    (fun y => Finset.mem_filter.mpr ⟨Finset.mem_univ _, ((congrArg (fun i : S4x8x4x64x2.Idx => (i 1).val / 4) (half_emb8 h hoff inb y)).trans (hf_half h (y 1)) : _)⟩) _
    fun y => congrArg (RS m c) (half_emb8 h hoff inb y)

theorem act_load_o {Q : α → sProp 𝕄} (h : Fin 2) {off : Fin 2 → ℕ} (hoff : off = ![512 * h.val, 0]) {inb}
    {hl : oM.view.LoadsAt (Rect.unit (s := S1024x1024) off S512x1024.size inb).toLoadRect} {k : Vec F S512x1024 .f32 → Prog (TpuEff nD τ sig (Elt F) Λ₀ .tc) α} :
    ofull m c ⊢ iprop((ofull m c -∗ WP c (k (woh m c h)) Q)
      -∗ WP c (.op (.load oM (Rect.unit (s := S1024x1024) off S512x1024.size inb).toLoadRect hl) k) Q) :=
  act_load c oM (Rect.unit (s := S1024x1024) off S512x1024.size inb) (f := ostg m c) (fun _ => Finset.mem_univ _) _ fun y => by
    subst hoff
    refine congrArg (ostg m c) (funext fun a => Fin.ext ((Rect.emb_apply _ _ _).trans ?_))
    fin_cases a
    · show 512 * h.val + 1 * (y 0).val = 512 * h.val + (y 0).val; omega
    · show 0 + 1 * (y 1).val = (y 1).val; omega

end

section
variable (c : Dev nD) (v : Sems sig S_)

/-- The own pieces of half 0 are in place. -/
theorem run_part32 (a) {Q} :
    iprop(Ctx m ∗ Ow c 18 ∗ (fly (F := F) c (cpyS 1) NA iprop(pts c cc0_scratch7 (pcA 0 c) fullShare (RB m c) ∗ pts c cc0_scratch5 (pcA 0 c) fullShare (PA m c))) ∗ (fly (F := F) c (cpyS 2) NS iprop(pts c cc0_scratch8 (pcS 0 c) fullShare (RS m c) ∗ pts c cc0_scratch6 (pcS 0 c) fullShare (PS m c))))
      ⊢ iprop((∀ r, (Ow c 18 ∗ idle (F := F) c (cpyS 1) ∗ idle (F := F) c (cpyS 2) ∗ pts c cc0_scratch7 (pcA 0 c) fullShare (RB m c) ∗ pts c cc0_scratch5 (pcA 0 c) fullShare (PA m c) ∗ pts c cc0_scratch8 (pcS 0 c) fullShare (RS m c) ∗ pts c cc0_scratch6 (pcS 0 c) fullShare (PS m c)) -∗ Q r) -∗ WP c (k0_part32 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part32_eq_skeleton]
  unfold k0_part32_skel
  simp only [semSignalWord, semWaitWord, Prog.lift, Prog.bind_op, Prog.bind_ret, Prog.pure_eq_ret, wp_deviceId]
  iintro ⟨#HC, HO, HFA, HFS⟩ Hk
  iapply (act_wait_copy m c (sem_cpy 1 rfl _ _) 18 3 above_18 (by decide) NA rfl) $$ [HO HFA]
  · isplitr; · iexact HC
    isplitl [HO]; · iexact HO
    iexact HFA
  iintro ⟨HO, HIA, HRA, HPA⟩
  iapply (act_wait_copy m c (sem_cpy 2 rfl _ _) 18 3 above_18 (by decide) NS rfl) $$ [HO HFS]
  · isplitr; · iexact HC
    isplitl [HO]; · iexact HO
    iexact HFS
  iintro ⟨HO, HIS, HRS, HPS⟩
  iapply (act_ret c)
  iapply Hk
  isplitl [HO]; · iexact HO
  isplitl [HIA]; · iexact HIA
  isplitl [HIS]; · iexact HIS
  isplitl [HRA]; · iexact HRA
  isplitl [HPA]; · iexact HPA
  isplitl [HRS]; · iexact HRS
  iexact HPS

/-- Arrivals of half 0. -/
theorem run_part33 (a b d) {Q} :
    iprop(Ctx m ∗ Ow c 18 ∗ wants (F := F) c (.ra 0 (pr c 0)))
      ⊢ iprop((∀ r, (Ow c 18 ∗ got m c (.ra 0 (pr c 0))) -∗ Q r) -∗ WP c (k0_part33 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b d) Q) := by
  rw [k0_part33_eq_skeleton]
  unfold k0_part33_skel
  simp only [semSignalWord, semWaitWord, Prog.lift, Prog.bind_op, Prog.bind_ret, Prog.pure_eq_ret, wp_deviceId]
  iintro ⟨#HC, HO, HA0⟩ Hk
  iapply (act_take m c (.ra 0 (pr c 0)) 18 3 above_18 (le_refl 3) (sem_ra 0 (pr c 0) rfl (off3_eq c 0) _ _ _ _) (one_ra c 0 0) rfl) $$ [HO HA0]
  · isplitr; · iexact HC
    isplitl [HO]; · iexact HO
    iexact HA0
  iintro ⟨HO, HA0⟩
  iapply (act_ret c)
  iapply Hk
  isplitl [HO]; · iexact HO
  iexact HA0

/-- Arrivals of half 0. -/
theorem run_part34 (a) {Q} :
    iprop(Ctx m ∗ Ow c 18 ∗ wants (F := F) c (.rs 0 (pr c 0)))
      ⊢ iprop((∀ r, (Ow c 18 ∗ got m c (.rs 0 (pr c 0))) -∗ Q r) -∗ WP c (k0_part34 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part34_eq_skeleton]
  unfold k0_part34_skel
  simp only [semSignalWord, semWaitWord, Prog.lift, Prog.bind_op, Prog.bind_ret, Prog.pure_eq_ret, wp_deviceId]
  iintro ⟨#HC, HO, HS0⟩ Hk
  iapply (act_take m c (.rs 0 (pr c 0)) 18 3 above_18 (le_refl 3) (sem_rs 0 (pr c 0) rfl (off3_eq c 0) _ _ _ _) (one_rs c 0 0) rfl) $$ [HO HS0]
  · isplitr; · iexact HC
    isplitl [HO]; · iexact HO
    iexact HS0
  iintro ⟨HO, HS0⟩
  iapply (act_ret c)
  iapply Hk
  isplitl [HO]; · iexact HO
  iexact HS0

/-- Arrivals of half 0. -/
theorem run_part35 (a b) {Q} :
    iprop(Ctx m ∗ Ow c 18 ∗ wants (F := F) c (.ra 0 (pr c 1)) ∗ wants (F := F) c (.rs 0 (pr c 1)))
      ⊢ iprop((∀ r, (Ow c 18 ∗ got m c (.ra 0 (pr c 1)) ∗ got m c (.rs 0 (pr c 1))) -∗ Q r) -∗ WP c (k0_part35 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b) Q) := by
  rw [k0_part35_eq_skeleton]
  unfold k0_part35_skel
  simp only [semSignalWord, semWaitWord, Prog.lift, Prog.bind_op, Prog.bind_ret, Prog.pure_eq_ret, wp_deviceId]
  iintro ⟨#HC, HO, HA1, HS1⟩ Hk
  iapply (act_take m c (.ra 0 (pr c 1)) 18 3 above_18 (le_refl 3) (sem_ra 0 (pr c 1) rfl (off3_eq c 1) _ _ _ _) (one_ra c 0 1) rfl) $$ [HO HA1]
  · isplitr; · iexact HC
    isplitl [HO]; · iexact HO
    iexact HA1
  iintro ⟨HO, HA1⟩
  iapply (act_take m c (.rs 0 (pr c 1)) 18 3 above_18 (le_refl 3) (sem_rs 0 (pr c 1) rfl (off3_eq c 1) _ _ _ _) (one_rs c 0 1) rfl) $$ [HO HS1]
  · isplitr; · iexact HC
    isplitl [HO]; · iexact HO
    iexact HS1
  iintro ⟨HO, HS1⟩
  iapply (act_ret c)
  iapply Hk
  isplitl [HO]; · iexact HO
  isplitl [HA1]; · iexact HA1
  iexact HS1

/-- Arrivals of half 0. -/
theorem run_part36 (a) {Q} :
    iprop(Ctx m ∗ Ow c 18 ∗ wants (F := F) c (.ra 0 (pr c 2)))
      ⊢ iprop((∀ r, (Ow c 18 ∗ got m c (.ra 0 (pr c 2))) -∗ Q r) -∗ WP c (k0_part36 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part36_eq_skeleton]
  unfold k0_part36_skel
  simp only [semSignalWord, semWaitWord, Prog.lift, Prog.bind_op, Prog.bind_ret, Prog.pure_eq_ret, wp_deviceId]
  iintro ⟨#HC, HO, HA2⟩ Hk
  iapply (act_take m c (.ra 0 (pr c 2)) 18 3 above_18 (le_refl 3) (sem_ra 0 (pr c 2) rfl (off3_eq c 2) _ _ _ _) (one_ra c 0 2) rfl) $$ [HO HA2]
  · isplitr; · iexact HC
    isplitl [HO]; · iexact HO
    iexact HA2
  iintro ⟨HO, HA2⟩
  iapply (act_ret c)
  iapply Hk
  isplitl [HO]; · iexact HO
  iexact HA2

/-- The last arrival of half 0, and the half read and put together. -/
theorem run_part37 {Q} :
    iprop(Ctx m ∗ Ow c 18 ∗ got m c (.ra 0 (pr c 0)) ∗ got m c (.ra 0 (pr c 1)) ∗ got m c (.ra 0 (pr c 2)) ∗ got m c (.rs 0 (pr c 0)) ∗ got m c (.rs 0 (pr c 1)) ∗ wants (F := F) c (.rs 0 (pr c 2)) ∗ pts c cc0_scratch7 (pcA 0 c) fullShare (RB m c) ∗ pts c cc0_scratch8 (pcS 0 c) fullShare (RS m c) ∗ ofull m c)
      ⊢ iprop(((Ow c 18 ∗ at_ (F := F) c (.ra 0 (pr c 0)) 1 ∗ at_ (F := F) c (.ra 0 (pr c 1)) 1 ∗ at_ (F := F) c (.ra 0 (pr c 2)) 1 ∗ at_ (F := F) c (.rs 0 (pr c 0)) 1 ∗ at_ (F := F) c (.rs 0 (pr c 1)) 1 ∗ at_ (F := F) c (.rs 0 (pr c 2)) 1 ∗ hA m c 0 ∗ hS m c 0 ∗ ofull m c) -∗ Q (k0_pay81 (rbh m c 0) (rsh m c 0) (woh m c 0))) -∗ WP c (k0_part37 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part37_eq_skeleton]
  unfold k0_part37_skel
  simp only [semSignalWord, semWaitWord, Prog.lift, Prog.bind_op, Prog.bind_ret, Prog.pure_eq_ret, wp_deviceId]
  iintro ⟨#HC, HO, HA0, HA1, HA2, HS0, HS1, HS2, HRA, HRS, HW⟩ Hk
  iapply (act_take m c (.rs 0 (pr c 2)) 18 3 above_18 (le_refl 3) (sem_rs 0 (pr c 2) rfl (off3_eq c 2) _ _ _ _) (one_rs c 0 2) rfl) $$ [HO HS2]
  · isplitr; · iexact HC
    isplitl [HO]; · iexact HO
    iexact HS2
  iintro ⟨HO, HS2⟩
  ihave HA0 := (Entails.of_eq (got_ra m c 0 (pr c 0))) $$ HA0
  icases HA0 with ⟨Ha0, HA0⟩
  ihave HS0 := (Entails.of_eq (got_rs m c 0 (pr c 0))) $$ HS0
  icases HS0 with ⟨Hs0, HS0⟩
  ihave HA1 := (Entails.of_eq (got_ra m c 0 (pr c 1))) $$ HA1
  icases HA1 with ⟨Ha1, HA1⟩
  ihave HS1 := (Entails.of_eq (got_rs m c 0 (pr c 1))) $$ HS1
  icases HS1 with ⟨Hs1, HS1⟩
  ihave HA2 := (Entails.of_eq (got_ra m c 0 (pr c 2))) $$ HA2
  icases HA2 with ⟨Ha2, HA2⟩
  ihave HS2 := (Entails.of_eq (got_rs m c 0 (pr c 2))) $$ HS2
  icases HS2 with ⟨Hs2, HS2⟩
  ihave HRA := (Entails.of_eq (pieces7 c c 0 fullShare (RB m c)).symm) $$ [HRA HA0 HA1 HA2]
  · isplitl [HRA]; · iexact HRA
    isplitl [HA0]; · iexact HA0
    isplitl [HA1]; · iexact HA1
    iexact HA2
  ihave HRS := (Entails.of_eq (pieces8 c c 0 fullShare (RS m c)).symm) $$ [HRS HS0 HS1 HS2]
  · isplitl [HRS]; · iexact HRS
    isplitl [HS0]; · iexact HS0
    isplitl [HS1]; · iexact HS1
    iexact HS2
  iapply (act_load_ra m c 0 rfl) $$ HRA
  iintro HRA
  iapply (act_load_rs m c 0 rfl) $$ HRS
  iintro HRS
  iapply (act_load_o m c 0 rfl) $$ HW
  iintro HW
  iapply (act_ret c)
  iapply Hk
  isplitl [HO]; · iexact HO
  isplitl [Ha0]; · iexact Ha0
  isplitl [Ha1]; · iexact Ha1
  isplitl [Ha2]; · iexact Ha2
  isplitl [Hs0]; · iexact Hs0
  isplitl [Hs1]; · iexact Hs1
  isplitl [Hs2]; · iexact Hs2
  isplitl [HRA]; · iexact HRA
  isplitl [HRS]; · iexact HRS
  iexact HW

/-- The own pieces of half 1 are in place. -/
theorem run_part38 (a) {Q} :
    iprop(Ctx m ∗ Ow c 18 ∗ (fly (F := F) c (cpyS 3) NA iprop(pts c cc0_scratch7 (pcA 1 c) fullShare (RB m c) ∗ pts c cc0_scratch5 (pcA 1 c) fullShare (PA m c))) ∗ (fly (F := F) c (cpyS 4) NS iprop(pts c cc0_scratch8 (pcS 1 c) fullShare (RS m c) ∗ pts c cc0_scratch6 (pcS 1 c) fullShare (PS m c))))
      ⊢ iprop((∀ r, (Ow c 18 ∗ idle (F := F) c (cpyS 3) ∗ idle (F := F) c (cpyS 4) ∗ pts c cc0_scratch7 (pcA 1 c) fullShare (RB m c) ∗ pts c cc0_scratch5 (pcA 1 c) fullShare (PA m c) ∗ pts c cc0_scratch8 (pcS 1 c) fullShare (RS m c) ∗ pts c cc0_scratch6 (pcS 1 c) fullShare (PS m c)) -∗ Q r) -∗ WP c (k0_part38 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part38_eq_skeleton]
  unfold k0_part38_skel
  simp only [semSignalWord, semWaitWord, Prog.lift, Prog.bind_op, Prog.bind_ret, Prog.pure_eq_ret, wp_deviceId]
  iintro ⟨#HC, HO, HFA, HFS⟩ Hk
  iapply (act_wait_copy m c (sem_cpy 3 rfl _ _) 18 3 above_18 (by decide) NA rfl) $$ [HO HFA]
  · isplitr; · iexact HC
    isplitl [HO]; · iexact HO
    iexact HFA
  iintro ⟨HO, HIA, HRA, HPA⟩
  iapply (act_wait_copy m c (sem_cpy 4 rfl _ _) 18 3 above_18 (by decide) NS rfl) $$ [HO HFS]
  · isplitr; · iexact HC
    isplitl [HO]; · iexact HO
    iexact HFS
  iintro ⟨HO, HIS, HRS, HPS⟩
  iapply (act_ret c)
  iapply Hk
  isplitl [HO]; · iexact HO
  isplitl [HIA]; · iexact HIA
  isplitl [HIS]; · iexact HIS
  isplitl [HRA]; · iexact HRA
  isplitl [HPA]; · iexact HPA
  isplitl [HRS]; · iexact HRS
  iexact HPS

/-- Arrivals of half 1. -/
theorem run_part39 (a) {Q} :
    iprop(Ctx m ∗ Ow c 18 ∗ wants (F := F) c (.ra 1 (pr c 0)))
      ⊢ iprop((∀ r, (Ow c 18 ∗ got m c (.ra 1 (pr c 0))) -∗ Q r) -∗ WP c (k0_part39 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part39_eq_skeleton]
  unfold k0_part39_skel
  simp only [semSignalWord, semWaitWord, Prog.lift, Prog.bind_op, Prog.bind_ret, Prog.pure_eq_ret, wp_deviceId]
  iintro ⟨#HC, HO, HA0⟩ Hk
  iapply (act_take m c (.ra 1 (pr c 0)) 18 3 above_18 (le_refl 3) (sem_ra 1 (pr c 0) rfl (off3_eq c 0) _ _ _ _) (one_ra c 1 0) rfl) $$ [HO HA0]
  · isplitr; · iexact HC
    isplitl [HO]; · iexact HO
    iexact HA0
  iintro ⟨HO, HA0⟩
  iapply (act_ret c)
  iapply Hk
  isplitl [HO]; · iexact HO
  iexact HA0

/-- Arrivals of half 1. -/
theorem run_part40 (a) {Q} :
    iprop(Ctx m ∗ Ow c 18 ∗ wants (F := F) c (.rs 1 (pr c 0)))
      ⊢ iprop((∀ r, (Ow c 18 ∗ got m c (.rs 1 (pr c 0))) -∗ Q r) -∗ WP c (k0_part40 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part40_eq_skeleton]
  unfold k0_part40_skel
  simp only [semSignalWord, semWaitWord, Prog.lift, Prog.bind_op, Prog.bind_ret, Prog.pure_eq_ret, wp_deviceId]
  iintro ⟨#HC, HO, HS0⟩ Hk
  iapply (act_take m c (.rs 1 (pr c 0)) 18 3 above_18 (le_refl 3) (sem_rs 1 (pr c 0) rfl (off3_eq c 0) _ _ _ _) (one_rs c 1 0) rfl) $$ [HO HS0]
  · isplitr; · iexact HC
    isplitl [HO]; · iexact HO
    iexact HS0
  iintro ⟨HO, HS0⟩
  iapply (act_ret c)
  iapply Hk
  isplitl [HO]; · iexact HO
  iexact HS0

/-- Arrivals of half 1. -/
theorem run_part41 (a b) {Q} :
    iprop(Ctx m ∗ Ow c 18 ∗ wants (F := F) c (.ra 1 (pr c 1)) ∗ wants (F := F) c (.rs 1 (pr c 1)))
      ⊢ iprop((∀ r, (Ow c 18 ∗ got m c (.ra 1 (pr c 1)) ∗ got m c (.rs 1 (pr c 1))) -∗ Q r) -∗ WP c (k0_part41 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b) Q) := by
  rw [k0_part41_eq_skeleton]
  unfold k0_part41_skel
  simp only [semSignalWord, semWaitWord, Prog.lift, Prog.bind_op, Prog.bind_ret, Prog.pure_eq_ret, wp_deviceId]
  iintro ⟨#HC, HO, HA1, HS1⟩ Hk
  iapply (act_take m c (.ra 1 (pr c 1)) 18 3 above_18 (le_refl 3) (sem_ra 1 (pr c 1) rfl (off3_eq c 1) _ _ _ _) (one_ra c 1 1) rfl) $$ [HO HA1]
  · isplitr; · iexact HC
    isplitl [HO]; · iexact HO
    iexact HA1
  iintro ⟨HO, HA1⟩
  iapply (act_take m c (.rs 1 (pr c 1)) 18 3 above_18 (le_refl 3) (sem_rs 1 (pr c 1) rfl (off3_eq c 1) _ _ _ _) (one_rs c 1 1) rfl) $$ [HO HS1]
  · isplitr; · iexact HC
    isplitl [HO]; · iexact HO
    iexact HS1
  iintro ⟨HO, HS1⟩
  iapply (act_ret c)
  iapply Hk
  isplitl [HO]; · iexact HO
  isplitl [HA1]; · iexact HA1
  iexact HS1

/-- Arrivals of half 1. -/
theorem run_part42 (a b d) {Q} :
    iprop(Ctx m ∗ Ow c 18 ∗ wants (F := F) c (.ra 1 (pr c 2)))
      ⊢ iprop((∀ r, (Ow c 18 ∗ got m c (.ra 1 (pr c 2))) -∗ Q r) -∗ WP c (k0_part42 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a b d) Q) := by
  rw [k0_part42_eq_skeleton]
  unfold k0_part42_skel
  simp only [semSignalWord, semWaitWord, Prog.lift, Prog.bind_op, Prog.bind_ret, Prog.pure_eq_ret, wp_deviceId]
  iintro ⟨#HC, HO, HA2⟩ Hk
  iapply (act_take m c (.ra 1 (pr c 2)) 18 3 above_18 (le_refl 3) (sem_ra 1 (pr c 2) rfl (off3_eq c 2) _ _ _ _) (one_ra c 1 2) rfl) $$ [HO HA2]
  · isplitr; · iexact HC
    isplitl [HO]; · iexact HO
    iexact HA2
  iintro ⟨HO, HA2⟩
  iapply (act_ret c)
  iapply Hk
  isplitl [HO]; · iexact HO
  iexact HA2

/-- The last arrival of half 1, the half read and put together, the result stored, and the first send waited for. -/
theorem run_part43 {Q} :
    iprop(Ctx m ∗ Ow c 18 ∗ got m c (.ra 1 (pr c 0)) ∗ got m c (.ra 1 (pr c 1)) ∗ got m c (.ra 1 (pr c 2)) ∗ got m c (.rs 1 (pr c 0)) ∗ got m c (.rs 1 (pr c 1)) ∗ wants (F := F) c (.rs 1 (pr c 2)) ∗ pts c cc0_scratch7 (pcA 1 c) fullShare (RB m c) ∗ pts c cc0_scratch8 (pcS 1 c) fullShare (RS m c) ∗ ofull m c ∗ any (F := F) c cc0_stg3_0 Finset.univ ∗ wants (F := F) c (.xs 0))
      ⊢ iprop((∀ r, (Ow c 18 ∗ at_ (F := F) c (.ra 1 (pr c 0)) 1 ∗ at_ (F := F) c (.ra 1 (pr c 1)) 1 ∗ at_ (F := F) c (.ra 1 (pr c 2)) 1 ∗ at_ (F := F) c (.rs 1 (pr c 0)) 1 ∗ at_ (F := F) c (.rs 1 (pr c 1)) 1 ∗ at_ (F := F) c (.rs 1 (pr c 2)) 1 ∗ hA m c 1 ∗ hS m c 1 ∗ ofull m c ∗ pts c cc0_stg3_0 Finset.univ fullShare (out m c) ∗ got m c (.xs 0)) -∗ Q r) -∗ WP c (k0_part43 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c (k0_pay81 (rbh m c 0) (rsh m c 0) (woh m c 0))) Q) := by
  rw [k0_part43_eq_skeleton]
  unfold k0_part43_skel
  simp only [semSignalWord, semWaitWord, Prog.lift, Prog.bind_op, Prog.bind_ret, Prog.pure_eq_ret, wp_deviceId]
  iintro ⟨#HC, HO, HA0, HA1, HA2, HS0, HS1, HS2, HRA, HRS, HW, HR, HX0⟩ Hk
  icases HR with ⟨%f, HR⟩
  iapply (act_take m c (.rs 1 (pr c 2)) 18 3 above_18 (le_refl 3) (sem_rs 1 (pr c 2) rfl (off3_eq c 2) _ _ _ _) (one_rs c 1 2) rfl) $$ [HO HS2]
  · isplitr; · iexact HC
    isplitl [HO]; · iexact HO
    iexact HS2
  iintro ⟨HO, HS2⟩
  ihave HA0 := (Entails.of_eq (got_ra m c 1 (pr c 0))) $$ HA0
  icases HA0 with ⟨Ha0, HA0⟩
  ihave HS0 := (Entails.of_eq (got_rs m c 1 (pr c 0))) $$ HS0
  icases HS0 with ⟨Hs0, HS0⟩
  ihave HA1 := (Entails.of_eq (got_ra m c 1 (pr c 1))) $$ HA1
  icases HA1 with ⟨Ha1, HA1⟩
  ihave HS1 := (Entails.of_eq (got_rs m c 1 (pr c 1))) $$ HS1
  icases HS1 with ⟨Hs1, HS1⟩
  ihave HA2 := (Entails.of_eq (got_ra m c 1 (pr c 2))) $$ HA2
  icases HA2 with ⟨Ha2, HA2⟩
  ihave HS2 := (Entails.of_eq (got_rs m c 1 (pr c 2))) $$ HS2
  icases HS2 with ⟨Hs2, HS2⟩
  ihave HRA := (Entails.of_eq (pieces7 c c 1 fullShare (RB m c)).symm) $$ [HRA HA0 HA1 HA2]
  · isplitl [HRA]; · iexact HRA
    isplitl [HA0]; · iexact HA0
    isplitl [HA1]; · iexact HA1
    iexact HA2
  ihave HRS := (Entails.of_eq (pieces8 c c 1 fullShare (RS m c)).symm) $$ [HRS HS0 HS1 HS2]
  · isplitl [HRS]; · iexact HRS
    isplitl [HS0]; · iexact HS0
    isplitl [HS1]; · iexact HS1
    iexact HS2
  iapply (act_load_ra m c 1 rfl) $$ HRA
  iintro HRA
  iapply (act_load_rs m c 1 rfl) $$ HRS
  iintro HRS
  iapply (act_load_o m c 1 rfl) $$ HW
  iintro HW
  iapply (act_load c rM (Rect.unit (s := S256x1024) ![0, 0] S256x1024.size inb_S256x1024_S256x1024_0_0) (fun _ => Finset.mem_univ _) _ (fun _ => rfl)) $$ HR
  iintro HR
  iapply (act_store c rM (Rect.unit (s := S256x1024) ![0, 0] S256x1024.size inb_S256x1024_S256x1024_0_0)) $$ HR
  iintro %g %hg HR
  have hgx : g = out m c := funext fun i => (congrArg g (rows_emb i).symm).trans (hg.1 i)
  subst hgx
  iapply (act_take m c (.xs 0) 18 3 above_18 (by decide) (sem_xs 0 rfl _ _) rfl rfl) $$ [HO HX0]
  · isplitr; · iexact HC
    isplitl [HO]; · iexact HO
    iexact HX0
  iintro ⟨HO, HX0⟩
  iapply (act_ret c)
  iapply Hk
  isplitl [HO]; · iexact HO
  isplitl [Ha0]; · iexact Ha0
  isplitl [Ha1]; · iexact Ha1
  isplitl [Ha2]; · iexact Ha2
  isplitl [Hs0]; · iexact Hs0
  isplitl [Hs1]; · iexact Hs1
  isplitl [Hs2]; · iexact Hs2
  isplitl [HRA]; · iexact HRA
  isplitl [HRS]; · iexact HRS
  isplitl [HW]; · iexact HW
  isplitl [HR]; · iexact HR
  iexact HX0

/-- Sends waited for. -/
theorem run_part44 {Q} :
    iprop(Ctx m ∗ Ow c 18 ∗ wants (F := F) c (.xs 1) ∗ wants (F := F) c (.xs 2) ∗ wants (F := F) c (.pa 0 0))
      ⊢ iprop((∀ r, (Ow c 18 ∗ got m c (.xs 1) ∗ got m c (.xs 2) ∗ got m c (.pa 0 0)) -∗ Q r) -∗ WP c (k0_part44 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part44_eq_skeleton]
  unfold k0_part44_skel
  simp only [semSignalWord, semWaitWord, Prog.lift, Prog.bind_op, Prog.bind_ret, Prog.pure_eq_ret, wp_deviceId]
  iintro ⟨#HC, HO, HX1, HX2, HA0⟩ Hk
  iapply (act_take m c (.xs 1) 18 3 above_18 (by decide) (sem_xs 1 rfl _ _) rfl rfl) $$ [HO HX1]
  · isplitr; · iexact HC
    isplitl [HO]; · iexact HO
    iexact HX1
  iintro ⟨HO, HX1⟩
  iapply (act_take m c (.xs 2) 18 3 above_18 (by decide) (sem_xs 2 rfl _ _) rfl rfl) $$ [HO HX2]
  · isplitr; · iexact HC
    isplitl [HO]; · iexact HO
    iexact HX2
  iintro ⟨HO, HX2⟩
  iapply (act_take m c (.pa 0 0) 18 3 above_18 (by decide) (sem_pa 0 0 rfl rfl _ _ _ _) rfl rfl) $$ [HO HA0]
  · isplitr; · iexact HC
    isplitl [HO]; · iexact HO
    iexact HA0
  iintro ⟨HO, HA0⟩
  iapply (act_ret c)
  iapply Hk
  isplitl [HO]; · iexact HO
  isplitl [HX1]; · iexact HX1
  isplitl [HX2]; · iexact HX2
  iexact HA0

/-- Sends waited for. -/
theorem run_part45 {Q} :
    iprop(Ctx m ∗ Ow c 18 ∗ wants (F := F) c (.ps 0 0) ∗ wants (F := F) c (.pa 0 1))
      ⊢ iprop((∀ r, (Ow c 18 ∗ got m c (.ps 0 0) ∗ got m c (.pa 0 1)) -∗ Q r) -∗ WP c (k0_part45 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part45_eq_skeleton]
  unfold k0_part45_skel
  simp only [semSignalWord, semWaitWord, Prog.lift, Prog.bind_op, Prog.bind_ret, Prog.pure_eq_ret, wp_deviceId]
  iintro ⟨#HC, HO, HS0, HA1⟩ Hk
  iapply (act_take m c (.ps 0 0) 18 3 above_18 (by decide) (sem_ps 0 0 rfl rfl _ _ _ _) rfl rfl) $$ [HO HS0]
  · isplitr; · iexact HC
    isplitl [HO]; · iexact HO
    iexact HS0
  iintro ⟨HO, HS0⟩
  iapply (act_take m c (.pa 0 1) 18 3 above_18 (by decide) (sem_pa 0 1 rfl rfl _ _ _ _) rfl rfl) $$ [HO HA1]
  · isplitr; · iexact HC
    isplitl [HO]; · iexact HO
    iexact HA1
  iintro ⟨HO, HA1⟩
  iapply (act_ret c)
  iapply Hk
  isplitl [HO]; · iexact HO
  isplitl [HS0]; · iexact HS0
  iexact HA1

/-- Sends waited for. -/
theorem run_part46 {Q} :
    iprop(Ctx m ∗ Ow c 18 ∗ wants (F := F) c (.ps 0 1) ∗ wants (F := F) c (.pa 0 2))
      ⊢ iprop((∀ r, (Ow c 18 ∗ got m c (.ps 0 1) ∗ got m c (.pa 0 2)) -∗ Q r) -∗ WP c (k0_part46 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part46_eq_skeleton]
  unfold k0_part46_skel
  simp only [semSignalWord, semWaitWord, Prog.lift, Prog.bind_op, Prog.bind_ret, Prog.pure_eq_ret, wp_deviceId]
  iintro ⟨#HC, HO, HS1, HA2⟩ Hk
  iapply (act_take m c (.ps 0 1) 18 3 above_18 (by decide) (sem_ps 0 1 rfl rfl _ _ _ _) rfl rfl) $$ [HO HS1]
  · isplitr; · iexact HC
    isplitl [HO]; · iexact HO
    iexact HS1
  iintro ⟨HO, HS1⟩
  iapply (act_take m c (.pa 0 2) 18 3 above_18 (by decide) (sem_pa 0 2 rfl rfl _ _ _ _) rfl rfl) $$ [HO HA2]
  · isplitr; · iexact HC
    isplitl [HO]; · iexact HO
    iexact HA2
  iintro ⟨HO, HA2⟩
  iapply (act_ret c)
  iapply Hk
  isplitl [HO]; · iexact HO
  isplitl [HS1]; · iexact HS1
  iexact HA2

/-- Sends waited for. -/
theorem run_part47 {Q} :
    iprop(Ctx m ∗ Ow c 18 ∗ wants (F := F) c (.ps 0 2))
      ⊢ iprop((∀ r, (Ow c 18 ∗ got m c (.ps 0 2)) -∗ Q r) -∗ WP c (k0_part47 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part47_eq_skeleton]
  unfold k0_part47_skel
  simp only [semSignalWord, semWaitWord, Prog.lift, Prog.bind_op, Prog.bind_ret, Prog.pure_eq_ret, wp_deviceId]
  iintro ⟨#HC, HO, HS2⟩ Hk
  iapply (act_take m c (.ps 0 2) 18 3 above_18 (by decide) (sem_ps 0 2 rfl rfl _ _ _ _) rfl rfl) $$ [HO HS2]
  · isplitr; · iexact HC
    isplitl [HO]; · iexact HO
    iexact HS2
  iintro ⟨HO, HS2⟩
  iapply (act_ret c)
  iapply Hk
  isplitl [HO]; · iexact HO
  iexact HS2

/-- Sends waited for. -/
theorem run_part48 {Q} :
    iprop(Ctx m ∗ Ow c 18 ∗ wants (F := F) c (.pa 1 0) ∗ wants (F := F) c (.ps 1 0))
      ⊢ iprop((∀ r, (Ow c 18 ∗ got m c (.pa 1 0) ∗ got m c (.ps 1 0)) -∗ Q r) -∗ WP c (k0_part48 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part48_eq_skeleton]
  unfold k0_part48_skel
  simp only [semSignalWord, semWaitWord, Prog.lift, Prog.bind_op, Prog.bind_ret, Prog.pure_eq_ret, wp_deviceId]
  iintro ⟨#HC, HO, HA0, HS0⟩ Hk
  iapply (act_take m c (.pa 1 0) 18 3 above_18 (by decide) (sem_pa 1 0 rfl rfl _ _ _ _) rfl rfl) $$ [HO HA0]
  · isplitr; · iexact HC
    isplitl [HO]; · iexact HO
    iexact HA0
  iintro ⟨HO, HA0⟩
  iapply (act_take m c (.ps 1 0) 18 3 above_18 (by decide) (sem_ps 1 0 rfl rfl _ _ _ _) rfl rfl) $$ [HO HS0]
  · isplitr; · iexact HC
    isplitl [HO]; · iexact HO
    iexact HS0
  iintro ⟨HO, HS0⟩
  iapply (act_ret c)
  iapply Hk
  isplitl [HO]; · iexact HO
  isplitl [HA0]; · iexact HA0
  iexact HS0

/-- Sends waited for. -/
theorem run_part49 {Q} :
    iprop(Ctx m ∗ Ow c 18 ∗ wants (F := F) c (.pa 1 1) ∗ wants (F := F) c (.ps 1 1))
      ⊢ iprop((∀ r, (Ow c 18 ∗ got m c (.pa 1 1) ∗ got m c (.ps 1 1)) -∗ Q r) -∗ WP c (k0_part49 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c) Q) := by
  rw [k0_part49_eq_skeleton]
  unfold k0_part49_skel
  simp only [semSignalWord, semWaitWord, Prog.lift, Prog.bind_op, Prog.bind_ret, Prog.pure_eq_ret, wp_deviceId]
  iintro ⟨#HC, HO, HA1, HS1⟩ Hk
  iapply (act_take m c (.pa 1 1) 18 3 above_18 (by decide) (sem_pa 1 1 rfl rfl _ _ _ _) rfl rfl) $$ [HO HA1]
  · isplitr; · iexact HC
    isplitl [HO]; · iexact HO
    iexact HA1
  iintro ⟨HO, HA1⟩
  iapply (act_take m c (.ps 1 1) 18 3 above_18 (by decide) (sem_ps 1 1 rfl rfl _ _ _ _) rfl rfl) $$ [HO HS1]
  · isplitr; · iexact HC
    isplitl [HO]; · iexact HO
    iexact HS1
  iintro ⟨HO, HS1⟩
  iapply (act_ret c)
  iapply Hk
  isplitl [HO]; · iexact HO
  isplitl [HA1]; · iexact HA1
  iexact HS1

/-- Sends waited for. -/
theorem run_part50 (a) {Q} :
    iprop(Ctx m ∗ Ow c 18 ∗ wants (F := F) c (.pa 1 2) ∗ wants (F := F) c (.ps 1 2))
      ⊢ iprop((∀ r, (Ow c 18 ∗ got m c (.pa 1 2) ∗ got m c (.ps 1 2)) -∗ Q r) -∗ WP c (k0_part50 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 v c a) Q) := by
  rw [k0_part50_eq_skeleton]
  unfold k0_part50_skel
  simp only [semSignalWord, semWaitWord, Prog.lift, Prog.bind_op, Prog.bind_ret, Prog.pure_eq_ret, wp_deviceId]
  iintro ⟨#HC, HO, HA2, HS2⟩ Hk
  iapply (act_take m c (.pa 1 2) 18 3 above_18 (by decide) (sem_pa 1 2 rfl rfl _ _ _ _) rfl rfl) $$ [HO HA2]
  · isplitr; · iexact HC
    isplitl [HO]; · iexact HO
    iexact HA2
  iintro ⟨HO, HA2⟩
  iapply (act_take m c (.ps 1 2) 18 3 above_18 (by decide) (sem_ps 1 2 rfl rfl _ _ _ _) rfl rfl) $$ [HO HS2]
  · isplitr; · iexact HC
    isplitl [HO]; · iexact HO
    iexact HS2
  iintro ⟨HO, HS2⟩
  iapply (act_ret c)
  iapply Hk
  isplitl [HO]; · iexact HO
  isplitl [HA2]; · iexact HA2
  iexact HS2

end

end Cert.Attn

end
-- ==== Proof.Bundles.lean ====
/-
What a device starts its kernel with and ends it with, in bundles; and how the buffers are cut into the pieces
the transfers move and put together again.
-/
module

public import proofs.«01_k».proof.Proof.Back

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

section
variable (c : Dev nD)

/-! ## The bundles -/

/-- The tokens for the rows sent, -/
def toksX : sProp 𝕄 := iprop((tok (F := F) c (.xs 0) 0 ∗ tok (F := F) (pr c 0) (.xr c) 0) ∗ (tok (F := F) c (.xs 1) 0 ∗ tok (F := F) (pr c 1) (.xr c) 0) ∗ (tok (F := F) c (.xs 2) 0 ∗ tok (F := F) (pr c 2) (.xr c) 0))
/-- for one half of the partial results sent, -/
def toksH (h : Fin 2) : sProp 𝕄 := iprop((tok (F := F) c (.pa h 0) 0 ∗ tok (F := F) (pr c 0) (.ra h c) 0) ∗ (tok (F := F) c (.pa h 1) 0 ∗ tok (F := F) (pr c 1) (.ra h c) 0) ∗ (tok (F := F) c (.pa h 2) 0 ∗ tok (F := F) (pr c 2) (.ra h c) 0)
  ∗ (tok (F := F) c (.ps h 0) 0 ∗ tok (F := F) (pr c 0) (.rs h c) 0) ∗ (tok (F := F) c (.ps h 1) 0 ∗ tok (F := F) (pr c 1) (.rs h c) 0) ∗ (tok (F := F) c (.ps h 2) 0 ∗ tok (F := F) (pr c 2) (.rs h c) 0))
/-- for the barrier's signals and for the closing ones. -/
def toksB : sProp 𝕄 := iprop(tok (F := F) (pr c 0) .bar c ∗ tok (F := F) (pr c 1) .bar c ∗ tok (F := F) (pr c 2) .bar c)
def toksF : sProp 𝕄 := iprop(tok (F := F) (pr c 0) .fin c ∗ tok (F := F) (pr c 1) .fin c ∗ tok (F := F) (pr c 2) .fin c)
/-- The launch's credit for the rows received, and for one half of the partial results. -/
def credsX : sProp 𝕄 := iprop(due (F := F) c (.xr (pr c 0)) (amt (.xr (pr c 0))) ∗ due (F := F) c (.xr (pr c 1)) (amt (.xr (pr c 1))) ∗ due (F := F) c (.xr (pr c 2)) (amt (.xr (pr c 2))))
def credsH (h : Fin 2) : sProp 𝕄 := iprop(due (F := F) c (.ra h (pr c 0)) (amt (.ra h (pr c 0))) ∗ due (F := F) c (.ra h (pr c 1)) (amt (.ra h (pr c 1))) ∗ due (F := F) c (.ra h (pr c 2)) (amt (.ra h (pr c 2)))
  ∗ due (F := F) c (.rs h (pr c 0)) (amt (.rs h (pr c 0))) ∗ due (F := F) c (.rs h (pr c 1)) (amt (.rs h (pr c 1))) ∗ due (F := F) c (.rs h (pr c 2)) (amt (.rs h (pr c 2))))
/-- The places at the meeting points of the rows, and of one half of the partial results. -/
def atsX (r : ℕ) : sProp 𝕄 := iprop((at_ (F := F) c (.xs 0) r ∗ at_ (F := F) c (.xs 1) r ∗ at_ (F := F) c (.xs 2) r)
  ∗ at_ (F := F) c (.xr (pr c 0)) r ∗ at_ (F := F) c (.xr (pr c 1)) r ∗ at_ (F := F) c (.xr (pr c 2)) r)
def atsH (h : Fin 2) (r : ℕ) : sProp 𝕄 := iprop((at_ (F := F) c (.pa h 0) r ∗ at_ (F := F) c (.pa h 1) r ∗ at_ (F := F) c (.pa h 2) r)
  ∗ (at_ (F := F) c (.ps h 0) r ∗ at_ (F := F) c (.ps h 1) r ∗ at_ (F := F) c (.ps h 2) r)
  ∗ (at_ (F := F) c (.ra h (pr c 0)) r ∗ at_ (F := F) c (.ra h (pr c 1)) r ∗ at_ (F := F) c (.ra h (pr c 2)) r)
  ∗ at_ (F := F) c (.rs h (pr c 0)) r ∗ at_ (F := F) c (.rs h (pr c 1)) r ∗ at_ (F := F) c (.rs h (pr c 2)) r)
/-- The local copies' semaphores at rest. -/
def idles : sProp 𝕄 := iprop(idle (F := F) c (cpyS 0) ∗ idle (F := F) c (cpyS 1) ∗ idle (F := F) c (cpyS 2) ∗ idle (F := F) c (cpyS 3) ∗ idle (F := F) c (cpyS 4))
/-- The places for the heads brought in. -/
def heads : sProp 𝕄 := iprop((kfree m c 0 ∗ kfree m c 1 ∗ kfree m c 2)
  ∗ vfree m c 0 ∗ vfree m c 1 ∗ vfree m c 2)
/-- The peers' landing elements for one half of the partial results. -/
def openH (h : Fin 2) : sProp 𝕄 := iprop(any (F := F) (pr c 0) cc0_scratch7 (pcA h c) ∗ any (F := F) (pr c 1) cc0_scratch7 (pcA h c) ∗ any (F := F) (pr c 2) cc0_scratch7 (pcA h c)
  ∗ any (F := F) (pr c 0) cc0_scratch8 (pcS h c) ∗ any (F := F) (pr c 1) cc0_scratch8 (pcS h c) ∗ any (F := F) (pr c 2) cc0_scratch8 (pcS h c))
/-- One half of the partial results, ready to go. -/
def sendsH (h : Fin 2) : sProp 𝕄 := iprop(outA m c h 0 ∗ outA m c h 1 ∗ outA m c h 2 ∗ outS m c h 0 ∗ outS m c h 1 ∗ outS m c h 2)
/-- The own landing elements for it. -/
def ownH (h : Fin 2) : sProp 𝕄 := iprop(any (F := F) c cc0_scratch7 (pcA h c) ∗ any (F := F) c cc0_scratch8 (pcS h c))
/-- What is waited for of one half, -/
def wantsH (h : Fin 2) : sProp 𝕄 := iprop(wants (F := F) c (.ra h (pr c 0)) ∗ wants (F := F) c (.ra h (pr c 1)) ∗ wants (F := F) c (.ra h (pr c 2)) ∗ wants (F := F) c (.rs h (pr c 0)) ∗ wants (F := F) c (.rs h (pr c 1)) ∗ wants (F := F) c (.rs h (pr c 2)))

/-! ## Cutting up -/

/-- The rows and the landing elements the barrier brought, ready for the sends. -/
theorem open_x :
    iprop(toksX (F := F) c ∗ (gift (F := F) (pr c 0) c ∗ gift (F := F) (pr c 1) c ∗ gift (F := F) (pr c 2) c) ∗ pts c cc0_scratch0 Finset.univ fullShare (xb m c))
      ⊢ iprop((outX m c 0 ∗ outX m c 1 ∗ outX m c 2) ∗ pts c cc0_scratch0 Finset.univ (shareDrop fullShare 3) (xb m c) ∗ openH (F := F) c 0 ∗ openH (F := F) c 1) := by
  unfold toksX gift outX openH
  iintro ⟨⟨⟨A0, B0⟩, ⟨A1, B1⟩, ⟨A2, B2⟩⟩, ⟨⟨G0, P0, Q0, R0, S0⟩, ⟨G1, P1, Q1, R1, S1⟩, ⟨G2, P2, Q2, R2, S2⟩⟩, HX⟩
  ihave HX := (Entails.of_eq (rows_shares c (xb m c))) $$ HX
  icases HX with ⟨HX, X0, X1, X2⟩
  isplitl [A0 B0 X0 G0 A1 B1 X1 G1 A2 B2 X2 G2]
  · isplitl [A0 B0 X0 G0]
    · isplitl [A0]; · iexact A0
      isplitl [B0]; · iexact B0
      isplitl [X0]; · iexact X0
      iexact G0
    isplitl [A1 B1 X1 G1]
    · isplitl [A1]; · iexact A1
      isplitl [B1]; · iexact B1
      isplitl [X1]; · iexact X1
      iexact G1
    isplitl [A2]; · iexact A2
    isplitl [B2]; · iexact B2
    isplitl [X2]; · iexact X2
    iexact G2
  isplitl [HX]; · iexact HX
  isplitl [P0 P1 P2 R0 R1 R2]
  · isplitl [P0]; · iexact P0
    isplitl [P1]; · iexact P1
    isplitl [P2]; · iexact P2
    isplitl [R0]; · iexact R0
    isplitl [R1]; · iexact R1
    iexact R2
  isplitl [Q0]; · iexact Q0
  isplitl [Q1]; · iexact Q1
  isplitl [Q2]; · iexact Q2
  isplitl [S0]; · iexact S0
  isplitl [S1]; · iexact S1
  iexact S2

/-- One half of the partial results, ready for the sends. -/
theorem open_h (h : Fin 2) :
    iprop(toksH (F := F) c h ∗ openH (F := F) c h ∗ pts c cc0_scratch5 (halfA h) fullShare (PA m c) ∗ pts c cc0_scratch6 (halfS h) fullShare (PS m c))
      ⊢ iprop(sendsH m c h ∗ pts c cc0_scratch5 (pcA h c) fullShare (PA m c) ∗ pts c cc0_scratch6 (pcS h c) fullShare (PS m c)) := by
  unfold toksH openH sendsH outA outS
  iintro ⟨⟨⟨A0, B0⟩, ⟨A1, B1⟩, ⟨A2, B2⟩, ⟨C0, D0⟩, ⟨C1, D1⟩, ⟨C2, D2⟩⟩, ⟨P0, P1, P2, R0, R1, R2⟩, H5, H6⟩
  ihave H5 := (Entails.of_eq (pieces5 c c h fullShare (PA m c))) $$ H5
  icases H5 with ⟨H5, X0, X1, X2⟩
  ihave H6 := (Entails.of_eq (pieces6 c c h fullShare (PS m c))) $$ H6
  icases H6 with ⟨H6, Y0, Y1, Y2⟩
  isplitl [A0 B0 X0 P0 A1 B1 X1 P1 A2 B2 X2 P2 C0 D0 Y0 R0 C1 D1 Y1 R1 C2 D2 Y2 R2]
  · isplitl [A0 B0 X0 P0]
    · isplitl [A0]; · iexact A0
      isplitl [B0]; · iexact B0
      isplitl [X0]; · iexact X0
      iexact P0
    isplitl [A1 B1 X1 P1]
    · isplitl [A1]; · iexact A1
      isplitl [B1]; · iexact B1
      isplitl [X1]; · iexact X1
      iexact P1
    isplitl [A2 B2 X2 P2]
    · isplitl [A2]; · iexact A2
      isplitl [B2]; · iexact B2
      isplitl [X2]; · iexact X2
      iexact P2
    isplitl [C0 D0 Y0 R0]
    · isplitl [C0]; · iexact C0
      isplitl [D0]; · iexact D0
      isplitl [Y0]; · iexact Y0
      iexact R0
    isplitl [C1 D1 Y1 R1]
    · isplitl [C1]; · iexact C1
      isplitl [D1]; · iexact D1
      isplitl [Y1]; · iexact Y1
      iexact R1
    isplitl [C2]; · iexact C2
    isplitl [D2]; · iexact D2
    isplitl [Y2]; · iexact Y2
    iexact R2
  isplitl [H5]; · iexact H5
  iexact H6

/-- A device's landing buffers: its peers' elements, and its own. -/
theorem open_own :
    iprop(any (F := F) c cc0_scratch1 Finset.univ ∗ any (F := F) c cc0_scratch7 Finset.univ ∗ any (F := F) c cc0_scratch8 Finset.univ)
      ⊢ iprop((gift (F := F) c (pr c 0) ∗ gift (F := F) c (pr c 1) ∗ gift (F := F) c (pr c 2)) ∗ any (F := F) c cc0_scratch1 (slab c) ∗ ownH (F := F) c 0 ∗ ownH (F := F) c 1) := by
  unfold gift ownH
  iintro ⟨⟨%f1, H1⟩, ⟨%f7, H7⟩, ⟨%f8, H8⟩⟩
  ihave H1 := (Entails.of_eq (slabs c c fullShare f1)) $$ H1
  icases H1 with ⟨H1, G0, G1, G2⟩
  ihave H7 := (Entails.of_eq (halves7 c fullShare f7)) $$ H7
  icases H7 with ⟨H7, H7'⟩
  ihave H7 := (Entails.of_eq (pieces7 c c 0 fullShare f7)) $$ H7
  icases H7 with ⟨H7, P0, P1, P2⟩
  ihave H7' := (Entails.of_eq (pieces7 c c 1 fullShare f7)) $$ H7'
  icases H7' with ⟨H7', Q0, Q1, Q2⟩
  ihave H8 := (Entails.of_eq (halves8 c fullShare f8)) $$ H8
  icases H8 with ⟨H8, H8'⟩
  ihave H8 := (Entails.of_eq (pieces8 c c 0 fullShare f8)) $$ H8
  icases H8 with ⟨H8, R0, R1, R2⟩
  ihave H8' := (Entails.of_eq (pieces8 c c 1 fullShare f8)) $$ H8'
  icases H8' with ⟨H8', S0, S1, S2⟩
  isplitl [G0 P0 Q0 R0 S0 G1 P1 Q1 R1 S1 G2 P2 Q2 R2 S2]
  · isplitl [G0 P0 Q0 R0 S0]
    · isplitl [G0]; · iexists _; iexact G0
      isplitl [P0]; · iexists _; iexact P0
      isplitl [Q0]; · iexists _; iexact Q0
      isplitl [R0]; · iexists _; iexact R0
      iexists _; iexact S0
    isplitl [G1 P1 Q1 R1 S1]
    · isplitl [G1]; · iexists _; iexact G1
      isplitl [P1]; · iexists _; iexact P1
      isplitl [Q1]; · iexists _; iexact Q1
      isplitl [R1]; · iexists _; iexact R1
      iexists _; iexact S1
    isplitl [G2]; · iexists _; iexact G2
    isplitl [P2]; · iexists _; iexact P2
    isplitl [Q2]; · iexists _; iexact Q2
    isplitl [R2]; · iexists _; iexact R2
    iexists _; iexact S2
  isplitl [H1]; · iexists _; iexact H1
  isplitl [H7 H8]
  · isplitl [H7]; · iexists _; iexact H7
    iexists _; iexact H8
  isplitl [H7']; · iexists _; iexact H7'
  iexists _; iexact H8'

/-! ## Putting together -/

/-- The own rows, all shares back. -/
theorem close_x :
    iprop(pts c cc0_scratch0 Finset.univ (shareDrop fullShare 3) (xb m c) ∗ got m c (.xs 0) ∗ got m c (.xs 1) ∗ got m c (.xs 2))
      ⊢ iprop((at_ (F := F) c (.xs 0) 1 ∗ at_ (F := F) c (.xs 1) 1 ∗ at_ (F := F) c (.xs 2) 1) ∗ any (F := F) c cc0_scratch0 Finset.univ) := by
  iintro ⟨HX, G0, G1, G2⟩
  ihave G0 := (Entails.of_eq (got_xs m c 0)) $$ G0
  icases G0 with ⟨A0, X0⟩
  ihave G1 := (Entails.of_eq (got_xs m c 1)) $$ G1
  icases G1 with ⟨A1, X1⟩
  ihave G2 := (Entails.of_eq (got_xs m c 2)) $$ G2
  icases G2 with ⟨A2, X2⟩
  ihave HX := (Entails.of_eq (rows_shares c (xb m c)).symm) $$ [HX X0 X1 X2]
  · isplitl [HX]; · iexact HX
    isplitl [X0]; · iexact X0
    isplitl [X1]; · iexact X1
    iexact X2
  isplitl [A0 A1 A2]
  · isplitl [A0]; · iexact A0
    isplitl [A1]; · iexact A1
    iexact A2
  iexists _; iexact HX

/-- One half of the own partial results, all pieces back. -/
theorem close_h (h : Fin 2) :
    iprop((pts c cc0_scratch5 (pcA h c) fullShare (PA m c) ∗ pts c cc0_scratch6 (pcS h c) fullShare (PS m c)) ∗ (got m c (.pa h 0) ∗ got m c (.pa h 1) ∗ got m c (.pa h 2)) ∗ (got m c (.ps h 0) ∗ got m c (.ps h 1) ∗ got m c (.ps h 2)))
      ⊢ iprop((at_ (F := F) c (.pa h 0) 1 ∗ at_ (F := F) c (.pa h 1) 1 ∗ at_ (F := F) c (.pa h 2) 1) ∗ (at_ (F := F) c (.ps h 0) 1 ∗ at_ (F := F) c (.ps h 1) 1 ∗ at_ (F := F) c (.ps h 2) 1) ∗ pts c cc0_scratch5 (halfA h) fullShare (PA m c) ∗ pts c cc0_scratch6 (halfS h) fullShare (PS m c)) := by
  iintro ⟨⟨H5, H6⟩, ⟨G0, G1, G2⟩, ⟨K0, K1, K2⟩⟩
  ihave G0 := (Entails.of_eq (got_pa m c h 0)) $$ G0
  icases G0 with ⟨A0, X0⟩
  ihave K0 := (Entails.of_eq (got_ps m c h 0)) $$ K0
  icases K0 with ⟨B0, Y0⟩
  ihave G1 := (Entails.of_eq (got_pa m c h 1)) $$ G1
  icases G1 with ⟨A1, X1⟩
  ihave K1 := (Entails.of_eq (got_ps m c h 1)) $$ K1
  icases K1 with ⟨B1, Y1⟩
  ihave G2 := (Entails.of_eq (got_pa m c h 2)) $$ G2
  icases G2 with ⟨A2, X2⟩
  ihave K2 := (Entails.of_eq (got_ps m c h 2)) $$ K2
  icases K2 with ⟨B2, Y2⟩
  ihave H5 := (Entails.of_eq (pieces5 c c h fullShare (PA m c)).symm) $$ [H5 X0 X1 X2]
  · isplitl [H5]; · iexact H5
    isplitl [X0]; · iexact X0
    isplitl [X1]; · iexact X1
    iexact X2
  ihave H6 := (Entails.of_eq (pieces6 c c h fullShare (PS m c)).symm) $$ [H6 Y0 Y1 Y2]
  · isplitl [H6]; · iexact H6
    isplitl [Y0]; · iexact Y0
    isplitl [Y1]; · iexact Y1
    iexact Y2
  isplitl [A0 A1 A2]
  · isplitl [A0]; · iexact A0
    isplitl [A1]; · iexact A1
    iexact A2
  isplitl [B0 B1 B2]
  · isplitl [B0]; · iexact B0
    isplitl [B1]; · iexact B1
    iexact B2
  isplitl [H5]; · iexact H5
  iexact H6

theorem close5 : iprop(pts c cc0_scratch5 (halfA 0) fullShare (PA m c) ∗ pts c cc0_scratch5 (halfA 1) fullShare (PA m c)) ⊢ any (F := F) c cc0_scratch5 Finset.univ := by
  rw [← halves5 c fullShare (PA m c)]
  unfold any; iintro H; iexists _; iexact H
theorem close6 : iprop(pts c cc0_scratch6 (halfS 0) fullShare (PS m c) ∗ pts c cc0_scratch6 (halfS 1) fullShare (PS m c)) ⊢ any (F := F) c cc0_scratch6 Finset.univ := by
  rw [← halves6 c fullShare (PS m c)]
  unfold any; iintro H; iexists _; iexact H
theorem close7 : iprop(pts c cc0_scratch7 (halfA 0) fullShare (RB m c) ∗ pts c cc0_scratch7 (halfA 1) fullShare (RB m c)) ⊢ any (F := F) c cc0_scratch7 Finset.univ := by
  rw [← halves7 c fullShare (RB m c)]
  unfold any; iintro H; iexists _; iexact H
theorem close8 : iprop(pts c cc0_scratch8 (halfS 0) fullShare (RS m c) ∗ pts c cc0_scratch8 (halfS 1) fullShare (RS m c)) ⊢ any (F := F) c cc0_scratch8 Finset.univ := by
  rw [← halves8 c fullShare (RS m c)]
  unfold any; iintro H; iexists _; iexact H
theorem some_of (b : Ref sig .tc) (S : Finset b.ty.shape.Idx) (f : b.ty.Contents (Elt F)) : pts c b S fullShare f ⊢ any (F := F) c b S := by
  unfold any; iintro H; iexists _; iexact H

end

end Cert.Attn

end
-- ==== Proof.Body.lean ====
/-
The whole kernel of one device, from what the launch deals it to its result.
-/
module

public import proofs.«01_k».proof.Proof.Bundles

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

section
variable (c : Dev nD)

theorem bind_in {α β : Type} {Q : α → sProp 𝕄} (p : Prog (TpuEff nD τ sig (Elt F) Λ₀ .tc) β) (k : β → Prog (TpuEff nD τ sig (Elt F) Λ₀ .tc) α) :
    WP c p (fun a => WP c (k a) Q) ⊢ WP c (p >>= k) Q := Entails.of_eq (act_bind c p k).symm

theorem sem_fin : SemLoc.reg (cc0_scoped0 : Sems sig S_).sem = csem .fin := by with_unfolding_all rfl
theorem total_fin : total c .fin = 3 := by revert c; decide
theorem above_21 : above 21 4 := fun _ _ h => absurd h List.not_mem_nil

/-- The closing signal to the `j`-th peer. -/
theorem act_close {α : Type} {kt : PUnit → Prog (TpuEff nD τ sig (Elt F) Λ₀ .tc) α} {Q : α → sProp 𝕄} (n : Dev nD) (j : Fin 3) (i : ℕ) (hn : n = pr c j)
    (hdebt : (debts c).drop i = (pr c j, .fin) :: (debts c).drop (i + 1)) :
    iprop(Ctx m ∗ Ow c i ∗ tok (F := F) (pr c j) .fin c)
      ⊢ iprop((Ow c (i + 1) -∗ WP c (kt ⟨⟩) Q) -∗ WP c (.op (.semSignal (Dev.tc n : Thread nD τ) (cc0_scoped0 : Sems sig S_).sem (1#32).toNat) kt) Q) := by
  iintro ⟨#HC, HO, HT⟩
  iapply (act_signal m c n (pr c j) .fin i hn sem_fin (Finset.mem_erase.mpr ⟨(pr_ne c j).symm, Finset.mem_univ _⟩) hdebt (by decide))
  isplitr; · iexact HC
  isplitl [HO]; · iexact HO
  isplitl [HT]; · iexact HT
  unfold pay; iempintro

/-- What the launch deals a device, -/
def bodyIn : sProp 𝕄 :=
  iprop((toksB (F := F) c ∗ due (F := F) c .bar (total c .bar) ∗ at_ (F := F) c .bar 0)
    ∗ (toksX (F := F) c ∗ credsX (F := F) c ∗ atsX (F := F) c 0)
    ∗ (toksH (F := F) c 0 ∗ credsH (F := F) c 0 ∗ atsH (F := F) c 0 0)
    ∗ (toksH (F := F) c 1 ∗ credsH (F := F) c 1 ∗ atsH (F := F) c 1 0)
    ∗ (toksF (F := F) c ∗ due (F := F) c .fin (total c .fin) ∗ at_ (F := F) c .fin 0)
    ∗ idles (F := F) c ∗ heads m c
    ∗ (any (F := F) c cc0_scratch0 Finset.univ ∗ any (F := F) c cc0_scratch1 Finset.univ ∗ any (F := F) c cc0_scratch2 Finset.univ
      ∗ any (F := F) c cc0_scratch5 Finset.univ ∗ any (F := F) c cc0_scratch6 Finset.univ ∗ any (F := F) c cc0_scratch7 Finset.univ ∗ any (F := F) c cc0_scratch8 Finset.univ)
    ∗ pts c cc0_stg0_0 Finset.univ fullShare (xstg m c) ∗ wfull m c ∗ ofull m c ∗ any (F := F) c cc0_stg3_0 Finset.univ)
/-- what it ends with, -/
def bodyOut : sProp 𝕄 :=
  iprop(at_ (F := F) c .bar 1 ∗ atsX (F := F) c 1 ∗ atsH (F := F) c 0 1 ∗ atsH (F := F) c 1 1 ∗ at_ (F := F) c .fin 1
    ∗ idles (F := F) c ∗ heads m c
    ∗ (any (F := F) c cc0_scratch0 Finset.univ ∗ any (F := F) c cc0_scratch1 Finset.univ ∗ any (F := F) c cc0_scratch2 Finset.univ
      ∗ any (F := F) c cc0_scratch5 Finset.univ ∗ any (F := F) c cc0_scratch6 Finset.univ ∗ any (F := F) c cc0_scratch7 Finset.univ ∗ any (F := F) c cc0_scratch8 Finset.univ)
    ∗ pts c cc0_stg0_0 Finset.univ fullShare (xstg m c) ∗ wfull m c ∗ ofull m c ∗ pts c cc0_stg3_0 Finset.univ fullShare (out m c))
/-- and what it holds before its last two closing signals. -/
def mid : sProp 𝕄 :=
  iprop(Ow c 19
    ∗ at_ (F := F) c .bar 1
    ∗ (got m c (.xs 0) ∗ got m c (.xs 1) ∗ got m c (.xs 2))
    ∗ (at_ (F := F) c (.xr (pr c 0)) 1 ∗ at_ (F := F) c (.xr (pr c 1)) 1 ∗ at_ (F := F) c (.xr (pr c 2)) 1)
    ∗ pts c cc0_scratch0 Finset.univ (shareDrop fullShare 3) (xb m c)
    ∗ (idle (F := F) c (cpyS 0) ∗ idle (F := F) c (cpyS 1) ∗ idle (F := F) c (cpyS 2) ∗ idle (F := F) c (cpyS 3) ∗ idle (F := F) c (cpyS 4))
    ∗ (kfree m c 0 ∗ kfree m c 1 ∗ kfree m c 2 ∗ vfree m c 0 ∗ vfree m c 1 ∗ vfree m c 2)
    ∗ pts c cc0_stg0_0 Finset.univ fullShare (xstg m c)
    ∗ wfull m c
    ∗ ofull m c
    ∗ pts c cc0_stg3_0 Finset.univ fullShare (out m c)
    ∗ gfull m c
    ∗ qfull m c
    ∗ (pts c cc0_scratch5 (pcA 0 c) fullShare (PA m c) ∗ pts c cc0_scratch6 (pcS 0 c) fullShare (PS m c))
    ∗ (pts c cc0_scratch5 (pcA 1 c) fullShare (PA m c) ∗ pts c cc0_scratch6 (pcS 1 c) fullShare (PS m c))
    ∗ (got m c (.pa 0 0) ∗ got m c (.pa 0 1) ∗ got m c (.pa 0 2))
    ∗ (got m c (.ps 0 0) ∗ got m c (.ps 0 1) ∗ got m c (.ps 0 2))
    ∗ (got m c (.pa 1 0) ∗ got m c (.pa 1 1) ∗ got m c (.pa 1 2))
    ∗ (got m c (.ps 1 0) ∗ got m c (.ps 1 1) ∗ got m c (.ps 1 2))
    ∗ (at_ (F := F) c (.ra 0 (pr c 0)) 1 ∗ at_ (F := F) c (.ra 0 (pr c 1)) 1 ∗ at_ (F := F) c (.ra 0 (pr c 2)) 1)
    ∗ (at_ (F := F) c (.rs 0 (pr c 0)) 1 ∗ at_ (F := F) c (.rs 0 (pr c 1)) 1 ∗ at_ (F := F) c (.rs 0 (pr c 2)) 1)
    ∗ (at_ (F := F) c (.ra 1 (pr c 0)) 1 ∗ at_ (F := F) c (.ra 1 (pr c 1)) 1 ∗ at_ (F := F) c (.ra 1 (pr c 2)) 1)
    ∗ (at_ (F := F) c (.rs 1 (pr c 0)) 1 ∗ at_ (F := F) c (.rs 1 (pr c 1)) 1 ∗ at_ (F := F) c (.rs 1 (pr c 2)) 1)
    ∗ (hA m c 0 ∗ hA m c 1 ∗ hS m c 0 ∗ hS m c 1)
    ∗ (tok (F := F) (pr c 1) .fin c ∗ tok (F := F) (pr c 2) .fin c)
    ∗ due (F := F) c .fin (total c .fin)
    ∗ at_ (F := F) c .fin 0)

set_option maxRecDepth 65536 in
set_option maxHeartbeats 4000000 in
/-- The kernel up to its first closing signal. -/
theorem run_part51 {Q} :
    iprop(Ctx m ∗ Ow c 0 ∗ bodyIn m c)
      ⊢ iprop((∀ r₁ r₂ r₃ r₄, mid m c -∗ Q ⟨c, r₁, r₂, r₃, r₄⟩) -∗ WP c (k0_part51 (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 cc0_scoped0) Q) := by
  rw [k0_part51_eq_skeleton]
  unfold k0_part51_skel
  unfold bodyIn toksB credsX heads idles atsX
  iintro ⟨#HC, HO, ⟨⟨T0, T1, T2⟩, HDb, HAb⟩, ⟨HTX, ⟨CX0, CX1, CX2⟩, ⟨AX0, AX1, AX2⟩, AR0, AR1, AR2⟩, HH0, HH1, HF, ⟨I0, I1, I2, I3, I4⟩, ⟨⟨K0, K1, K2⟩, V0, V1, V2⟩, ⟨S0, S1, S2, S5, S6, S7, S8⟩, HX, HW, HOo, HR⟩ Hk
  ihave HG := (open_own c) $$ [S1 S7 S8]
  · isplitl [S1]; · iexact S1
    isplitl [S7]; · iexact S7
    iexact S8
  icases HG with ⟨⟨G0, G1, G2⟩, S1, N0, N1⟩
  iapply (bind_in c _ _)
  iapply (run_part6 m c cc0_scoped0) $$ [HO T0 G0 T1 G1]
  · unfold outB
    isplitr; · iexact HC
    isplitl [HO]; · iexact HO
    isplitl [T0 G0]
    · isplitl [T0]; · iexact T0
      iexact G0
    isplitl [T1]; · iexact T1
    iexact G1
  iintro %v2 %v30 %w %b HO
  iapply (bind_in c _ _)
  iapply (run_part7 m c cc0_scoped0 _ _ _) $$ [HO T2 G2 HDb HAb K0 V0]
  · unfold outB
    isplitr; · iexact HC
    isplitl [HO]; · iexact HO
    isplitl [T2 G2]
    · isplitl [T2]; · iexact T2
      iexact G2
    isplitl [HDb]; · iexact HDb
    isplitl [HAb]; · iexact HAb
    isplitl [K0]; · iexact K0
    iexact V0
  iintro %r ⟨HO, HAb, HG, K0, V0⟩
  iapply (bind_in c _ _)
  iapply (run_part8 m c cc0_scoped0 _) $$ [K1 V1 HX S0]
  · isplitl [K1]; · iexact K1
    isplitl [V1]; · iexact V1
    isplitl [HX]; · iexact HX
    iexact S0
  iintro %r ⟨K1, V1, HX, S0⟩
  obtain ⟨_, _, _, _⟩ := r
  ihave HG := (open_x m c) $$ [HTX HG S0]
  · isplitl [HTX]; · iexact HTX
    isplitl [HG]; · iexact HG
    iexact S0
  icases HG with ⟨⟨X0, X1, X2⟩, S0, P0, P1⟩
  iapply (bind_in c _ _)
  iapply (run_part9 m c cc0_scoped0 _ _ _ _ _) $$ [HO X0 X1]
  · isplitr; · iexact HC
    isplitl [HO]; · iexact HO
    isplitl [X0]; · iexact X0
    iexact X1
  iintro %r ⟨HO, X0, X1⟩
  obtain ⟨_, _, _, _⟩ := r
  iapply (bind_in c _ _)
  iapply (run_part10 m c cc0_scoped0 _ _ _ _ _) $$ [HO X2 S0 S1 I0]
  · isplitr; · iexact HC
    isplitl [HO]; · iexact HO
    isplitl [X2]; · iexact X2
    isplitl [S0]; · iexact S0
    isplitl [S1]; · iexact S1
    iexact I0
  iintro %r ⟨HO, X2, S0, S1, I0⟩
  iapply (bind_in c _ _)
  iapply (run_part11 m c cc0_scoped0 _) $$ [HO CX0 AR0 CX1 AR1]
  · unfold wants
    isplitr; · iexact HC
    isplitl [HO]; · iexact HO
    isplitl [CX0 AR0]
    · isplitl [CX0]; · iexact CX0
      iexact AR0
    isplitl [CX1]; · iexact CX1
    iexact AR1
  iintro %r ⟨HO, R0, R1⟩
  ihave HQ := (qst_start m c) $$ S2
  iapply (bind_in c _ _)
  iapply (run_part12 m c cc0_scoped0) $$ [HO R0 R1 CX2 AR2 S1 HW HQ]
  · unfold wants
    isplitr; · iexact HC
    isplitl [HO]; · iexact HO
    isplitl [R0]; · iexact R0
    isplitl [R1]; · iexact R1
    isplitl [CX2 AR2]
    · isplitl [CX2]; · iexact CX2
      iexact AR2
    isplitl [S1]; · iexact S1
    isplitl [HW]; · iexact HW
    iexact HQ
  iintro ⟨HO, AR0, AR1, AR2, HG, HW, HQ⟩
  iapply (bind_in c _ _)
  iapply (run_part13 m c cc0_scoped0) $$ [HW HQ]
  · isplitl [HW]; · iexact HW
    iexact HQ
  iintro ⟨HW, HQ⟩
  iapply (bind_in c _ _)
  iapply (run_part14 m c cc0_scoped0) $$ [HW HQ]
  · isplitl [HW]; · iexact HW
    iexact HQ
  iintro ⟨HW, HQ⟩
  iapply (bind_in c _ _)
  iapply (run_part15 m c cc0_scoped0) $$ [HW HQ]
  · isplitl [HW]; · iexact HW
    iexact HQ
  iintro ⟨HW, HQ⟩
  iapply (bind_in c _ _)
  iapply (run_part16 m c cc0_scoped0) $$ [HW HQ]
  · isplitl [HW]; · iexact HW
    iexact HQ
  iintro ⟨HW, HQ⟩
  iapply (bind_in c _ _)
  iapply (run_part17 m c cc0_scoped0) $$ [HW HQ]
  · isplitl [HW]; · iexact HW
    iexact HQ
  iintro ⟨HW, HQ⟩
  iapply (bind_in c _ _)
  iapply (run_part18 m c cc0_scoped0) $$ [HW HQ]
  · isplitl [HW]; · iexact HW
    iexact HQ
  iintro ⟨HW, HQ⟩
  ihave HA := (ast_start m c) $$ S5
  ihave HS := (sst_start m c) $$ S6
  iapply (bind_in c _ _)
  iapply (run_part19 m c cc0_scoped0) $$ [HO HQ HA HS K0 V0 K1 V1 K2 V2]
  · isplitr; · iexact HC
    isplitl [HO]; · iexact HO
    isplitl [HQ]; · iexact HQ
    isplitl [HA]; · iexact HA
    isplitl [HS]; · iexact HS
    isplitl [K0]; · iexact K0
    isplitl [V0]; · iexact V0
    isplitl [K1]; · iexact K1
    isplitl [V1]; · iexact V1
    isplitl [K2]; · iexact K2
    iexact V2
  iintro %r ⟨HO, HQ, HA, HS, K0, V0, K1, V1, K2, V2⟩
  iapply (bind_in c _ _)
  iapply (run_part20 m c cc0_scoped0 _) $$ [HO K0 V0]
  · isplitr; · iexact HC
    isplitl [HO]; · iexact HO
    isplitl [K0]; · iexact K0
    iexact V0
  iintro %r ⟨HO, K0, V0⟩
  ihave HA := (ast_full m c) $$ HA
  ihave HS := (sst_full m c) $$ HS
  ihave HA := (Entails.of_eq (halves5 c fullShare (PA m c))) $$ HA
  icases HA with ⟨HA, HA'⟩
  ihave HS := (Entails.of_eq (halves6 c fullShare (PS m c))) $$ HS
  icases HS with ⟨HS, HS'⟩
  icases HH0 with ⟨TH0, CH0, AH0⟩
  ihave HG2 := (open_h m c 0) $$ [TH0 P0 HA HS]
  · isplitl [TH0]; · iexact TH0
    isplitl [P0]; · iexact P0
    isplitl [HA]; · iexact HA
    iexact HS
  icases HG2 with ⟨Hs, HA, HS⟩
  unfold sendsH
  icases Hs with ⟨OA0, OA1, OA2, OS0, OS1, OS2⟩
  unfold ownH
  icases N0 with ⟨NA, NS⟩
  iapply (bind_in c _ _)
  iapply (run_part21 m c cc0_scoped0 _ _) $$ [HO OA0 OS0]
  · isplitr; · iexact HC
    isplitl [HO]; · iexact HO
    isplitl [OA0]; · iexact OA0
    iexact OS0
  iintro %r ⟨HO, DA0, DS0⟩
  obtain ⟨_, _⟩ := r
  iapply (bind_in c _ _)
  iapply (run_part22 m c cc0_scoped0 _ _) $$ [HO OA1]
  · isplitr; · iexact HC
    isplitl [HO]; · iexact HO
    iexact OA1
  iintro %r ⟨HO, DA1⟩
  iapply (bind_in c _ _)
  iapply (run_part23 m c cc0_scoped0 _ _) $$ [HO OS1]
  · isplitr; · iexact HC
    isplitl [HO]; · iexact HO
    iexact OS1
  iintro %r ⟨HO, DS1⟩
  iapply (bind_in c _ _)
  iapply (run_part24 m c cc0_scoped0 _) $$ [HO OA2]
  · isplitr; · iexact HC
    isplitl [HO]; · iexact HO
    iexact OA2
  iintro %r ⟨HO, DA2⟩
  iapply (bind_in c _ _)
  iapply (run_part25 m c cc0_scoped0) $$ [HO OS2 HA NA I1]
  · isplitr; · iexact HC
    isplitl [HO]; · iexact HO
    isplitl [OS2]; · iexact OS2
    isplitl [HA]; · iexact HA
    isplitl [NA]; · iexact NA
    iexact I1
  iintro %r ⟨HO, DS2, FA0⟩
  iapply (bind_in c _ _)
  iapply (run_part26 m c cc0_scoped0 _) $$ [HS NS I2]
  · isplitl [HS]; · iexact HS
    isplitl [NS]; · iexact NS
    iexact I2
  iintro %r FS0
  icases HH1 with ⟨TH1, CH1, AH1⟩
  ihave HG2 := (open_h m c 1) $$ [TH1 P1 HA' HS']
  · isplitl [TH1]; · iexact TH1
    isplitl [P1]; · iexact P1
    isplitl [HA']; · iexact HA'
    iexact HS'
  icases HG2 with ⟨Hs, HA', HS'⟩
  unfold sendsH
  icases Hs with ⟨OA0, OA1, OA2, OS0, OS1, OS2⟩
  icases N1 with ⟨NA, NS⟩
  iapply (bind_in c _ _)
  iapply (run_part27 m c cc0_scoped0 _ _) $$ [HO OA0 OS0]
  · isplitr; · iexact HC
    isplitl [HO]; · iexact HO
    isplitl [OA0]; · iexact OA0
    iexact OS0
  iintro %r ⟨HO, EA0, ES0⟩
  obtain ⟨_, _, _⟩ := r
  iapply (bind_in c _ _)
  iapply (run_part28 m c cc0_scoped0 _ _ _) $$ [HO OA1]
  · isplitr; · iexact HC
    isplitl [HO]; · iexact HO
    iexact OA1
  iintro %r ⟨HO, EA1⟩
  iapply (bind_in c _ _)
  iapply (run_part29 m c cc0_scoped0 _) $$ [HO OS1]
  · isplitr; · iexact HC
    isplitl [HO]; · iexact HO
    iexact OS1
  iintro %r ⟨HO, ES1⟩
  iapply (bind_in c _ _)
  iapply (run_part30 m c cc0_scoped0 _) $$ [HO OA2 OS2]
  · isplitr; · iexact HC
    isplitl [HO]; · iexact HO
    isplitl [OA2]; · iexact OA2
    iexact OS2
  iintro %r ⟨HO, EA2, ES2⟩
  iapply (bind_in c _ _)
  iapply (run_part31 m c cc0_scoped0) $$ [HA' NA I3 HS' NS I4]
  · isplitl [HA']; · iexact HA'
    isplitl [NA]; · iexact NA
    isplitl [I3]; · iexact I3
    isplitl [HS']; · iexact HS'
    isplitl [NS]; · iexact NS
    iexact I4
  iintro %r ⟨FA1, FS1⟩
  unfold credsH atsH
  icases CH0 with ⟨CA0, CA1, CA2, CS0, CS1, CS2⟩
  icases AH0 with ⟨⟨U00, U01, U02⟩, ⟨W00, W01, W02⟩, ⟨Y00, Y01, Y02⟩, Z00, Z01, Z02⟩
  iapply (bind_in c _ _)
  iapply (run_part32 m c cc0_scoped0 _) $$ [HO FA0 FS0]
  · isplitr; · iexact HC
    isplitl [HO]; · iexact HO
    isplitl [FA0]; · iexact FA0
    iexact FS0
  iintro %r ⟨HO, I1, I2, M7, HA, M8, HS⟩
  obtain ⟨_, _, _⟩ := r
  iapply (bind_in c _ _)
  iapply (run_part33 m c cc0_scoped0 _ _ _) $$ [HO CA0 Y00]
  · unfold wants
    isplitr; · iexact HC
    isplitl [HO]; · iexact HO
    isplitl [CA0]; · iexact CA0
    iexact Y00
  iintro %r ⟨HO, Y00⟩
  iapply (bind_in c _ _)
  iapply (run_part34 m c cc0_scoped0 _) $$ [HO CS0 Z00]
  · unfold wants
    isplitr; · iexact HC
    isplitl [HO]; · iexact HO
    isplitl [CS0]; · iexact CS0
    iexact Z00
  iintro %r ⟨HO, Z00⟩
  iapply (bind_in c _ _)
  iapply (run_part35 m c cc0_scoped0 _ _) $$ [HO CA1 Y01 CS1 Z01]
  · unfold wants
    isplitr; · iexact HC
    isplitl [HO]; · iexact HO
    isplitl [CA1 Y01]
    · isplitl [CA1]; · iexact CA1
      iexact Y01
    isplitl [CS1]; · iexact CS1
    iexact Z01
  iintro %r ⟨HO, Y01, Z01⟩
  iapply (bind_in c _ _)
  iapply (run_part36 m c cc0_scoped0 _) $$ [HO CA2 Y02]
  · unfold wants
    isplitr; · iexact HC
    isplitl [HO]; · iexact HO
    isplitl [CA2]; · iexact CA2
    iexact Y02
  iintro %r ⟨HO, Y02⟩
  iapply (bind_in c _ _)
  iapply (run_part37 m c cc0_scoped0) $$ [HO Y00 Y01 Y02 Z00 Z01 CS2 Z02 M7 M8 HOo]
  · unfold wants
    isplitr; · iexact HC
    isplitl [HO]; · iexact HO
    isplitl [Y00]; · iexact Y00
    isplitl [Y01]; · iexact Y01
    isplitl [Y02]; · iexact Y02
    isplitl [Z00]; · iexact Z00
    isplitl [Z01]; · iexact Z01
    isplitl [CS2 Z02]
    · isplitl [CS2]; · iexact CS2
      iexact Z02
    isplitl [M7]; · iexact M7
    isplitl [M8]; · iexact M8
    iexact HOo
  iintro ⟨HO, Y00, Y01, Y02, Z00, Z01, Z02, L70, L80, HOo⟩
  icases CH1 with ⟨CA0, CA1, CA2, CS0, CS1, CS2⟩
  icases AH1 with ⟨⟨U10, U11, U12⟩, ⟨W10, W11, W12⟩, ⟨Y10, Y11, Y12⟩, Z10, Z11, Z12⟩
  iapply (bind_in c _ _)
  iapply (run_part38 m c cc0_scoped0 _) $$ [HO FA1 FS1]
  · isplitr; · iexact HC
    isplitl [HO]; · iexact HO
    isplitl [FA1]; · iexact FA1
    iexact FS1
  iintro %r ⟨HO, I3, I4, M7, HA', M8, HS'⟩
  iapply (bind_in c _ _)
  iapply (run_part39 m c cc0_scoped0 _) $$ [HO CA0 Y10]
  · unfold wants
    isplitr; · iexact HC
    isplitl [HO]; · iexact HO
    isplitl [CA0]; · iexact CA0
    iexact Y10
  iintro %r ⟨HO, Y10⟩
  iapply (bind_in c _ _)
  iapply (run_part40 m c cc0_scoped0 _) $$ [HO CS0 Z10]
  · unfold wants
    isplitr; · iexact HC
    isplitl [HO]; · iexact HO
    isplitl [CS0]; · iexact CS0
    iexact Z10
  iintro %r ⟨HO, Z10⟩
  iapply (bind_in c _ _)
  iapply (run_part41 m c cc0_scoped0 _ _) $$ [HO CA1 Y11 CS1 Z11]
  · unfold wants
    isplitr; · iexact HC
    isplitl [HO]; · iexact HO
    isplitl [CA1 Y11]
    · isplitl [CA1]; · iexact CA1
      iexact Y11
    isplitl [CS1]; · iexact CS1
    iexact Z11
  iintro %r ⟨HO, Y11, Z11⟩
  obtain ⟨_, _, _⟩ := r
  iapply (bind_in c _ _)
  iapply (run_part42 m c cc0_scoped0 _ _ _) $$ [HO CA2 Y12]
  · unfold wants
    isplitr; · iexact HC
    isplitl [HO]; · iexact HO
    isplitl [CA2]; · iexact CA2
    iexact Y12
  iintro %r ⟨HO, Y12⟩
  iapply (bind_in c _ _)
  iapply (run_part43 m c cc0_scoped0) $$ [HO Y10 Y11 Y12 Z10 Z11 CS2 Z12 M7 M8 HOo HR X0 AX0]
  · unfold wants
    isplitr; · iexact HC
    isplitl [HO]; · iexact HO
    isplitl [Y10]; · iexact Y10
    isplitl [Y11]; · iexact Y11
    isplitl [Y12]; · iexact Y12
    isplitl [Z10]; · iexact Z10
    isplitl [Z11]; · iexact Z11
    isplitl [CS2 Z12]
    · isplitl [CS2]; · iexact CS2
      iexact Z12
    isplitl [M7]; · iexact M7
    isplitl [M8]; · iexact M8
    isplitl [HOo]; · iexact HOo
    isplitl [HR]; · iexact HR
    isplitl [X0]; · iexact X0
    iexact AX0
  iintro %r ⟨HO, Y10, Y11, Y12, Z10, Z11, Z12, L71, L81, HOo, HR, X0⟩
  iapply (bind_in c _ _)
  iapply (run_part44 m c cc0_scoped0) $$ [HO X1 AX1 X2 AX2 DA0 U00]
  · unfold wants
    isplitr; · iexact HC
    isplitl [HO]; · iexact HO
    isplitl [X1 AX1]
    · isplitl [X1]; · iexact X1
      iexact AX1
    isplitl [X2 AX2]
    · isplitl [X2]; · iexact X2
      iexact AX2
    isplitl [DA0]; · iexact DA0
    iexact U00
  iintro %r ⟨HO, X1, X2, DA0⟩
  iapply (bind_in c _ _)
  iapply (run_part45 m c cc0_scoped0) $$ [HO DS0 W00 DA1 U01]
  · unfold wants
    isplitr; · iexact HC
    isplitl [HO]; · iexact HO
    isplitl [DS0 W00]
    · isplitl [DS0]; · iexact DS0
      iexact W00
    isplitl [DA1]; · iexact DA1
    iexact U01
  iintro %r ⟨HO, DS0, DA1⟩
  iapply (bind_in c _ _)
  iapply (run_part46 m c cc0_scoped0) $$ [HO DS1 W01 DA2 U02]
  · unfold wants
    isplitr; · iexact HC
    isplitl [HO]; · iexact HO
    isplitl [DS1 W01]
    · isplitl [DS1]; · iexact DS1
      iexact W01
    isplitl [DA2]; · iexact DA2
    iexact U02
  iintro %r ⟨HO, DS1, DA2⟩
  iapply (bind_in c _ _)
  iapply (run_part47 m c cc0_scoped0) $$ [HO DS2 W02]
  · unfold wants
    isplitr; · iexact HC
    isplitl [HO]; · iexact HO
    isplitl [DS2]; · iexact DS2
    iexact W02
  iintro %r ⟨HO, DS2⟩
  iapply (bind_in c _ _)
  iapply (run_part48 m c cc0_scoped0) $$ [HO EA0 U10 ES0 W10]
  · unfold wants
    isplitr; · iexact HC
    isplitl [HO]; · iexact HO
    isplitl [EA0 U10]
    · isplitl [EA0]; · iexact EA0
      iexact U10
    isplitl [ES0]; · iexact ES0
    iexact W10
  iintro %r ⟨HO, EA0, ES0⟩
  iapply (bind_in c _ _)
  iapply (run_part49 m c cc0_scoped0) $$ [HO EA1 U11 ES1 W11]
  · unfold wants
    isplitr; · iexact HC
    isplitl [HO]; · iexact HO
    isplitl [EA1 U11]
    · isplitl [EA1]; · iexact EA1
      iexact U11
    isplitl [ES1]; · iexact ES1
    iexact W11
  iintro %r ⟨HO, EA1, ES1⟩
  iapply (bind_in c _ _)
  iapply (run_part50 m c cc0_scoped0 _) $$ [HO EA2 U12 ES2 W12]
  · unfold wants
    isplitr; · iexact HC
    isplitl [HO]; · iexact HO
    isplitl [EA2 U12]
    · isplitl [EA2]; · iexact EA2
      iexact U12
    isplitl [ES2]; · iexact ES2
    iexact W12
  iintro %r ⟨HO, EA2, ES2⟩
  unfold toksF
  icases HF with ⟨⟨T0, T1, T2⟩, HDf, HAf⟩
  simp only [semSignalWord, Prog.lift, Prog.bind_op, Prog.bind_ret, Prog.pure_eq_ret]
  iapply (act_close m c _ 0 18 (dev19_eq c) rfl) $$ [HO T0]
  · isplitr; · iexact HC
    isplitl [HO]; · iexact HO
    iexact T0
  iintro HO
  iapply (act_ret c)
  iapply Hk
  unfold mid
  isplitl [HO]; · iexact HO
  isplitl [HAb]; · iexact HAb
  isplitl [X0 X1 X2]
  · isplitl [X0]; · iexact X0
    isplitl [X1]; · iexact X1
    iexact X2
  isplitl [AR0 AR1 AR2]
  · isplitl [AR0]; · iexact AR0
    isplitl [AR1]; · iexact AR1
    iexact AR2
  isplitl [S0]; · iexact S0
  isplitl [I0 I1 I2 I3 I4]
  · isplitl [I0]; · iexact I0
    isplitl [I1]; · iexact I1
    isplitl [I2]; · iexact I2
    isplitl [I3]; · iexact I3
    iexact I4
  isplitl [K0 K1 K2 V0 V1 V2]
  · isplitl [K0]; · iexact K0
    isplitl [K1]; · iexact K1
    isplitl [K2]; · iexact K2
    isplitl [V0]; · iexact V0
    isplitl [V1]; · iexact V1
    iexact V2
  isplitl [HX]; · iexact HX
  isplitl [HW]; · iexact HW
  isplitl [HOo]; · iexact HOo
  isplitl [HR]; · iexact HR
  isplitl [HG]; · iexact HG
  isplitl [HQ]; · iexact HQ
  isplitl [HA HS]
  · isplitl [HA]; · iexact HA
    iexact HS
  isplitl [HA' HS']
  · isplitl [HA']; · iexact HA'
    iexact HS'
  isplitl [DA0 DA1 DA2]
  · isplitl [DA0]; · iexact DA0
    isplitl [DA1]; · iexact DA1
    iexact DA2
  isplitl [DS0 DS1 DS2]
  · isplitl [DS0]; · iexact DS0
    isplitl [DS1]; · iexact DS1
    iexact DS2
  isplitl [EA0 EA1 EA2]
  · isplitl [EA0]; · iexact EA0
    isplitl [EA1]; · iexact EA1
    iexact EA2
  isplitl [ES0 ES1 ES2]
  · isplitl [ES0]; · iexact ES0
    isplitl [ES1]; · iexact ES1
    iexact ES2
  isplitl [Y00 Y01 Y02]
  · isplitl [Y00]; · iexact Y00
    isplitl [Y01]; · iexact Y01
    iexact Y02
  isplitl [Z00 Z01 Z02]
  · isplitl [Z00]; · iexact Z00
    isplitl [Z01]; · iexact Z01
    iexact Z02
  isplitl [Y10 Y11 Y12]
  · isplitl [Y10]; · iexact Y10
    isplitl [Y11]; · iexact Y11
    iexact Y12
  isplitl [Z10 Z11 Z12]
  · isplitl [Z10]; · iexact Z10
    isplitl [Z11]; · iexact Z11
    iexact Z12
  isplitl [L70 L71 L80 L81]
  · isplitl [L70]; · iexact L70
    isplitl [L71]; · iexact L71
    isplitl [L80]; · iexact L80
    iexact L81
  isplitl [T1 T2]
  · isplitl [T1]; · iexact T1
    iexact T2
  isplitl [HDf]; · iexact HDf
  iexact HAf

set_option maxRecDepth 65536 in
set_option maxHeartbeats 4000000 in
/-- The whole kernel on device `c`. -/
theorem run_body {Q : PUnit → sProp 𝕄} :
    iprop(Ctx m ∗ Ow c 0 ∗ bodyIn m c)
      ⊢ iprop(((Ow c 21 ∗ bodyOut m c) -∗ Q ⟨⟩) -∗ WP c (cc0_body (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 cc0_scoped0) Q) := by
  rw [cc0_body_eq_skeleton]
  unfold cc0_body_skel
  iintro ⟨#HC, HO, HB⟩ Hk
  iapply (bind_in c _ _)
  iapply (run_part51 m c) $$ [HO HB]
  · isplitr; · iexact HC
    isplitl [HO]; · iexact HO
    iexact HB
  iintro %r₁ %r₂ %r₃ %r₄ HM
  unfold mid
  icases HM with ⟨HO, HAb, ⟨X0, X1, X2⟩, ⟨AR0, AR1, AR2⟩, S0, ⟨I0, I1, I2, I3, I4⟩, ⟨K0, K1, K2, V0, V1, V2⟩, HX, HW, HOo, HR, HG, HQ, ⟨HA, HS⟩, ⟨HA', HS'⟩, ⟨DA0, DA1, DA2⟩, ⟨DS0, DS1, DS2⟩, ⟨EA0, EA1, EA2⟩, ⟨ES0, ES1, ES2⟩, ⟨Y00, Y01, Y02⟩, ⟨Z00, Z01, Z02⟩, ⟨Y10, Y11, Y12⟩, ⟨Z10, Z11, Z12⟩, ⟨L70, L71, L80, L81⟩, ⟨T1, T2⟩, HDf, HAf⟩
  simp only [semSignalWord, semWaitWord, Prog.lift, Prog.bind_op, Prog.bind_ret, Prog.pure_eq_ret]
  iapply (act_close m c _ 1 19 (dev20_eq c) rfl) $$ [HO T1]
  · isplitr; · iexact HC
    isplitl [HO]; · iexact HO
    iexact T1
  iintro HO
  iapply (act_close m c _ 2 20 (dev21_eq c) rfl) $$ [HO T2]
  · isplitr; · iexact HC
    isplitl [HO]; · iexact HO
    iexact T2
  iintro HO
  iapply (act_wait_sem m c .fin 21 4 above_21 (by decide) sem_fin (total_fin c)) $$ [HO HDf HAf]
  · isplitr; · iexact HC
    isplitl [HO]; · iexact HO
    isplitl [HDf]; · iexact HDf
    iexact HAf
  iintro ⟨HO, HAf, -⟩
  iapply (act_ret c)
  iapply Hk
  ihave HX0 := (close_x m c) $$ [S0 X0 X1 X2]
  · isplitl [S0]; · iexact S0
    isplitl [X0]; · iexact X0
    isplitl [X1]; · iexact X1
    iexact X2
  icases HX0 with ⟨⟨A0, A1, A2⟩, S0⟩
  ihave HH0 := (close_h m c 0) $$ [HA HS DA0 DA1 DA2 DS0 DS1 DS2]
  · isplitl [HA HS]
    · isplitl [HA]; · iexact HA
      iexact HS
    isplitl [DA0 DA1 DA2]
    · isplitl [DA0]; · iexact DA0
      isplitl [DA1]; · iexact DA1
      iexact DA2
    isplitl [DS0]; · iexact DS0
    isplitl [DS1]; · iexact DS1
    iexact DS2
  icases HH0 with ⟨⟨B0, B1, B2⟩, ⟨C0, C1, C2⟩, HA, HS⟩
  ihave HH1 := (close_h m c 1) $$ [HA' HS' EA0 EA1 EA2 ES0 ES1 ES2]
  · isplitl [HA' HS']
    · isplitl [HA']; · iexact HA'
      iexact HS'
    isplitl [EA0 EA1 EA2]
    · isplitl [EA0]; · iexact EA0
      isplitl [EA1]; · iexact EA1
      iexact EA2
    isplitl [ES0]; · iexact ES0
    isplitl [ES1]; · iexact ES1
    iexact ES2
  icases HH1 with ⟨⟨E0, E1, E2⟩, ⟨F0, F1, F2⟩, HA', HS'⟩
  ihave S5 := (close5 m c) $$ [HA HA']
  · isplitl [HA]; · iexact HA
    iexact HA'
  ihave S6 := (close6 m c) $$ [HS HS']
  · isplitl [HS]; · iexact HS
    iexact HS'
  ihave S7 := (close7 m c) $$ [L70 L71]
  · isplitl [L70]; · iexact L70
    iexact L71
  ihave S8 := (close8 m c) $$ [L80 L81]
  · isplitl [L80]; · iexact L80
    iexact L81
  ihave HG := (some_of c cc0_scratch1 Finset.univ _) $$ HG
  ihave HQ := (some_of c cc0_scratch2 Finset.univ _) $$ HQ
  unfold bodyOut atsX atsH idles heads
  isplitl [HO]; · iexact HO
  isplitl [HAb]; · iexact HAb
  isplitl [A0 A1 A2 AR0 AR1 AR2]
  · isplitl [A0 A1 A2]
    · isplitl [A0]; · iexact A0
      isplitl [A1]; · iexact A1
      iexact A2
    isplitl [AR0]; · iexact AR0
    isplitl [AR1]; · iexact AR1
    iexact AR2
  isplitl [B0 B1 B2 C0 C1 C2 Y00 Y01 Y02 Z00 Z01 Z02]
  · isplitl [B0 B1 B2]
    · isplitl [B0]; · iexact B0
      isplitl [B1]; · iexact B1
      iexact B2
    isplitl [C0 C1 C2]
    · isplitl [C0]; · iexact C0
      isplitl [C1]; · iexact C1
      iexact C2
    isplitl [Y00 Y01 Y02]
    · isplitl [Y00]; · iexact Y00
      isplitl [Y01]; · iexact Y01
      iexact Y02
    isplitl [Z00]; · iexact Z00
    isplitl [Z01]; · iexact Z01
    iexact Z02
  isplitl [E0 E1 E2 F0 F1 F2 Y10 Y11 Y12 Z10 Z11 Z12]
  · isplitl [E0 E1 E2]
    · isplitl [E0]; · iexact E0
      isplitl [E1]; · iexact E1
      iexact E2
    isplitl [F0 F1 F2]
    · isplitl [F0]; · iexact F0
      isplitl [F1]; · iexact F1
      iexact F2
    isplitl [Y10 Y11 Y12]
    · isplitl [Y10]; · iexact Y10
      isplitl [Y11]; · iexact Y11
      iexact Y12
    isplitl [Z10]; · iexact Z10
    isplitl [Z11]; · iexact Z11
    iexact Z12
  isplitl [HAf]; · iexact HAf
  isplitl [I0 I1 I2 I3 I4]
  · isplitl [I0]; · iexact I0
    isplitl [I1]; · iexact I1
    isplitl [I2]; · iexact I2
    isplitl [I3]; · iexact I3
    iexact I4
  isplitl [K0 K1 K2 V0 V1 V2]
  · isplitl [K0 K1 K2]
    · isplitl [K0]; · iexact K0
      isplitl [K1]; · iexact K1
      iexact K2
    isplitl [V0]; · iexact V0
    isplitl [V1]; · iexact V1
    iexact V2
  isplitl [S0 HG HQ S5 S6 S7 S8]
  · isplitl [S0]; · iexact S0
    isplitl [HG]; · iexact HG
    isplitl [HQ]; · iexact HQ
    isplitl [S5]; · iexact S5
    isplitl [S6]; · iexact S6
    isplitl [S7]; · iexact S7
    iexact S8
  isplitl [HX]; · iexact HX
  isplitl [HW]; · iexact HW
  isplitl [HOo]; · iexact HOo
  iexact HR

end

end Cert.Attn

end
-- ==== Proof.Deal.lean ====
/-
What the launch deals each device: the tokens of the payments it makes, its places at its meeting points, its
share of the launch's credit; and how the meeting points are opened and closed.
-/
module

public import proofs.«01_k».proof.Proof.Body

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

section
variable (c : Dev nD)

/-! ## A device's meeting points, one by one -/

/-- The meeting points in the order its peers come, the unused ones last. -/
def ckAt (c : Dev nD) : List Ck := [.bar, .xs 0, .xs 1, .xs 2, .xr (pr c 0), .xr (pr c 1), .xr (pr c 2), .pa 0 0, .pa 0 1, .pa 0 2, .ps 0 0, .ps 0 1, .ps 0 2, .ra 0 (pr c 0), .ra 0 (pr c 1), .ra 0 (pr c 2), .rs 0 (pr c 0), .rs 0 (pr c 1), .rs 0 (pr c 2), .pa 1 0, .pa 1 1, .pa 1 2, .ps 1 0, .ps 1 1, .ps 1 2, .ra 1 (pr c 0), .ra 1 (pr c 1), .ra 1 (pr c 2), .rs 1 (pr c 0), .rs 1 (pr c 1), .rs 1 (pr c 2), .fin, .xr c, .ra 0 c, .rs 0 c, .ra 1 c, .rs 1 c]
theorem ckAt_all : Finset.univ = (ckAt c).toFinset := by revert c; decide +kernel
theorem ckAt_nodup : (ckAt c).Nodup := by revert c; decide +kernel

/-- Something of every meeting point, grouped as the kernel uses them. -/
def perCk (Φ : Ck → sProp 𝕄) : sProp 𝕄 := iprop(Φ (.bar) ∗ ((Φ (.xs 0) ∗ Φ (.xs 1) ∗ Φ (.xs 2)) ∗ (Φ (.xr (pr c 0)) ∗ Φ (.xr (pr c 1)) ∗ Φ (.xr (pr c 2)))) ∗ ((Φ (.pa 0 0) ∗ Φ (.pa 0 1) ∗ Φ (.pa 0 2)) ∗ (Φ (.ps 0 0) ∗ Φ (.ps 0 1) ∗ Φ (.ps 0 2)) ∗ (Φ (.ra 0 (pr c 0)) ∗ Φ (.ra 0 (pr c 1)) ∗ Φ (.ra 0 (pr c 2))) ∗ (Φ (.rs 0 (pr c 0)) ∗ Φ (.rs 0 (pr c 1)) ∗ Φ (.rs 0 (pr c 2)))) ∗ ((Φ (.pa 1 0) ∗ Φ (.pa 1 1) ∗ Φ (.pa 1 2)) ∗ (Φ (.ps 1 0) ∗ Φ (.ps 1 1) ∗ Φ (.ps 1 2)) ∗ (Φ (.ra 1 (pr c 0)) ∗ Φ (.ra 1 (pr c 1)) ∗ Φ (.ra 1 (pr c 2))) ∗ (Φ (.rs 1 (pr c 0)) ∗ Φ (.rs 1 (pr c 1)) ∗ Φ (.rs 1 (pr c 2)))) ∗ Φ (.fin) ∗ (Φ (.xr c) ∗ Φ (.ra 0 c) ∗ Φ (.rs 0 c) ∗ Φ (.ra 1 c) ∗ Φ (.rs 1 c)))

theorem ckAt_list (Φ : Ck → sProp 𝕄) : bigSep Finset.univ Φ = iprop(Φ (.bar) ∗ Φ (.xs 0) ∗ Φ (.xs 1) ∗ Φ (.xs 2) ∗ Φ (.xr (pr c 0)) ∗ Φ (.xr (pr c 1)) ∗ Φ (.xr (pr c 2)) ∗ Φ (.pa 0 0) ∗ Φ (.pa 0 1) ∗ Φ (.pa 0 2) ∗ Φ (.ps 0 0) ∗ Φ (.ps 0 1) ∗ Φ (.ps 0 2) ∗ Φ (.ra 0 (pr c 0)) ∗ Φ (.ra 0 (pr c 1)) ∗ Φ (.ra 0 (pr c 2)) ∗ Φ (.rs 0 (pr c 0)) ∗ Φ (.rs 0 (pr c 1)) ∗ Φ (.rs 0 (pr c 2)) ∗ Φ (.pa 1 0) ∗ Φ (.pa 1 1) ∗ Φ (.pa 1 2) ∗ Φ (.ps 1 0) ∗ Φ (.ps 1 1) ∗ Φ (.ps 1 2) ∗ Φ (.ra 1 (pr c 0)) ∗ Φ (.ra 1 (pr c 1)) ∗ Φ (.ra 1 (pr c 2)) ∗ Φ (.rs 1 (pr c 0)) ∗ Φ (.rs 1 (pr c 1)) ∗ Φ (.rs 1 (pr c 2)) ∗ Φ (.fin) ∗ Φ (.xr c) ∗ Φ (.ra 0 c) ∗ Φ (.rs 0 c) ∗ Φ (.ra 1 c) ∗ Φ (.rs 1 c)) :=
  bigSep_univ_eq_bigSepL (ckAt c) (ckAt_all c) (ckAt_nodup c) Φ

theorem perCk_open (Φ : Ck → sProp 𝕄) : bigSep Finset.univ Φ ⊢ perCk c Φ := by
  rw [ckAt_list c]
  unfold perCk
  iintro ⟨H1, H2, H3, H4, H5, H6, H7, H8, H9, H10, H11, H12, H13, H14, H15, H16, H17, H18, H19, H20, H21, H22, H23, H24, H25, H26, H27, H28, H29, H30, H31, H32, H33, H34, H35, H36, H37⟩
  isplitl [H1]; · iexact H1
  isplitl [H2 H3 H4 H5 H6 H7]
  · isplitl [H2 H3 H4]
    · isplitl [H2]; · iexact H2
      isplitl [H3]; · iexact H3
      iexact H4
    isplitl [H5]; · iexact H5
    isplitl [H6]; · iexact H6
    iexact H7
  isplitl [H8 H9 H10 H11 H12 H13 H14 H15 H16 H17 H18 H19]
  · isplitl [H8 H9 H10]
    · isplitl [H8]; · iexact H8
      isplitl [H9]; · iexact H9
      iexact H10
    isplitl [H11 H12 H13]
    · isplitl [H11]; · iexact H11
      isplitl [H12]; · iexact H12
      iexact H13
    isplitl [H14 H15 H16]
    · isplitl [H14]; · iexact H14
      isplitl [H15]; · iexact H15
      iexact H16
    isplitl [H17]; · iexact H17
    isplitl [H18]; · iexact H18
    iexact H19
  isplitl [H20 H21 H22 H23 H24 H25 H26 H27 H28 H29 H30 H31]
  · isplitl [H20 H21 H22]
    · isplitl [H20]; · iexact H20
      isplitl [H21]; · iexact H21
      iexact H22
    isplitl [H23 H24 H25]
    · isplitl [H23]; · iexact H23
      isplitl [H24]; · iexact H24
      iexact H25
    isplitl [H26 H27 H28]
    · isplitl [H26]; · iexact H26
      isplitl [H27]; · iexact H27
      iexact H28
    isplitl [H29]; · iexact H29
    isplitl [H30]; · iexact H30
    iexact H31
  isplitl [H32]; · iexact H32
  isplitl [H33]; · iexact H33
  isplitl [H34]; · iexact H34
  isplitl [H35]; · iexact H35
  isplitl [H36]; · iexact H36
  iexact H37

theorem perCk_close (Φ : Ck → sProp 𝕄) : perCk c Φ ⊢ bigSep Finset.univ Φ := by
  rw [ckAt_list c]
  unfold perCk
  iintro ⟨H1, ⟨⟨H2, H3, H4⟩, ⟨H5, H6, H7⟩⟩, ⟨⟨H8, H9, H10⟩, ⟨H11, H12, H13⟩, ⟨H14, H15, H16⟩, ⟨H17, H18, H19⟩⟩, ⟨⟨H20, H21, H22⟩, ⟨H23, H24, H25⟩, ⟨H26, H27, H28⟩, ⟨H29, H30, H31⟩⟩, H32, ⟨H33, H34, H35, H36, H37⟩⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  iexact H37

/-! ## The semaphores -/

/-- The kernel's own semaphores: all but the barrier's, then the local copies'. -/
def osem (i : Fin 47) : SemLoc sig :=
  if h : i.val = 35 then .reg (1 : Fin 2)
  else if h' : i.val < 35 then .dma (⟨4 + i.val, by omega⟩ : Fin 50)
  else .dma (⟨3 + i.val, by omega⟩ : Fin 50)

theorem ownSemFacts : Pipeline.OwnSemFacts cfg0.spec osem := by decide +kernel

/-- The local copies' semaphores at rest. -/
def lsems : sProp 𝕄 := iprop(idles (F := F) c ∗ (idle (F := F) c (kcpS 0) ∗ idle (F := F) c (kcpS 1) ∗ idle (F := F) c (kcpS 2)) ∗ idle (F := F) c (vcpS 0) ∗ idle (F := F) c (vcpS 1) ∗ idle (F := F) c (vcpS 2))

theorem ck_list (Φ : Ck → sProp 𝕄) : bigSep Finset.univ Φ = iprop(Φ (.bar) ∗ Φ (.xs 0) ∗ Φ (.xs 1) ∗ Φ (.xs 2) ∗ Φ (.xr 0) ∗ Φ (.xr 1) ∗ Φ (.xr 2) ∗ Φ (.xr 3) ∗ Φ (.pa 0 0) ∗ Φ (.pa 0 1) ∗ Φ (.pa 0 2) ∗ Φ (.pa 1 0) ∗ Φ (.pa 1 1) ∗ Φ (.pa 1 2) ∗ Φ (.ra 0 0) ∗ Φ (.ra 0 1) ∗ Φ (.ra 0 2) ∗ Φ (.ra 0 3) ∗ Φ (.ra 1 0) ∗ Φ (.ra 1 1) ∗ Φ (.ra 1 2) ∗ Φ (.ra 1 3) ∗ Φ (.ps 0 0) ∗ Φ (.ps 0 1) ∗ Φ (.ps 0 2) ∗ Φ (.ps 1 0) ∗ Φ (.ps 1 1) ∗ Φ (.ps 1 2) ∗ Φ (.rs 0 0) ∗ Φ (.rs 0 1) ∗ Φ (.rs 0 2) ∗ Φ (.rs 0 3) ∗ Φ (.rs 1 0) ∗ Φ (.rs 1 1) ∗ Φ (.rs 1 2) ∗ Φ (.rs 1 3) ∗ Φ (.fin)) :=
  bigSep_univ_eq_bigSepL ckList (by decide) ckList_nodup Φ

theorem ownSems0_eq : (Pipeline.ownSems0 (Ix := Unit) (Name := ℕ) (U := UU) (Lvl := ℕ) (Val := Elt F) (τ := τ) osem c : sProp 𝕄)
    = iprop(semVal (cell c (.xs 0)) 0 ∗ semVal (cell c (.xs 1)) 0 ∗ semVal (cell c (.xs 2)) 0 ∗ semVal (cell c (.xr 0)) 0 ∗ semVal (cell c (.xr 1)) 0 ∗ semVal (cell c (.xr 2)) 0 ∗ semVal (cell c (.xr 3)) 0 ∗ semVal (cell c (.pa 0 0)) 0 ∗ semVal (cell c (.pa 0 1)) 0 ∗ semVal (cell c (.pa 0 2)) 0 ∗ semVal (cell c (.pa 1 0)) 0 ∗ semVal (cell c (.pa 1 1)) 0 ∗ semVal (cell c (.pa 1 2)) 0 ∗ semVal (cell c (.ra 0 0)) 0 ∗ semVal (cell c (.ra 0 1)) 0 ∗ semVal (cell c (.ra 0 2)) 0 ∗ semVal (cell c (.ra 0 3)) 0 ∗ semVal (cell c (.ra 1 0)) 0 ∗ semVal (cell c (.ra 1 1)) 0 ∗ semVal (cell c (.ra 1 2)) 0 ∗ semVal (cell c (.ra 1 3)) 0 ∗ semVal (cell c (.ps 0 0)) 0 ∗ semVal (cell c (.ps 0 1)) 0 ∗ semVal (cell c (.ps 0 2)) 0 ∗ semVal (cell c (.ps 1 0)) 0 ∗ semVal (cell c (.ps 1 1)) 0 ∗ semVal (cell c (.ps 1 2)) 0 ∗ semVal (cell c (.rs 0 0)) 0 ∗ semVal (cell c (.rs 0 1)) 0 ∗ semVal (cell c (.rs 0 2)) 0 ∗ semVal (cell c (.rs 0 3)) 0 ∗ semVal (cell c (.rs 1 0)) 0 ∗ semVal (cell c (.rs 1 1)) 0 ∗ semVal (cell c (.rs 1 2)) 0 ∗ semVal (cell c (.rs 1 3)) 0 ∗ semVal (cell c (.fin)) 0 ∗ idle (F := F) c (cpyS 0) ∗ idle (F := F) c (cpyS 1) ∗ idle (F := F) c (cpyS 2) ∗ idle (F := F) c (cpyS 3) ∗ idle (F := F) c (cpyS 4) ∗ idle (F := F) c (kcpS 0) ∗ idle (F := F) c (kcpS 1) ∗ idle (F := F) c (kcpS 2) ∗ idle (F := F) c (vcpS 0) ∗ idle (F := F) c (vcpS 1) ∗ idle (F := F) c (vcpS 2)) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46] (by decide) (by decide)]; rfl

theorem unscopedSems0_eq : (unscopedSems0 c : sProp 𝕄) = semVal (cell c .bar) 0 := by
  unfold unscopedSems0; rw [bigSep_eq_bigSepL_of_eq [SemLoc.reg (0 : Fin 2)] (by decide) (by decide)]; rfl

/-- The launch's semaphores are the meeting points' and the local copies', -/
theorem sems_open :
    iprop(Pipeline.ownSems0 (Ix := Unit) (Name := ℕ) (U := UU) (Lvl := ℕ) (Val := Elt F) (τ := τ) osem c ∗ unscopedSems0 c)
      ⊢ iprop((bigSep Finset.univ fun k : Ck => semVal (cell c k) 0) ∗ lsems (F := F) c) := by
  rw [ownSems0_eq, unscopedSems0_eq, ck_list]
  unfold lsems idles
  iintro ⟨⟨S1, S2, S3, S4, S5, S6, S7, S8, S9, S10, S11, S12, S13, S14, S15, S16, S17, S18, S19, S20, S21, S22, S23, S24, S25, S26, S27, S28, S29, S30, S31, S32, S33, S34, S35, S36, L1, L2, L3, L4, L5, L6, L7, L8, L9, L10, L11⟩, SB⟩
  isplitl [SB S1 S2 S3 S4 S5 S6 S7 S8 S9 S10 S11 S12 S13 S14 S15 S16 S17 S18 S19 S20 S21 S22 S23 S24 S25 S26 S27 S28 S29 S30 S31 S32 S33 S34 S35 S36]
  · isplitl [SB]; · iexact SB
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    iexact S36
  isplitl [L1 L2 L3 L4 L5]
  · isplitl [L1]; · iexact L1
    isplitl [L2]; · iexact L2
    isplitl [L3]; · iexact L3
    isplitl [L4]; · iexact L4
    iexact L5
  isplitl [L6 L7 L8]
  · isplitl [L6]; · iexact L6
    isplitl [L7]; · iexact L7
    iexact L8
  isplitl [L9]; · iexact L9
  isplitl [L10]; · iexact L10
  iexact L11

/-- and the other way round. -/
theorem sems_close :
    iprop((bigSep Finset.univ fun k : Ck => semVal (cell c k) 0) ∗ lsems (F := F) c)
      ⊢ iprop(Pipeline.ownSems0 (Ix := Unit) (Name := ℕ) (U := UU) (Lvl := ℕ) (Val := Elt F) (τ := τ) osem c ∗ unscopedSems0 c) := by
  rw [ownSems0_eq, unscopedSems0_eq, ck_list]
  unfold lsems idles
  iintro ⟨⟨SB, S1, S2, S3, S4, S5, S6, S7, S8, S9, S10, S11, S12, S13, S14, S15, S16, S17, S18, S19, S20, S21, S22, S23, S24, S25, S26, S27, S28, S29, S30, S31, S32, S33, S34, S35, S36⟩, ⟨⟨L1, L2, L3, L4, L5⟩, ⟨L6, L7, L8⟩, ⟨L9, L10, L11⟩⟩⟩
  isplitl [S1 S2 S3 S4 S5 S6 S7 S8 S9 S10 S11 S12 S13 S14 S15 S16 S17 S18 S19 S20 S21 S22 S23 S24 S25 S26 S27 S28 S29 S30 S31 S32 S33 S34 S35 S36 L1 L2 L3 L4 L5 L6 L7 L8 L9 L10 L11]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [L9]; · iexact L9
    isplitl [L10]; · iexact L10
    iexact L11
  iexact SB

/-! ## The tokens -/

/-- The tokens device `p.1` pays with, one a peer and kind of payment: the meeting point and the payment's name. -/
def tokKey : Dev nD × Fin 12 × Fin 3 → (Dev nD × Ck) × Fin 4
  | (c, 0, j) => ((pr c j, .bar), c)
  | (c, 1, j) => ((c, .xs j), 0)
  | (c, 2, j) => ((pr c j, .xr c), 0)
  | (c, 3, j) => ((c, .pa 0 j), 0)
  | (c, 4, j) => ((pr c j, .ra 0 c), 0)
  | (c, 5, j) => ((c, .ps 0 j), 0)
  | (c, 6, j) => ((pr c j, .rs 0 c), 0)
  | (c, 7, j) => ((c, .pa 1 j), 0)
  | (c, 8, j) => ((pr c j, .ra 1 c), 0)
  | (c, 9, j) => ((c, .ps 1 j), 0)
  | (c, 10, j) => ((pr c j, .rs 1 c), 0)
  | (c, 11, j) => ((pr c j, .fin), c)

theorem tokKey_inj : Function.Injective tokKey := by decide +kernel

def tokOf (p : Dev nD × Fin 12 × Fin 3) : GSem nD τ sig × ℕ × Fin 4 := (cell (tokKey p).1.1 (tokKey p).1.2, 0, (tokKey p).2)

theorem tokOf_inj : Function.Injective tokOf := fun p q h => by
  have h1 := cell_eq_iff.mp (congrArg (fun x : GSem nD τ sig × ℕ × Fin 4 => x.1) h)
  have h2 : (tokKey p).2 = (tokKey q).2 := congrArg (fun x : GSem nD τ sig × ℕ × Fin 4 => x.2.2) h
  exact tokKey_inj (Prod.ext (Prod.ext h1.1 h1.2) h2)

theorem kcell_inj : Function.Injective (fun ck : Dev nD × Ck => cell ck.1 ck.2) := fun p q h =>
  Prod.ext (cell_eq_iff.mp h).1 (cell_eq_iff.mp h).2

def ringCells : Finset (GSem nD τ sig) := Finset.univ.map ⟨fun ck : Dev nD × Ck => cell ck.1 ck.2, kcell_inj⟩
def ringToks : Finset (GSem nD τ sig × ℕ × Fin 4) := Finset.univ.map ⟨tokOf, tokOf_inj⟩

def u₀ : UU :=
  (initOf (Pipeline.cells cfgs cellOf_inj) (Pipeline.launchToks cfgs cellOf_inj), (initOf ringCells ringToks, 1))

/-- A device's tokens. -/
def toks : sProp 𝕄 := iprop(toksB (F := F) c ∗ toksX (F := F) c ∗ toksH (F := F) c 0 ∗ toksH (F := F) c 1 ∗ toksF (F := F) c)

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem toks_eq : (bigSep Finset.univ fun t : Fin 12 => bigSep Finset.univ fun j : Fin 3 =>
      (dutyTok ER (tokOf (c, t, j)).1 (tokOf (c, t, j)).2.1 (tokOf (c, t, j)).2.2 : sProp 𝕄))
    = iprop((tok (F := F) (pr c 0) (.bar) c ∗ tok (F := F) (pr c 1) (.bar) c ∗ tok (F := F) (pr c 2) (.bar) c) ∗ (tok (F := F) c (.xs 0) 0 ∗ tok (F := F) c (.xs 1) 0 ∗ tok (F := F) c (.xs 2) 0) ∗ (tok (F := F) (pr c 0) (.xr c) 0 ∗ tok (F := F) (pr c 1) (.xr c) 0 ∗ tok (F := F) (pr c 2) (.xr c) 0) ∗ (tok (F := F) c (.pa 0 0) 0 ∗ tok (F := F) c (.pa 0 1) 0 ∗ tok (F := F) c (.pa 0 2) 0) ∗ (tok (F := F) (pr c 0) (.ra 0 c) 0 ∗ tok (F := F) (pr c 1) (.ra 0 c) 0 ∗ tok (F := F) (pr c 2) (.ra 0 c) 0) ∗ (tok (F := F) c (.ps 0 0) 0 ∗ tok (F := F) c (.ps 0 1) 0 ∗ tok (F := F) c (.ps 0 2) 0) ∗ (tok (F := F) (pr c 0) (.rs 0 c) 0 ∗ tok (F := F) (pr c 1) (.rs 0 c) 0 ∗ tok (F := F) (pr c 2) (.rs 0 c) 0) ∗ (tok (F := F) c (.pa 1 0) 0 ∗ tok (F := F) c (.pa 1 1) 0 ∗ tok (F := F) c (.pa 1 2) 0) ∗ (tok (F := F) (pr c 0) (.ra 1 c) 0 ∗ tok (F := F) (pr c 1) (.ra 1 c) 0 ∗ tok (F := F) (pr c 2) (.ra 1 c) 0) ∗ (tok (F := F) c (.ps 1 0) 0 ∗ tok (F := F) c (.ps 1 1) 0 ∗ tok (F := F) c (.ps 1 2) 0) ∗ (tok (F := F) (pr c 0) (.rs 1 c) 0 ∗ tok (F := F) (pr c 1) (.rs 1 c) 0 ∗ tok (F := F) (pr c 2) (.rs 1 c) 0) ∗ (tok (F := F) (pr c 0) (.fin) c ∗ tok (F := F) (pr c 1) (.fin) c ∗ tok (F := F) (pr c 2) (.fin) c)) := by
  rw [bigSep_twelve]; simp only [bigSep_three]; rfl

theorem toks_intro : (bigSep Finset.univ fun t : Fin 12 => bigSep Finset.univ fun j : Fin 3 =>
      (dutyTok ER (tokOf (c, t, j)).1 (tokOf (c, t, j)).2.1 (tokOf (c, t, j)).2.2 : sProp 𝕄)) ⊢ toks (F := F) c := by
  rw [toks_eq]
  unfold toks toksB toksX toksH toksF
  iintro ⟨⟨T0_0, T0_1, T0_2⟩, ⟨T1_0, T1_1, T1_2⟩, ⟨T2_0, T2_1, T2_2⟩, ⟨T3_0, T3_1, T3_2⟩, ⟨T4_0, T4_1, T4_2⟩, ⟨T5_0, T5_1, T5_2⟩, ⟨T6_0, T6_1, T6_2⟩, ⟨T7_0, T7_1, T7_2⟩, ⟨T8_0, T8_1, T8_2⟩, ⟨T9_0, T9_1, T9_2⟩, ⟨T10_0, T10_1, T10_2⟩, ⟨T11_0, T11_1, T11_2⟩⟩
  isplitl [T0_0 T0_1 T0_2]
  · isplitl [T0_0]; · iexact T0_0
    isplitl [T0_1]; · iexact T0_1
    iexact T0_2
  isplitl [T1_0 T2_0 T1_1 T2_1 T1_2 T2_2]
  · isplitl [T1_0 T2_0]
    · isplitl [T1_0]; · iexact T1_0
      iexact T2_0
    isplitl [T1_1 T2_1]
    · isplitl [T1_1]; · iexact T1_1
      iexact T2_1
    isplitl [T1_2]; · iexact T1_2
    iexact T2_2
  isplitl [T3_0 T4_0 T3_1 T4_1 T3_2 T4_2 T5_0 T6_0 T5_1 T6_1 T5_2 T6_2]
  · isplitl [T3_0 T4_0]
    · isplitl [T3_0]; · iexact T3_0
      iexact T4_0
    isplitl [T3_1 T4_1]
    · isplitl [T3_1]; · iexact T3_1
      iexact T4_1
    isplitl [T3_2 T4_2]
    · isplitl [T3_2]; · iexact T3_2
      iexact T4_2
    isplitl [T5_0 T6_0]
    · isplitl [T5_0]; · iexact T5_0
      iexact T6_0
    isplitl [T5_1 T6_1]
    · isplitl [T5_1]; · iexact T5_1
      iexact T6_1
    isplitl [T5_2]; · iexact T5_2
    iexact T6_2
  isplitl [T7_0 T8_0 T7_1 T8_1 T7_2 T8_2 T9_0 T10_0 T9_1 T10_1 T9_2 T10_2]
  · isplitl [T7_0 T8_0]
    · isplitl [T7_0]; · iexact T7_0
      iexact T8_0
    isplitl [T7_1 T8_1]
    · isplitl [T7_1]; · iexact T7_1
      iexact T8_1
    isplitl [T7_2 T8_2]
    · isplitl [T7_2]; · iexact T7_2
      iexact T8_2
    isplitl [T9_0 T10_0]
    · isplitl [T9_0]; · iexact T9_0
      iexact T10_0
    isplitl [T9_1 T10_1]
    · isplitl [T9_1]; · iexact T9_1
      iexact T10_1
    isplitl [T9_2]; · iexact T9_2
    iexact T10_2
  isplitl [T11_0]; · iexact T11_0
  isplitl [T11_1]; · iexact T11_1
  iexact T11_2

/-! ## Opening and closing the meeting points -/

/-- What the launch element gives device `c`, -/
def G : sProp 𝕄 :=
  iprop((bigSep Finset.univ fun k : Ck => roundState ER (Rd m) (cell c k) 0)
    ∗ (bigSep Finset.univ fun k : Ck => iprop(at_ (F := F) c k 0 ∗ reached ER (cell c k) 0)) ∗ toks (F := F) c)
/-- and what is left of it once the meeting points are opened. -/
def G' : sProp 𝕄 :=
  iprop((∃ K, records m K) ∗ (bigSep Finset.univ fun k : Ck => at_ (F := F) c k 0) ∗ toks (F := F) c ∗ lsems (F := F) c)

theorem fund : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (cell c k) := by
    unfold ringCells; rw [bigSep_map, bigSep_univ_prod]; rfl
  have hT : bigSep ringToks (fun x => (dutyTok ER x.1 x.2.1 x.2.2 : sProp 𝕄)) ⊢ bigSep Finset.univ fun c : Dev nD => toks (F := F) c := by
    unfold ringToks; rw [bigSep_map, bigSep_univ_prod]
    exact bigSep_mono fun c _ => by rw [bigSep_univ_prod]; exact toks_intro c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The launch element in its two parts: the pipeline's and the meeting points'. -/
theorem two_parts (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (cell c k)))
          ∗ (bigSep Finset.univ fun k : Ck => iprop(at_ (F := F) c k 0 ∗ reached ER (cell c k) 0)) ∗ toks (F := F) c ∗ lsems (F := F) c) := by
  unfold G
  iintro ⟨Hos, Hus, Hst, Hat, Htok⟩
  ihave Hv := (sems_open (F := F) c) $$ [Hos Hus]
  · isplitl [Hos] <;> iassumption
  icases Hv with ⟨Hv, Hl⟩
  imod (show iprop((bigSep Finset.univ fun k : Ck => semVal (cell c k) 0) ∗ bigSep Finset.univ fun k : Ck => roundState ER (Rd m) (cell c k) 0)
      ⊢ (|={Set.univ}=> bigSep Finset.univ fun k : Ck => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Each summand with a persistent fact beside it. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem with_records (K : Dev nD × Ck → ℕ) :
    iprop(records m K ∗ (bigSep Finset.univ fun k : Ck => at_ (F := F) c k 0) ∗ toks (F := F) c ∗ lsems (F := F) c) ⊢ G' m c := by
  unfold G'
  iintro ⟨#H, H1⟩
  isplitr; · iexists K; iexact H
  iexact H1

theorem regroup :
    (bigSep Finset.univ fun c : Dev nD => iprop((bigSep Finset.univ fun k : Ck => iprop(∃ κ : ℕ, cellInv ER (Rd m) κ (cell c k)))
          ∗ (bigSep Finset.univ fun k : Ck => iprop(at_ (F := F) c k 0 ∗ reached ER (cell c k) 0)) ∗ toks (F := F) c ∗ lsems (F := F) c) : sProp 𝕄)
      ⊢ bigSep Finset.univ (G' m) := by
  rw [bigSep_sep', bigSep_sep', ← bigSep_univ_prod (fun ck : Dev nD × Ck => iprop(∃ κ : ℕ, cellInv ER (Rd m) κ (cell ck.1 ck.2))),
    bigSep_congr (s := Finset.univ) (fun (c : Dev nD) _ => bigSep_sep' Finset.univ (fun k : Ck => (at_ (F := F) c k 0 : sProp 𝕄)) (fun k => reached ER (cell c k) 0)),
    bigSep_sep', ← bigSep_univ_prod (fun ck : Dev nD × Ck => (reached ER (cell ck.1 ck.2) 0 : sProp 𝕄))]
  iintro ⟨HI, ⟨Hat, #HR⟩, Htok⟩
  ihave HK := (BI.bigSep_exists_pi Finset.univ (fun (ck : Dev nD × Ck) (κ : ℕ) => (cellInv ER (Rd m) κ (cell ck.1 ck.2) : sProp 𝕄))) $$ HI
  icases HK with ⟨%K, #HI⟩
  iapply (bigSep_beside (R := records m K) fun c _ => with_records m c K)
  isplitr
  · unfold records; isplitl; · iexact HI
    iexact HR
  · simp only [bigSep_sep']
    isplitl [Hat]; · iexact Hat
    iexact Htok

/-- All devices' meeting points opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The round a device leaves a meeting point at: the one for its own number was never used. -/
def rdOf (c : Dev nD) : Ck → ℕ
  | .xr s | .ra _ s | .rs _ s => if s = c then 0 else 1
  | _ => 1

theorem none_left (k : Ck) : ∀ r, rdOf c k ≤ r → (Rd (F := F) m).duties (cell c k) r = ∅ := by
  intro r hr
  rcases Nat.eq_zero_or_pos r with rfl | h
  · rw [Rd_duties]
    cases k <;> first
      | exact absurd (show 1 ≤ 0 from hr) (by decide)
      | (rename_i s; simp only [rdOf] at hr; split at hr
         · (rename_i e; simp only [dutiesOf]; rw [if_pos e])
         · exact absurd hr (by decide))
  · exact Rd_later m _ r h

/-- Its meeting points closed, every semaphore reads zero. -/
theorem close_all : iprop(Ctx m ∗ bigSep Finset.univ fun k : Ck => at_ (F := F) c k (rdOf c k))
    ⊢ |={Set.univ}=> bigSep Finset.univ fun k : Ck => semVal (cell c k) 0 := by
  refine (bigSep_beside (Ψ := fun k : Ck => iprop(|={Set.univ}=> semVal (cell c k) 0)) fun k _ => ?_).trans (bigSep_fupd _ _)
  iintro ⟨#HC, Hat⟩
  ihave HI := (Ctx_inv m c k) $$ HC
  icases HI with ⟨%κ, #HI⟩
  iapply (Rounds.cell_close ER (Rd m) (Set.mem_univ κ) (fun h => h) (R := rdOf c k) (none_left m c k))
  isplitr; · iexact HI
  iexact Hat

/-! ## The launch's credit -/

theorem owe_at (l : List (Dev nD × Ck)) (k : Ck) : owe l (cell c k) () = l.count (c, k) * amt k := by
  induction l with
  | nil => rw [List.count_nil, Nat.zero_mul]; rfl
  | cons p l ih =>
    show (owe l + tallyAt (cell p.1 p.2) () (amt p.2)) (cell c k) () = _
    rw [Pi.add_apply, Finsupp.add_apply, ih, tallyAt_apply, List.count_cons]
    by_cases h : p = (c, k)
    · subst h; rw [if_pos ⟨rfl, rfl⟩]; simp only [beq_self_eq_true, if_true]; rw [Nat.succ_mul]
    · rw [if_neg fun h' => h (Prod.ext (cell_eq_iff.mp h'.1).1.symm (cell_eq_iff.mp h'.1).2.symm)]
      have : (p == (c, k)) = false := beq_eq_false_iff_ne.mpr h
      rw [this]; simp

/-- How many payments the peers make at a meeting point of device `c`. -/
def incoming (c : Dev nD) : Ck → ℕ
  | .xs _ | .pa _ _ | .ps _ _ => 0
  | k => (dutiesOf c k).card

theorem incoming_eq : ∀ (c : Dev nD) (k : Ck), ∑ d : Dev nD, (debts d).count (c, k) = incoming c k := by decide +kernel

theorem launch_at (k : Ck) :
    tallyOn (cell c k) (launchCredit (Pipeline.owing fun d => owe (debts d)) 0 (cell c k)) = (tallyAt (cell c k) () (incoming c k * amt k) : CellTallies nD τ sig Unit) := by
  unfold tallyAt; refine congrArg _ (Finsupp.ext fun u => ?_); cases u
  rw [Pipeline.launchCredit_owing, Finsupp.single_eq_same, Finset.sum_congr rfl fun d _ => owe_at c (debts d) k, ← Finset.sum_mul, incoming_eq]

theorem creds_open : (Pipeline.launchCred (fun d => owe (debts d)) c : sProp 𝕄)
    ⊢ bigSep Finset.univ fun k : Ck => due (F := F) c k (incoming c k * amt k) := by
  unfold Pipeline.launchCred
  refine (bigSep_subset (Finset.subset_univ (Finset.univ.image csem))).trans ?_
  rw [bigSep_image_of_injOn csem_inj.injOn]
  exact bigSep_mono fun k _ => Entails.of_eq (congrArg cred (launch_at c k))

/-- A device's credit. -/
def creds : sProp 𝕄 := iprop(due (F := F) c .bar (total c .bar) ∗ credsX (F := F) c ∗ credsH (F := F) c 0 ∗ credsH (F := F) c 1 ∗ due (F := F) c .fin (total c .fin))

theorem one_due (j : Fin 3) : (if pr c j = c then (∅ : Finset (Fin 4)) else {0}).card = 1 := by
  rw [if_neg (pr_ne c j)]; rfl

theorem creds_intro : (Pipeline.launchCred (fun d => owe (debts d)) c : sProp 𝕄) ⊢ creds (F := F) c := by
  refine (creds_open c).trans ((perCk_open c _).trans ?_)
  unfold perCk creds credsX credsH
  simp only [incoming, total, dutiesOf, one_due, Nat.one_mul]
  iintro ⟨C1, ⟨⟨C2, C3, C4⟩, ⟨C5, C6, C7⟩⟩, ⟨⟨C8, C9, C10⟩, ⟨C11, C12, C13⟩, ⟨C14, C15, C16⟩, ⟨C17, C18, C19⟩⟩, ⟨⟨C20, C21, C22⟩, ⟨C23, C24, C25⟩, ⟨C26, C27, C28⟩, ⟨C29, C30, C31⟩⟩, C32, ⟨C33, C34, C35, C36, C37⟩⟩
  isplitl [C1]; · iexact C1
  isplitl [C5 C6 C7]
  · isplitl [C5]; · iexact C5
    isplitl [C6]; · iexact C6
    iexact C7
  isplitl [C14 C15 C16 C17 C18 C19]
  · isplitl [C14]; · iexact C14
    isplitl [C15]; · iexact C15
    isplitl [C16]; · iexact C16
    isplitl [C17]; · iexact C17
    isplitl [C18]; · iexact C18
    iexact C19
  isplitl [C26 C27 C28 C29 C30 C31]
  · isplitl [C26]; · iexact C26
    isplitl [C27]; · iexact C27
    isplitl [C28]; · iexact C28
    isplitl [C29]; · iexact C29
    isplitl [C30]; · iexact C30
    iexact C31
  iexact C32

end

end Cert.Attn

end
-- ==== Proof.Run.lean ====
/-
The launch of the kernel and its run on the four devices: it ends, every semaphore at zero, the arguments as they
were and each device's result at what its kernel computes.
-/
module

public import proofs.«01_k».proof.Proof.Deal
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTokN shareDrop Flight Flight_mono)

variable {F : FTy → Type} [FloatOps F]

local notation "𝕄" => MT nD τ sig Unit (Elt F) ℕ UU ℕ

variable (m : (ℓ : Loc nD τ sig) → Buf (Elt F) ℓ)
variable {α : Type} {kt : PUnit → Prog (TpuEff nD τ sig (Elt F) Λ₀ .tc) α}

/-! ## Cutting an array in three, and its shares -/

theorem cut3 {ℓ : Loc nD τ sig} {A B C : Finset (Idx ℓ)} (hU : Finset.univ = A ∪ (B ∪ C)) (h1 : Disjoint A (B ∪ C)) (h2 : Disjoint B C)
    (f : Buf (Elt F) ℓ) : (ℓ ↦{fullShare} f : sProp 𝕄) ⊢ iprop((ℓ ↦[A]{fullShare} f) ∗ (ℓ ↦[B]{fullShare} f) ∗ ℓ ↦[C]{fullShare} f) := by
  rw [hU]
  exact (pointsTo_union h1).1.trans (sep_mono_right (pointsTo_union h2).1)

theorem join3 {ℓ : Loc nD τ sig} {A B C : Finset (Idx ℓ)} (hU : Finset.univ = A ∪ (B ∪ C)) (h1 : Disjoint A (B ∪ C)) (h2 : Disjoint B C) :
    iprop((∃ f : Buf (Elt F) ℓ, ℓ ↦[A]{fullShare} f) ∗ (∃ f : Buf (Elt F) ℓ, ℓ ↦[B]{fullShare} f) ∗ ∃ f : Buf (Elt F) ℓ, ℓ ↦[C]{fullShare} f)
      ⊢ (iprop(∃ f : Buf (Elt F) ℓ, ℓ ↦{fullShare} f) : sProp 𝕄) := by
  rw [hU]
  iintro ⟨⟨%fa, HA⟩, ⟨%fb, HB⟩, ⟨%fc, HC⟩⟩
  ihave H := (pointsTo_join h2) $$ [HB HC]
  · isplitl [HB] <;> iassumption
  ihave H' := (pointsTo_join h1) $$ [HA H]
  · isplitl [HA] <;> iassumption
  iexists _; iexact H'

theorem slot_all : (Finset.univ : Finset S3x16x4x64x128.Idx) = slot 0 ∪ (slot 1 ∪ slot 2) := by
  ext i
  have h3 : (i 0).val < 3 := (i 0).isLt
  simp only [slot, Finset.mem_univ, Finset.mem_union, Finset.mem_filter, true_and, true_iff]
  show (i 0).val = 0 ∨ (i 0).val = 1 ∨ (i 0).val = 2
  omega
theorem slot_apart {s s' : Fin 3} (h : s ≠ s') : Disjoint (slot s) (slot s') :=
  Finset.disjoint_filter.mpr fun i _ h₁ h₂ => h (Fin.ext (h₁.symm.trans h₂))
theorem slot_rest : Disjoint (slot 0) (slot 1 ∪ slot 2) :=
  Finset.disjoint_union_right.mpr ⟨slot_apart (by decide), slot_apart (by decide)⟩

section
variable (c : Dev nD)

/-- An array's whole share as one for each slot and the rest. -/
theorem shares3 (b : Ref sig .tc) (f : b.ty.Contents (Elt F)) : pts c b Finset.univ fullShare f
    = iprop(pts c b Finset.univ (shareDrop fullShare 3) f
      ∗ pts c b Finset.univ (hq 0) f ∗ pts c b Finset.univ (hq 1) f ∗ pts c b Finset.univ (hq 2) f) := by
  have h := (Transfers.pointsTo_toks_range (Ix := Unit) (Name := ℕ) (U := UU) (Lvl := ℕ) (ℓ := (c : Thread nD τ).loc b) (S := Finset.univ) (f := f) fullShare 3)
  refine (equiv_iff.mp ⟨h.1, h.2⟩).trans ?_
  rw [bigSep_eq_bigSepL_of_eq [0, 1, 2] (by decide) (by decide)]
  rfl

/-! ## What a device holds at its kernel's start and at its end -/

/-- What the heads' slots leave of the keys and values. -/
def held : sProp 𝕄 := iprop(pts c main_arg2 Finset.univ (shareDrop fullShare 3) (karr m c) ∗ pts c main_arg3 Finset.univ (shareDrop fullShare 3) (varr m c))

theorem kv_open :
    iprop(any (F := F) c cc0_scratch3 Finset.univ ∗ any (F := F) c cc0_scratch4 Finset.univ
        ∗ pts c main_arg2 Finset.univ fullShare (karr m c) ∗ pts c main_arg3 Finset.univ fullShare (varr m c)
        ∗ (idle (F := F) c (kcpS 0) ∗ idle (F := F) c (kcpS 1) ∗ idle (F := F) c (kcpS 2)) ∗ idle (F := F) c (vcpS 0) ∗ idle (F := F) c (vcpS 1) ∗ idle (F := F) c (vcpS 2))
      ⊢ iprop(heads m c ∗ held m c) := by
  unfold heads held kfree vfree any
  iintro ⟨⟨%f3, H3⟩, ⟨%f4, H4⟩, HK, HV, ⟨I0, I1, I2⟩, J0, J1, J2⟩
  ihave H3 := (cut3 (ℓ := (c : Thread nD τ).loc cc0_scratch3) slot_all slot_rest (slot_apart (by decide)) f3) $$ H3
  icases H3 with ⟨S0, S1, S2⟩
  ihave H4 := (cut3 (ℓ := (c : Thread nD τ).loc cc0_scratch4) slot_all slot_rest (slot_apart (by decide)) f4) $$ H4
  icases H4 with ⟨T0, T1, T2⟩
  ihave HK := (Entails.of_eq (shares3 c main_arg2 (karr m c))) $$ HK
  icases HK with ⟨HK, K0, K1, K2⟩
  ihave HV := (Entails.of_eq (shares3 c main_arg3 (varr m c))) $$ HV
  icases HV with ⟨HV, V0, V1, V2⟩
  isplitl [S0 K0 I0 S1 K1 I1 S2 K2 I2 T0 V0 J0 T1 V1 J1 T2 V2 J2]
  · isplitl [S0 K0 I0 S1 K1 I1 S2 K2 I2]
    · isplitl [S0 K0 I0]
      · isplitl [S0]; · iexists _; iexact S0
        isplitl [K0]; · iexact K0
        iexact I0
      isplitl [S1 K1 I1]
      · isplitl [S1]; · iexists _; iexact S1
        isplitl [K1]; · iexact K1
        iexact I1
      isplitl [S2]; · iexists _; iexact S2
      isplitl [K2]; · iexact K2
      iexact I2
    isplitl [T0 V0 J0]
    · isplitl [T0]; · iexists _; iexact T0
      isplitl [V0]; · iexact V0
      iexact J0
    isplitl [T1 V1 J1]
    · isplitl [T1]; · iexists _; iexact T1
      isplitl [V1]; · iexact V1
      iexact J1
    isplitl [T2]; · iexists _; iexact T2
    isplitl [V2]; · iexact V2
    iexact J2
  isplitl [HK]; · iexact HK
  iexact HV

theorem kv_close :
    iprop(heads m c ∗ held m c)
      ⊢ iprop((any (F := F) c cc0_scratch3 Finset.univ ∗ any (F := F) c cc0_scratch4 Finset.univ)
        ∗ (pts c main_arg2 Finset.univ fullShare (karr m c) ∗ pts c main_arg3 Finset.univ fullShare (varr m c))
        ∗ (idle (F := F) c (kcpS 0) ∗ idle (F := F) c (kcpS 1) ∗ idle (F := F) c (kcpS 2)) ∗ idle (F := F) c (vcpS 0) ∗ idle (F := F) c (vcpS 1) ∗ idle (F := F) c (vcpS 2)) := by
  unfold heads held kfree vfree
  iintro ⟨⟨⟨⟨S0, K0, I0⟩, ⟨S1, K1, I1⟩, ⟨S2, K2, I2⟩⟩, ⟨T0, V0, J0⟩, ⟨T1, V1, J1⟩, ⟨T2, V2, J2⟩⟩, ⟨HK, HV⟩⟩
  ihave H3 := (join3 (F := F) (ℓ := (c : Thread nD τ).loc cc0_scratch3) slot_all slot_rest (slot_apart (by decide))) $$ [S0 S1 S2]
  · isplitl [S0]; · iexact S0
    isplitl [S1] <;> iassumption
  ihave H4 := (join3 (F := F) (ℓ := (c : Thread nD τ).loc cc0_scratch4) slot_all slot_rest (slot_apart (by decide))) $$ [T0 T1 T2]
  · isplitl [T0]; · iexact T0
    isplitl [T1] <;> iassumption
  ihave HK := (Entails.of_eq (shares3 c main_arg2 (karr m c)).symm) $$ [HK K0 K1 K2]
  · isplitl [HK]; · iexact HK
    isplitl [K0]; · iexact K0
    isplitl [K1]; · iexact K1
    iexact K2

  ihave HV := (Entails.of_eq (shares3 c main_arg3 (varr m c)).symm) $$ [HV V0 V1 V2]
  · isplitl [HV]; · iexact HV
    isplitl [V0]; · iexact V0
    isplitl [V1]; · iexact V1
    iexact V2

  isplitl [H3 H4]
  · isplitl [H3]; · iexact H3
    iexact H4
  isplitl [HK HV]
  · isplitl [HK]; · iexact HK
    iexact HV
  isplitl [I0 I1 I2]
  · isplitl [I0]; · iexact I0
    isplitl [I1]; · iexact I1
    iexact I2
  isplitl [J0]; · iexact J0
  isplitl [J1]; · iexact J1
  iexact J2

/-- The places at the meeting points a device does not use: those of its own number. -/
def spare : sProp 𝕄 := iprop(at_ (F := F) c (.xr c) 0 ∗ at_ (F := F) c (.ra 0 c) 0 ∗ at_ (F := F) c (.rs 0 c) 0 ∗ at_ (F := F) c (.ra 1 c) 0 ∗ at_ (F := F) c (.rs 1 c) 0)

/-- The kernel's working memory. -/
def anys : sProp 𝕄 := iprop(any (F := F) c cc0_scratch0 Finset.univ ∗ any (F := F) c cc0_scratch1 Finset.univ ∗ any (F := F) c cc0_scratch2 Finset.univ ∗ any (F := F) c cc0_scratch5 Finset.univ ∗ any (F := F) c cc0_scratch6 Finset.univ ∗ any (F := F) c cc0_scratch7 Finset.univ ∗ any (F := F) c cc0_scratch8 Finset.univ)

/-- The start: what the launch dealt, -/
def Φ₀ : sProp 𝕄 := iprop(Ctx m ∗ toks (F := F) c ∗ creds (F := F) c ∗ perCk c (fun k => at_ (F := F) c k 0) ∗ idles (F := F) c ∗ heads m c ∗ held m c ∗ anys (F := F) c)
/-- the end: every semaphore at zero, the keys and values as they were. -/
def Φ₁ : sProp 𝕄 := iprop((Pipeline.ownSems0 (Ix := Unit) (Name := ℕ) (U := UU) (Lvl := ℕ) (Val := Elt F) (τ := τ) osem c ∗ unscopedSems0 c)
  ∗ (pts c main_arg2 Finset.univ fullShare (karr m c) ∗ pts c main_arg3 Finset.univ fullShare (varr m c))
  ∗ (any (F := F) c cc0_scratch3 Finset.univ ∗ any (F := F) c cc0_scratch4 Finset.univ) ∗ anys (F := F) c)

/-- The kernel's start, from the launch's. -/
theorem enter :
    iprop(Φ₀ m c ∗ pts c cc0_stg0_0 Finset.univ fullShare (xstg m c) ∗ wfull m c ∗ ofull m c ∗ any (F := F) c cc0_stg3_0 Finset.univ)
      ⊢ iprop(Ctx m ∗ bodyIn m c ∗ held m c ∗ spare (F := F) c) := by
  unfold Φ₀ toks creds perCk bodyIn spare anys atsX atsH
  iintro ⟨⟨#HC, ⟨TB, TX, TH0, TH1, TF⟩, ⟨CB, CX, CH0, CH1, CF⟩, ⟨PB, ⟨⟨p1, p2, p3⟩, ⟨p4, p5, p6⟩⟩, ⟨⟨q00, q01, q02⟩, ⟨q10, q11, q12⟩, ⟨q20, q21, q22⟩, ⟨q30, q31, q32⟩⟩, ⟨⟨r00, r01, r02⟩, ⟨r10, r11, r12⟩, ⟨r20, r21, r22⟩, ⟨r30, r31, r32⟩⟩, PF, ⟨s0, s1, s2, s3, s4⟩⟩, HI, HH, HD, ⟨A0, A1, A2, A5, A6, A7, A8⟩⟩, HX, HW, HO, HR⟩
  isplitr; · iexact HC
  isplitl [TB CB PB TX CX p1 p2 p3 p4 p5 p6 TH0 CH0 q00 q01 q02 q10 q11 q12 q20 q21 q22 q30 q31 q32 TH1 CH1 r00 r01 r02 r10 r11 r12 r20 r21 r22 r30 r31 r32 TF CF PF HI HH A0 A1 A2 A5 A6 A7 A8 HX HW HO HR]
  · isplitl [TB CB PB]
    · isplitl [TB]; · iexact TB
      isplitl [CB]; · iexact CB
      iexact PB
    isplitl [TX CX p1 p2 p3 p4 p5 p6]
    · isplitl [TX]; · iexact TX
      isplitl [CX]; · iexact CX
      isplitl [p1 p2 p3]
      · isplitl [p1]; · iexact p1
        isplitl [p2]; · iexact p2
        iexact p3
      isplitl [p4]; · iexact p4
      isplitl [p5]; · iexact p5
      iexact p6
    isplitl [TH0 CH0 q00 q01 q02 q10 q11 q12 q20 q21 q22 q30 q31 q32]
    · isplitl [TH0]; · iexact TH0
      isplitl [CH0]; · iexact CH0
      isplitl [q00 q01 q02]
      · isplitl [q00]; · iexact q00
        isplitl [q01]; · iexact q01
        iexact q02
      isplitl [q10 q11 q12]
      · isplitl [q10]; · iexact q10
        isplitl [q11]; · iexact q11
        iexact q12
      isplitl [q20 q21 q22]
      · isplitl [q20]; · iexact q20
        isplitl [q21]; · iexact q21
        iexact q22
      isplitl [q30]; · iexact q30
      isplitl [q31]; · iexact q31
      iexact q32
    isplitl [TH1 CH1 r00 r01 r02 r10 r11 r12 r20 r21 r22 r30 r31 r32]
    · isplitl [TH1]; · iexact TH1
      isplitl [CH1]; · iexact CH1
      isplitl [r00 r01 r02]
      · isplitl [r00]; · iexact r00
        isplitl [r01]; · iexact r01
        iexact r02
      isplitl [r10 r11 r12]
      · isplitl [r10]; · iexact r10
        isplitl [r11]; · iexact r11
        iexact r12
      isplitl [r20 r21 r22]
      · isplitl [r20]; · iexact r20
        isplitl [r21]; · iexact r21
        iexact r22
      isplitl [r30]; · iexact r30
      isplitl [r31]; · iexact r31
      iexact r32
    isplitl [TF CF PF]
    · isplitl [TF]; · iexact TF
      isplitl [CF]; · iexact CF
      iexact PF
    isplitl [HI]; · iexact HI
    isplitl [HH]; · iexact HH
    isplitl [A0 A1 A2 A5 A6 A7 A8]
    · isplitl [A0]; · iexact A0
      isplitl [A1]; · iexact A1
      isplitl [A2]; · iexact A2
      isplitl [A5]; · iexact A5
      isplitl [A6]; · iexact A6
      isplitl [A7]; · iexact A7
      iexact A8
    isplitl [HX]; · iexact HX
    isplitl [HW]; · iexact HW
    isplitl [HO]; · iexact HO
    iexact HR
  isplitl [HD]; · iexact HD
  isplitl [s0]; · iexact s0
  isplitl [s1]; · iexact s1
  isplitl [s2]; · iexact s2
  isplitl [s3]; · iexact s3
  iexact s4

theorem spots :
    iprop(at_ (F := F) c .bar 1 ∗ atsX (F := F) c 1 ∗ atsH (F := F) c 0 1 ∗ atsH (F := F) c 1 1 ∗ at_ (F := F) c .fin 1 ∗ spare (F := F) c)
      ⊢ bigSep Finset.univ fun k : Ck => at_ (F := F) c k (rdOf c k) := by
  refine BIBase.Entails.trans ?_ (perCk_close c _)
  unfold perCk atsX atsH spare
  simp only [rdOf, pr_ne, if_true, if_false]
  iintro ⟨PB, ⟨⟨p1, p2, p3⟩, p4, p5, p6⟩, ⟨⟨q00, q01, q02⟩, ⟨q10, q11, q12⟩, ⟨q20, q21, q22⟩, q30, q31, q32⟩, ⟨⟨r00, r01, r02⟩, ⟨r10, r11, r12⟩, ⟨r20, r21, r22⟩, r30, r31, r32⟩, PF, ⟨s0, s1, s2, s3, s4⟩⟩
  isplitl [PB]; · iexact PB
  isplitl [p1 p2 p3 p4 p5 p6]
  · isplitl [p1 p2 p3]
    · isplitl [p1]; · iexact p1
      isplitl [p2]; · iexact p2
      iexact p3
    isplitl [p4]; · iexact p4
    isplitl [p5]; · iexact p5
    iexact p6
  isplitl [q00 q01 q02 q10 q11 q12 q20 q21 q22 q30 q31 q32]
  · isplitl [q00 q01 q02]
    · isplitl [q00]; · iexact q00
      isplitl [q01]; · iexact q01
      iexact q02
    isplitl [q10 q11 q12]
    · isplitl [q10]; · iexact q10
      isplitl [q11]; · iexact q11
      iexact q12
    isplitl [q20 q21 q22]
    · isplitl [q20]; · iexact q20
      isplitl [q21]; · iexact q21
      iexact q22
    isplitl [q30]; · iexact q30
    isplitl [q31]; · iexact q31
    iexact q32
  isplitl [r00 r01 r02 r10 r11 r12 r20 r21 r22 r30 r31 r32]
  · isplitl [r00 r01 r02]
    · isplitl [r00]; · iexact r00
      isplitl [r01]; · iexact r01
      iexact r02
    isplitl [r10 r11 r12]
    · isplitl [r10]; · iexact r10
      isplitl [r11]; · iexact r11
      iexact r12
    isplitl [r20 r21 r22]
    · isplitl [r20]; · iexact r20
      isplitl [r21]; · iexact r21
      iexact r22
    isplitl [r30]; · iexact r30
    isplitl [r31]; · iexact r31
    iexact r32
  isplitl [PF]; · iexact PF
  isplitl [s0]; · iexact s0
  isplitl [s1]; · iexact s1
  isplitl [s2]; · iexact s2
  isplitl [s3]; · iexact s3
  iexact s4

/-- The kernel's end, its meeting points closed. -/
theorem leave :
    iprop(Ctx m ∗ bodyOut m c ∗ held m c ∗ spare (F := F) c)
      ⊢ |={Set.univ}=> iprop(Φ₁ m c ∗ pts c cc0_stg0_0 Finset.univ fullShare (xstg m c) ∗ wfull m c ∗ ofull m c ∗ pts c cc0_stg3_0 Finset.univ fullShare (out m c)) := by
  unfold bodyOut
  iintro ⟨#HC, ⟨PB, PX, PH0, PH1, PF, HI, HH, ⟨A0, A1, A2, A5, A6, A7, A8⟩, HX, HW, HO, HR⟩, HD, HS⟩
  ihave Hp := (spots c) $$ [PB PX PH0 PH1 PF HS]
  · isplitl [PB]; · iexact PB
    isplitl [PX]; · iexact PX
    isplitl [PH0]; · iexact PH0
    isplitl [PH1]; · iexact PH1
    isplitl [PF]; · iexact PF
    iexact HS

  imod (close_all m c) $$ [Hp] with Hz
  · isplitr; · iexact HC
    iexact Hp
  ihave Hk := (kv_close m c) $$ [HH HD]
  · isplitl [HH] <;> iassumption
  icases Hk with ⟨Hs, HK, Hi, Hj⟩
  ihave Hz := (sems_close (F := F) c) $$ [Hz HI Hi Hj]
  · isplitl [Hz]; · iexact Hz
    unfold lsems
    isplitl [HI]; · iexact HI
    isplitl [Hi]; · iexact Hi
    iexact Hj
  imodintro
  unfold Φ₁ anys
  isplitl [Hz HK Hs A0 A1 A2 A5 A6 A7 A8]
  · isplitl [Hz]; · iexact Hz
    isplitl [HK]; · iexact HK
    isplitl [Hs]; · iexact Hs
    isplitl [A0]; · iexact A0
    isplitl [A1]; · iexact A1
    isplitl [A2]; · iexact A2
    isplitl [A5]; · iexact A5
    isplitl [A6]; · iexact A6
    isplitl [A7]; · iexact A7
    iexact A8
  isplitl [HX]; · iexact HX
  isplitl [HW]; · iexact HW
  isplitl [HO]; · iexact HO
  iexact HR

end

/-! ## The kernel's contract -/

variable (ρ : Dev nD → PrngReg)

abbrev s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => ostg m c
    | ⟨3, _⟩ => out m c
  Φ t := match t with
    | ⟨0, _⟩ => Φ₀ m c
    | ⟨_ + 1, _⟩ => Φ₁ m c
  q _ := fullShare
  owed t := match t with
    | ⟨0, _⟩ => owe (debts c)
    | ⟨_ + 1, _⟩ => 0

def t₀ : Fin cfg0.N := t0_0
theorem fin_N (t : Fin cfg0.N) : t = t₀ := fin_N0 t

theorem bigSep_wins (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) (b : Ref sig .tc) (X : b.ty.Contents (Elt F)) : pts c b Finset.univ fullShare X ⊢ stg c b X := by
  unfold stg; iintro H; iexists X; isplitr; · (ipureintro; rfl)
  iexact H

theorem stg_elim (c : Dev nD) (b : Ref sig .tc) (X Y : b.ty.Contents (Elt F)) (h : X = Y) : stg c b X ⊢ pts c b Finset.univ fullShare Y := by
  subst h; unfold stg; iintro ⟨%f, %hf, H⟩; subst hf; iexact H

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ
    ∗ stg c cc0_stg0_0 (xstg m c) ∗ stg c cc0_stg1_0 (wstg m c) ∗ stg c cc0_stg2_0 (ostg m c) ∗ stg c cc0_stg3_0 (out m c))

theorem owes_in (c : Dev nD) : (dats m ρ 0 c).owesAt () t₀.castSucc ⊢ Ow (F := F) c 0 := by
  unfold Dat.owesAt Pipeline.owesWithin Ow
  iintro ⟨%W, %hW, HO⟩
  iexists W; iexact HO

theorem owes_out (c : Dev nD) : Ow (F := F) c 21 ⊢ (dats m ρ 0 c).owesAt () t₀.succ := by
  unfold Dat.owesAt Pipeline.owesWithin Ow
  iintro ⟨%W, HO⟩
  iexists W; isplitr; · ipureintro; exact fun _ _ => Or.inl trivial
  iexact HO

theorem before_x (c : Dev nD) (d) : (dats m ρ 0 c).before (0 : Fin 4) t₀ d = xstg m c := by
  unfold Dat.before; rw [if_pos (fetch0_0 t₀)]; rfl
theorem before_w (c : Dev nD) (d) : (dats m ρ 0 c).before (1 : Fin 4) t₀ d = wstg m c := by
  unfold Dat.before; rw [if_pos (fetch0_1 t₀)]; rfl
theorem before_o (c : Dev nD) (d) : (dats m ρ 0 c).before (2 : Fin 4) t₀ d = ostg m c := by
  unfold Dat.before; rw [if_pos (fetch0_2 t₀)]; rfl

/-- The kernel on one device, as the launch calls it. -/
theorem kernel_once (c : Dev nD) : bodyPre m ρ c ⊢ WP c (cc0_body (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 cc0_scoped0) (fun _ => iprop(|={Set.univ}=> bodyPost m ρ c)) := by
  unfold bodyPre
  iintro ⟨H0, Ho, ⟨%d0, HX⟩, ⟨%d1, HW⟩, ⟨%d2, HO⟩, ⟨%d3, HR⟩⟩
  ihave HX := (stg_elim c cc0_stg0_0 _ _ (before_x m ρ c d0)) $$ HX
  ihave HW := (stg_elim c cc0_stg1_0 _ _ (before_w m ρ c d1)) $$ HW
  ihave HO := (stg_elim c cc0_stg2_0 _ _ (before_o m ρ c d2)) $$ HO
  ihave HR := (stg_elim c cc0_stg3_0 _ _ rfl) $$ HR
  ihave Ho := (owes_in m ρ c) $$ Ho
  ihave HE := (enter m c) $$ [H0 HX HW HO HR]
  · isplitl [H0]; · iexact H0
    isplitl [HX]; · iexact HX
    isplitl [HW]; · iexact HW
    isplitl [HO]; · iexact HO
    iexists _; iexact HR
  icases HE with ⟨#HC, HB, HD, HS⟩
  iapply (run_body m c) $$ [Ho HB]
  · isplitr; · iexact HC
    isplitl [Ho]; · iexact Ho
    iexact HB
  iintro ⟨Ho, HB⟩
  imod (leave m c) $$ [HB HD HS] with HL
  · isplitr; · iexact HC
    isplitl [HB]; · iexact HB
    isplitl [HD] <;> iassumption
  icases HL with ⟨H1, HX, HW, HO, HR⟩
  imodintro
  unfold bodyPost
  isplitl [H1]; · iexact H1
  isplitl [Ho]; · iapply (owes_out m ρ c); iexact Ho
  isplitl [HX]; · iapply (stg_intro c cc0_stg0_0); iexact HX
  isplitl [HW]; · iapply (stg_intro c cc0_stg1_0); iexact HW
  isplitl [HO]; · iapply (stg_intro c cc0_stg2_0); iexact HO
  iapply (stg_intro c cc0_stg3_0); iexact HR

/-- The launch's obligation for one device's kernel. -/
theorem body_obligation (c : Dev nD) : BodyObligation (dats (F := F) m ρ 0 c) (defs₀ (F := F)) 𝒱₀ () Set.univ := fun t => by
  rw [fin_N t]
  rw [bigSep_wins, bigSep_wins]
  simp only [owns_eq]
  show bodyPre m ρ c ⊢ wp frame (wpE (defs₀ (F := F)) 𝒱₀ c none) Set.univ (cc0_body (F := F) xM (Memref.isWhole_whole _) wM (Memref.isWhole_whole _) kM (Memref.isWhole_whole _) vM (Memref.isWhole_whole _) oM (Memref.isWhole_whole _) rM (Memref.isWhole_whole _) xbM (Memref.isWhole_whole _) xgM (Memref.isWhole_whole _) qM (Memref.isWhole_whole _) ksM (Memref.isWhole_whole _) vsM (Memref.isWhole_whole _) paM (Memref.isWhole_whole _) psM (Memref.isWhole_whole _) rbM (Memref.isWhole_whole _) rsM (Memref.isWhole_whole _) cc0_scratch9 cc0_scratch10 cc0_scratch11 cc0_scratch12 cc0_scratch13 cc0_scratch14 cc0_scratch15 cc0_scratch16 cc0_scratch17 cc0_scoped0) (fun _ => bodyPost m ρ c)
  exact (kernel_once m ρ c).trans (wp_fupd _ _ _ _ _)

/-! ## The launch -/

/-- What the launch leaves with a device: what was dealt, the levels, its credit, its keys and values. -/
def start (c : Dev nD) : sProp 𝕄 :=
  iprop(Ctx m ∗ toks (F := F) c ∗ creds (F := F) c ∗ perCk c (fun k => at_ (F := F) c k 0) ∗ lsems (F := F) c
    ∗ pts c main_arg2 Finset.univ fullShare (karr m c) ∗ pts c main_arg3 Finset.univ fullShare (varr m c))
/-- What it reads off at the end. -/
def finish (c : Dev nD) : sProp 𝕄 :=
  iprop(unscopedSems0 c ∗ pts c main_arg2 Finset.univ fullShare (karr m c) ∗ pts c main_arg3 Finset.univ fullShare (varr m c))

theorem rest_eq (c : Dev nD) :
    (Pipeline.unscopedRestP (Ix := Unit) (Name := ℕ) (U := UU) (Lvl := ℕ) Pipeline.Prefetch.none cfg0.spec c (fun b => m ((c : Thread nD τ).loc b)) : sProp 𝕄)
      = iprop(pts c main_arg2 Finset.univ fullShare (karr m c) ∗ pts c main_arg3 Finset.univ fullShare (varr m c)) :=
  Pipeline.unscopedRestP_eq_of_list (c := c) (win := spec0) Pipeline.Prefetch.none (fun b => m ((c : Thread nD τ).loc b)) [main_arg2, main_arg3] (by decide) (by decide)

theorem start_intro (c : Dev nD) :
    iprop(Pipeline.unscopedRestP Pipeline.Prefetch.none cfg0.spec c (fun b => m ((c : Thread nD τ).loc b)) ∗ levAts L lv
        ∗ Pipeline.launchCred (fun d => owe (debts d)) c ∗ prngReg c (ρ c) ∗ G' m c)
      ⊢ |={Set.univ}=> iprop(start m c ∗ emp) := by
  rw [rest_eq]
  unfold G' start Ctx
  iintro ⟨⟨HK, HV⟩, Hlev, Hcr, -, HR, Hat, Htk, Hl⟩
  ihave Hc := (creds_intro (F := F) c) $$ Hcr
  ihave Hp := (perCk_open c _) $$ Hat
  imodintro
  isplitl
  · isplitl [HR Hlev]
    · isplitl [HR] <;> iassumption
    isplitl [Htk]; · iexact Htk
    isplitl [Hc]; · iexact Hc
    isplitl [Hp]; · iexact Hp
    isplitl [Hl]; · iexact Hl
    isplitl [HK] <;> iassumption
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold start Φ₀ anys lsems
  iintro ⟨⟨#HC, Htk, Hcr, Hp, ⟨HI, Hk, Hv⟩, HK, HV⟩, -, S0, S1, S2, S3, S4, S5, S6, S7, S8⟩
  ihave HH := (kv_open m c) $$ [S3 S4 HK HV Hk Hv]
  · isplitl [S3]; · iexact S3
    isplitl [S4]; · iexact S4
    isplitl [HK]; · iexact HK
    isplitl [HV]; · iexact HV
    isplitl [Hk] <;> iassumption
  icases HH with ⟨HH, HD⟩
  isplitr; · iexact HC
  isplitl [Htk]; · iexact Htk
  isplitl [Hcr]; · iexact Hcr
  isplitl [Hp]; · iexact Hp
  isplitl [HI]; · iexact HI
  isplitl [HH]; · iexact HH
  isplitl [HD]; · iexact HD
  isplitl [S0]; · iexact S0
  isplitl [S1]; · iexact S1
  isplitl [S2]; · iexact S2
  isplitl [S5]; · iexact S5
  isplitl [S6]; · iexact S6
  isplitl [S7]; · iexact S7
  iexact S8

theorem phi_out (c : Dev nD) :
    (dats m ρ 0 c).Φ (Fin.last cfg0.N) ⊢ iprop(finish m c ∗ Pipeline.ownSems0 osem c ∗ Pipeline.scopedRest cfg0.spec c) := by
  rw [show (dats m ρ 0 c).Φ (Fin.last cfg0.N) = Φ₁ m c from rfl, scopedRest0_eq]
  unfold Φ₁ finish anys
  iintro ⟨⟨Ho, Hu⟩, ⟨HK, HV⟩, ⟨S3, S4⟩, S0, S1, S2, S5, S6, S7, S8⟩
  isplitl [Hu HK HV]
  · isplitl [Hu]; · iexact Hu
    isplitl [HK]; · iexact HK
    iexact HV
  isplitl [Ho]; · iexact Ho
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

theorem stage_low : ∀ (w : Fin 4) (s : Fin (spec0 w).nbuf), lvS (.dma ((spec0 w).sem s)) = 0 := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_list c (.dma ((spec0 w).sem s)) (debts c) fun p hp => by
        rw [stage_low w s]; exact above_0 c p hp
    · show _ ⊢ MayWait _ _ _ 0
      rw [MayWait_zero]; iintro -; iempintro

theorem share_eq (c : Dev nD) (w : Fin cfg0.W) : (dats m ρ 0 c).share w = fullShare := by unfold Dat.share; split <;> rfl

/-- A window's array after the run. -/
def finalA (c : Dev nD) (w : Fin cfg0.W) : Buf (Elt F) ((cfg0.win w).arr.view.loc (c : Thread nD τ)) := (dats m ρ 0 c).arrAt w cfg0.N

/-- The run's outcome: the windows' arrays, the keys and the values. -/
def Outcome : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

theorem read_end (c : Dev nD) (s' : Phys nD τ sig (Elt F)) :
    iprop(finish m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2)
      ∧ s'.mem.mem ((c : Thread nD τ).loc main_arg3) = m ((c : Thread nD τ).loc main_arg3)⌝ ∗ SI s') := by
  unfold finish
  iintro ⟨⟨Hu, HK, HV⟩, -, HSI⟩
  icombine HSI HK gives %hk
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hk, Buf.eq_of_forall_mem_univ hv⟩
  iexact HSI

set_option maxRecDepth 8000 in
/-- On four devices, over any float values and from any memory with the semaphores at zero, every fair run of the
    kernels ends, with that outcome and the semaphores at zero. -/
theorem run_main : θ_run defs (onTc (τ := τ) (main (F := F))) (s₀ m ρ) (fun r => Outcome m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe (debts d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (two_parts _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi_in m ρ) (hout := phi_out m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => read_end m c s')
    (hQ := fun _ h hs => ⟨fun c => ⟨fun w => (h c).1 w, (h c).2.2.2⟩, sem_eq_zero hs fun c => (h c).2.2.1⟩)

end Cert.Attn

end
-- ==== Proof.Frames.lean ====
/-
The frames of the three programs, and what the kernel's result array holds at the end: from the runs.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Attn

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- A window that is only read ends as it began. -/
theorem final_0 (c : Dev nD) : finalA m ρ c (0 : Fin 4) = m ((c : Thread nD τ).loc main_arg0) := (dats (F := F) m ρ 0 c).arrAt_in (0 : Fin 4) rfl _
theorem final_1 (c : Dev nD) : finalA m ρ c (1 : Fin 4) = m ((c : Thread nD τ).loc main_arg1) := (dats (F := F) m ρ 0 c).arrAt_in (1 : Fin 4) rfl _
theorem final_2 (c : Dev nD) : finalA m ρ c (2 : Fin 4) = m ((c : Thread nD τ).loc main_arg4) := (dats (F := F) m ρ 0 c).arrAt_in (2 : Fin 4) rfl _

/-- The result's block at the end is the value computed. -/
theorem final_3_blk (c : Dev nD) : (win0_3.blk (0 : Fin 1)).view.read (Elt F) (finalA m ρ c (3 : Fin 4)) = out m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- A block that is the whole array reads the array. -/
theorem blk0 (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem blk1 (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem blk2 (f : (main_arg4 : Ref sig .tc).ty.Contents (Elt F)) : (win0_2.blk (0 : Fin 1)).view.read (Elt F) f = f :=
  Memref.read_access_unit_zero (Elt F) main_arg4 (funext fun a => by fin_cases a <;> decide) (fun a => by fin_cases a <;> decide) f
theorem blk3 (f : (main_v1 : Ref sig .tc).ty.Contents (Elt F)) : (win0_3.blk (0 : Fin 1)).view.read (Elt F) f = f :=
  Memref.read_access_unit_zero (Elt F) main_v1 (funext fun a => by fin_cases a <;> decide) (fun a => by fin_cases a <;> decide) f

/-- The result array at the end. -/
theorem final_3 (c : Dev nD) : finalA m ρ c (3 : Fin 4) = out m c := (blk3 _).symm.trans (final_3_blk m ρ c)

/-- The kernel over any float values: it runs, every semaphore ends at zero, the arguments end unchanged, and every device's
    result array ends at the value `out`. -/
theorem run_out : θ_run defs (onTc (τ := τ) (main (F := F))) (s₀ m ρ) (fun r => (∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h => ⟨fun c => ⟨((h.1 c).1 (3 : Fin 4)).trans (final_3 m ρ c), ((h.1 c).1 (0 : Fin 4)).trans (final_0 m ρ c),
    ((h.1 c).1 (1 : Fin 4)).trans (final_1 m ρ c), (h.1 c).2.1, (h.1 c).2.2, ((h.1 c).1 (2 : Fin 4)).trans (final_2 m ρ c)⟩, h.2⟩) (run_main m ρ)

/-- The frame of the kernel read at the ideal instance. -/
theorem frame_kernelIdeal : Cert.quiescent_KernelIdeal := fun m ρ _ =>
  (θ_run Cert.KernelIdeal.defs _ _).mono (fun _ h => ⟨fun c => (h.1 c).2, h.2⟩) (run_out (F := Ideal) m ρ)

/-- The kernel as compiled and the kernel read at the ideal instance have one text: their body tables are one. -/
theorem defs_eq : Cert.Kernel.defs (F := F) = Cert.KernelIdeal.defs (F := F) := by
  refine congrArg (Pipeline.defs Cert.KernelIdeal.pcfgs) ?_
  unfold Cert.Kernel.defs₀ Cert.KernelIdeal.defs₀
  refine congrArg _ (funext fun l => funext fun ts => ?_)
  match l, ts with
  | 0, (t, s) => rfl
/-- And so are their entry points. -/
theorem main_eq : Cert.Kernel.main (F := F) = Cert.KernelIdeal.main (F := F) := rfl

/-- The frame of the kernel as compiled. -/
theorem frame_kernel : Cert.quiescent_Kernel := by
  intro m ρ _
  have h := (θ_run Cert.KernelIdeal.defs _ _).mono (fun _ h => And.intro (fun c => (h.1 c).2) h.2) (run_out (F := Bits) m ρ)
  rw [← defs_eq, ← main_eq] at h
  exact h

/-- The frame of the reference: it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn

end
-- ==== Proof.Merge.lean ====
/-
The arithmetic of a softmax computed in parts, over the extended reals: the parts' sums are brought to one reference
point by factors that cancel in the quotient.
-/
module

public import Idealize.ShloMosaic.PureOps.Ideal
public import Idealize.ShloMosaic.Lib.Pointwise

@[expose] public section

noncomputable section

namespace Cert.Attn

open Idealize.ShloMosaic

/-- The value is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of real numbers, written over the extended reals, is the sum over the reals. -/
theorem coe_sum {ι : Type*} (s : Finset ι) (f : ι → ℝ) : ∑ i ∈ s, (f i : EReal) = ((∑ i ∈ s, f i : ℝ) : EReal) := by
  classical
  refine Finset.induction_on s (by simp) fun a t ha ih => ?_
  rw [Finset.sum_insert ha, Finset.sum_insert ha, ih, EReal.coe_add]

theorem IsR.sum {ι : Type*} [Fintype ι] {f : ι → EReal} (h : ∀ i, IsR (f i)) : IsR (∑ i, f i) := by
  choose g hg using h
  exact ⟨∑ i, g i, by rw [← coe_sum]; exact Finset.sum_congr rfl fun i _ => hg i⟩

/-- A value whose absolute value is below infinity is a real number. -/
theorem IsR.of_ne {x : EReal} (h1 : x ≠ ⊤) (h2 : x ≠ ⊥) : IsR x := ⟨x.toReal, (EReal.coe_toReal h1 h2).symm⟩

/-- The greatest of finitely many values none of which is `⊤` and one of which is not `⊥` is a real number. -/
theorem isR_fold {ι : Type*} [Fintype ι] (f : ι → EReal) (h : ∀ i, f i ≠ ⊤) (i₀ : ι) (h₀ : f i₀ ≠ ⊥) :
    IsR (Finset.univ.fold max ⊥ f) := by
  refine IsR.of_ne (ne_of_lt ?_) (ne_of_gt ?_)
  · exact (Finset.fold_max_lt _).mpr ⟨bot_lt_top, fun i _ => lt_top_iff_ne_top.mpr (h i)⟩
  · exact (Finset.lt_fold_max _).mpr (.inr ⟨i₀, Finset.mem_univ _, bot_lt_iff_ne_bot.mpr h₀⟩)

/-- A nonnegative real factor goes into a finite sum of extended reals. -/
theorem coe_mul_sum {ι : Type*} (s : Finset ι) {r : ℝ} (hr : 0 ≤ r) (f : ι → EReal) :
    (r : EReal) * ∑ i ∈ s, f i = ∑ i ∈ s, (r : EReal) * f i := by
  classical
  refine Finset.induction_on s (by simp) fun a t ha ih => ?_
  rw [Finset.sum_insert ha, Finset.sum_insert ha, EReal.left_distrib_of_nonneg_of_ne_top (EReal.coe_nonneg.mpr hr) (EReal.coe_ne_top r), ih]

/-- The exponential of a difference of reals. -/
theorem exp_sub (a b : ℝ) : Ideal.exp ((a : EReal) - (b : EReal)) = ((Real.exp (a - b) : ℝ) : EReal) := by
  rw [← EReal.coe_sub, Ideal.exp_coe]

variable {A B : Type} [Fintype A] [Fintype B]

/-- One part's sum, brought from the reference point `μ` to `γ`. -/
theorem part_sum (μ γ : ℝ) (σ : B → ℝ) (v : B → EReal) :
    Ideal.exp ((μ : EReal) - γ) * (∑ j, Ideal.exp ((σ j : EReal) - μ) * v j) = ∑ j, ((Real.exp (σ j - γ) : ℝ) : EReal) * v j := by
  rw [exp_sub, coe_mul_sum _ (Real.exp_pos _).le]
  refine Finset.sum_congr rfl fun j _ => ?_
  rw [exp_sub, ← mul_assoc, ← EReal.coe_mul, ← Real.exp_add]
  congr 3; ring

theorem part_den (μ γ : ℝ) (σ : B → ℝ) :
    Ideal.exp ((μ : EReal) - γ) * (∑ j, Ideal.exp ((σ j : EReal) - μ)) = ((∑ j, Real.exp (σ j - γ) : ℝ) : EReal) := by
  have h := part_sum μ γ σ (fun _ => 1)
  simp only [mul_one] at h
  rw [h, coe_sum]

/-- The softmax-weighted sum of `v`, computed in parts each around its own point `μ s` and merged around `γ`, is the one
    computed at once around `M`, whatever real points these are. -/
theorem merge [Nonempty A] [Nonempty B] (μ : A → ℝ) (γ M : ℝ) (σ : A → B → ℝ) (v : A → B → EReal) :
    Ideal.div (∑ s, Ideal.exp ((μ s : EReal) - γ) * (∑ j, Ideal.exp ((σ s j : EReal) - μ s) * v s j))
        (∑ s, Ideal.exp ((μ s : EReal) - γ) * (∑ j, Ideal.exp ((σ s j : EReal) - μ s)))
      = ∑ s, ∑ j, v s j * Ideal.div (Ideal.exp ((σ s j : EReal) - M)) (∑ s, ∑ j, Ideal.exp ((σ s j : EReal) - M)) := by
  have hpos : ∀ δ : ℝ, 0 < ∑ s : A, ∑ j : B, Real.exp (σ s j - δ) := fun δ =>
    Finset.sum_pos (fun s _ => Finset.sum_pos (fun j _ => Real.exp_pos _) Finset.univ_nonempty) Finset.univ_nonempty
  have hM : ∑ s, ∑ j, Ideal.exp ((σ s j : EReal) - M) = ((∑ s, ∑ j, Real.exp (σ s j - M) : ℝ) : EReal) := by
    simp only [exp_sub, coe_sum]
  have hsc : (∑ s : A, ∑ j : B, Real.exp (σ s j - γ)) = Real.exp (M - γ) * ∑ s : A, ∑ j : B, Real.exp (σ s j - M) := by
    rw [Finset.mul_sum]; refine Finset.sum_congr rfl fun s _ => ?_
    rw [Finset.mul_sum]; refine Finset.sum_congr rfl fun j _ => ?_
    rw [← Real.exp_add]; congr 1; ring
  rw [hM]
  simp only [part_sum, part_den]
  rw [coe_sum, Ideal.div_coe (hpos γ).ne', mul_comm, coe_mul_sum _ (one_div_pos.mpr (hpos γ)).le]
  refine Finset.sum_congr rfl fun s _ => ?_
  rw [coe_mul_sum _ (one_div_pos.mpr (hpos γ)).le]
  refine Finset.sum_congr rfl fun j _ => ?_
  rw [Ideal.div_coe (hpos M).ne', exp_sub, ← mul_assoc, ← EReal.coe_mul, ← EReal.coe_mul, mul_comm (v s j)]
  congr 2
  rw [hsc]
  have e : Real.exp (σ s j - γ) = Real.exp (M - γ) * Real.exp (σ s j - M) := by rw [← Real.exp_add]; congr 1; ring
  rw [e]
  have h1 := (Real.exp_pos (M - γ)).ne'
  have h2 := (hpos M).ne'
  field_simp

/-! ## The keys of one residue class -/

/-- The position of the `j`th key that device `s` holds for residue `r`. -/
def key (s r : Fin 4) (j : Fin 1024) : Fin 16384 :=
  ⟨s.val * 4096 + (j.val / 64 * 4 + r.val) * 64 + j.val % 64, by omega⟩

/-- A sum over all keys of a function that is zero outside one residue class. -/
theorem sum_class (r : Fin 4) (f : Fin 16384 → EReal) (h : ∀ J, J.val / 64 % 4 ≠ r.val → f J = 0) :
    ∑ J, f J = ∑ s : Fin 4, ∑ j : Fin 1024, f (key s r j) := by
  let e : Fin 4 × Fin 4 × Fin 1024 ≃ Fin 16384 :=
    { toFun := fun p => key p.1 p.2.1 p.2.2
      invFun := fun J => (⟨J.val / 4096, by omega⟩, ⟨J.val / 64 % 4, by omega⟩, ⟨J.val % 4096 / 256 * 64 + J.val % 64, by omega⟩)
      left_inv := fun p => by
        obtain ⟨a, b, c⟩ := p
        refine Prod.ext (Fin.ext ?_) (Prod.ext (Fin.ext ?_) (Fin.ext ?_)) <;> simp only [key] <;> omega
      right_inv := fun J => Fin.ext (by simp only [key]; omega) }
  rw [← Equiv.sum_comp e f, Fintype.sum_prod_type]
  refine Finset.sum_congr rfl fun s _ => ?_
  rw [Fintype.sum_prod_type]
  refine Finset.sum_eq_single r (fun b _ hb => ?_) (fun hn => (hn (Finset.mem_univ _)).elim)
  refine Finset.sum_eq_zero fun j _ => h _ ?_
  intro hc; apply hb; apply Fin.ext
  have : (s.val * 4096 + (j.val / 64 * 4 + b.val) * 64 + j.val % 64) / 64 % 4 = r.val := hc
  omega

/-! ## The literals -/

/-- The scale of the scores is a real number. -/
theorem isR_scale : IsR (Ideal.ofBits .f32 0x3DB504F3#32) := by
  refine IsR.of_ne ?_ ?_ <;> simp [Ideal.ofBits, Ideal.ieee] <;> rw [← EReal.coe_mul]
  · exact EReal.coe_ne_top _
  · exact EReal.coe_ne_bot _

/-- The word of minus infinity. -/
theorem ofBits_ninf : Ideal.ofBits .f32 0xFF800000#32 = ⊥ := by simp [Ideal.ofBits, Ideal.ieee]

end Cert.Attn

end
-- ==== Proof.Words.lean ====
/-
The reference's integer arithmetic on positions: rounding division by the block length and the remainder by the stride,
as printed, are the natural numbers' on positions as small as these.
-/
module

public import Idealize.ShloMosaic.Lib.Pointwise
public import Idealize.ShloMosaic.Lib.WordCmp

@[expose] public section

noncomputable section

namespace Cert.Attn

open Idealize.ShloMosaic

theorem msb_small {n : ℕ} (h : n < 2 ^ 31) : (BitVec.ofNat 32 n).msb = false := by
  rw [BitVec.msb_eq_false_iff_two_mul_lt, BitVec.toNat_ofNat]; omega

theorem ofNat_small {n : ℕ} (h : n < 2 ^ 31) : (BitVec.ofNat 32 n).toNat = n := by
  rw [BitVec.toNat_ofNat]; omega

theorem no_corner {n c : ℕ} (hc0 : 0 < c) (hc : c < 2 ^ 31) : ¬ IntOp.SDivCorner (BitVec.ofNat 32 n) (BitVec.ofNat 32 c) := by
  rintro (h | ⟨-, h⟩)
  · have := congrArg BitVec.toNat h
    rw [ofNat_small hc] at this
    have e : (0 : BitVec 32).toNat = 0 := by decide
    omega
  · have := congrArg BitVec.toNat h
    rw [ofNat_small hc] at this
    have e : (-1 : BitVec 32).toNat = 2 ^ 32 - 1 := by decide
    omega

/-- The quotient of small naturals, as words. -/
theorem divsi_small (u : ArithUnit) {n c : ℕ} (hn : n < 2 ^ 31) (hc0 : 0 < c) (hc : c < 2 ^ 31) :
    IntOp.divsi u (BitVec.ofNat 32 n) (BitVec.ofNat 32 c) = BitVec.ofNat 32 (n / c) := by
  have hd : n / c ≤ n := Nat.div_le_self _ _
  unfold IntOp.divsi
  rw [if_neg (no_corner hc0 hc), BitVec.sdiv_eq, msb_small hn, msb_small hc]
  refine BitVec.eq_of_toNat_eq ?_
  rw [ofNat_small (by omega)]
  show (BitVec.ofNat 32 n / BitVec.ofNat 32 c).toNat = _
  rw [BitVec.toNat_udiv, ofNat_small hn, ofNat_small hc]

/-- The remainder of small naturals, as words. -/
theorem remsi_small (u : ArithUnit) {n c : ℕ} (hn : n < 2 ^ 31) (hc0 : 0 < c) (hc : c < 2 ^ 31) :
    IntOp.remsi u (BitVec.ofNat 32 n) (BitVec.ofNat 32 c) = BitVec.ofNat 32 (n % c) := by
  have hd : n % c < c := Nat.mod_lt _ hc0
  unfold IntOp.remsi
  rw [if_neg (no_corner hc0 hc), BitVec.srem_eq, msb_small hn, msb_small hc]
  refine BitVec.eq_of_toNat_eq ?_
  rw [ofNat_small (by omega)]
  show (BitVec.ofNat 32 n % BitVec.ofNat 32 c).toNat = _
  rw [BitVec.toNat_umod, ofNat_small hn, ofNat_small hc]

/-- The sign of a word, as printed. -/
def sgn (x : BitVec 32) : BitVec 32 := if x = 0 then 0 else if x.msb then -1 else 1

/-- The rounding quotient by 64, as printed: the truncating one, less one when the signs differ and there is a remainder. -/
theorem floor_small {n : ℕ} (hn : n < 2 ^ 31) :
    Scalar.select (IntOp.andi (IntOp.cmpi .ne (sgn (BitVec.ofNat 32 n)) (sgn 64#32))
        (IntOp.cmpi .ne (IntOp.remsi .host (BitVec.ofNat 32 n) 64#32) 0#32))
      (IntOp.subi (IntOp.divsi .host (BitVec.ofNat 32 n) 64#32) 1#32) (IntOp.divsi .host (BitVec.ofNat 32 n) 64#32)
      = BitVec.ofNat 32 (n / 64) := by
  have e64 : (64#32 : BitVec 32) = BitVec.ofNat 32 64 := rfl
  have hd := divsi_small .host hn (c := 64) (by decide) (by decide)
  have hr := remsi_small .host hn (c := 64) (by decide) (by decide)
  rw [e64, hd, hr]
  rcases Nat.eq_zero_or_pos n with rfl | hp
  · simp [Scalar.select, IntOp.andi, IntOp.cmpi]
  · have h1 : sgn (BitVec.ofNat 32 n) = 1 := by
      unfold sgn
      rw [if_neg, msb_small hn]; · rfl
      intro h; have := congrArg BitVec.toNat h; rw [ofNat_small hn] at this
      have e : (0 : BitVec 32).toNat = 0 := by decide
      omega
    have h2 : sgn (BitVec.ofNat 32 64) = 1 := by decide
    rw [h1, h2]
    simp [Scalar.select, IntOp.andi, IntOp.cmpi]

/-- The divisor of the remainder as printed: one in place of zero, four here. -/
theorem four_sel : Scalar.select (IntOp.cmpi .eq 4#32 0#32) 1#32 4#32 = 4#32 := by decide

/-- The remainder by 4, as printed: the truncating one, plus the divisor when the signs differ and it is not zero. -/
theorem rem_small {n : ℕ} (hn : n < 2 ^ 31) :
    Scalar.select (IntOp.andi (IntOp.cmpi .ne (IntOp.cmpi .slt (IntOp.remsi .host (BitVec.ofNat 32 n) 4#32) 0#32) (IntOp.cmpi .slt 4#32 0#32))
        (IntOp.cmpi .ne (IntOp.remsi .host (BitVec.ofNat 32 n) 4#32) 0#32))
      (IntOp.addi (IntOp.remsi .host (BitVec.ofNat 32 n) 4#32) 4#32) (IntOp.remsi .host (BitVec.ofNat 32 n) 4#32)
      = BitVec.ofNat 32 (n % 4) := by
  have e4 : (4#32 : BitVec 32) = BitVec.ofNat 32 4 := rfl
  have hr := remsi_small .host hn (c := 4) (by decide) (by decide)
  rw [e4, hr]
  have h : n % 4 < 4 := Nat.mod_lt _ (by decide)
  generalize n % 4 = k at h
  revert h
  have : ∀ k : Fin 4, Scalar.select (IntOp.andi (IntOp.cmpi .ne (IntOp.cmpi .slt (BitVec.ofNat 32 k.val) 0#32) (IntOp.cmpi .slt (BitVec.ofNat 32 4) 0#32))
        (IntOp.cmpi .ne (BitVec.ofNat 32 k.val) 0#32))
      (IntOp.addi (BitVec.ofNat 32 k.val) (BitVec.ofNat 32 4)) (BitVec.ofNat 32 k.val) = BitVec.ofNat 32 k.val := by decide
  exact fun h => this ⟨k, h⟩

/-- Equality of small naturals, as words. -/
theorem cmpi_eq_small {a b : ℕ} (ha : a < 2 ^ 31) (hb : b < 2 ^ 31) :
    IntOp.cmpi .eq (BitVec.ofNat 32 a) (BitVec.ofNat 32 b) = if a = b then 1#1 else 0#1 := by
  by_cases h : a = b
  · subst h; simp [IntOp.cmpi]
  · rw [if_neg h]
    have : BitVec.ofNat 32 a ≠ BitVec.ofNat 32 b := fun hh => h (by
      have := congrArg BitVec.toNat hh; rwa [ofNat_small ha, ofNat_small hb] at this)
    have hbb : (BitVec.ofNat 32 a == BitVec.ofNat 32 b) = false := by simpa using this
    show BitVec.ofBool (BitVec.ofNat 32 a == BitVec.ofNat 32 b) = 0#1
    rw [hbb]; rfl

/-- A disjunction over a finite type one of whose members is one. -/
theorem fold_ori {ι : Type} [Fintype ι] [DecidableEq ι] (f : ι → BitVec 1) (z : BitVec 1) (i : ι) (h : f i = 1#1) :
    Finset.univ.fold (IntOp.ori : BitVec 1 → BitVec 1 → BitVec 1) z f = 1#1 := by
  have e : (Finset.univ : Finset ι) = insert i (Finset.univ.erase i) := (Finset.insert_erase (Finset.mem_univ i)).symm
  rw [e, Finset.fold_insert (Finset.notMem_erase _ _), h]
  have : ∀ y : BitVec 1, IntOp.ori 1#1 y = 1#1 := by decide
  exact this _

end Cert.Attn

end
-- ==== Proof.RefRead.lean ====
/-
The reference read at an index: its mask is the residue class, and each row of its context is a softmax over the keys of
the row's class.
-/
module

public import proofs.«01_k».proof.Proof.Gen.ReferenceIdeal.Read
public import proofs.«01_k».proof.Proof.Merge
public import proofs.«01_k».proof.Proof.Words

@[expose] public section

noncomputable section

namespace Cert.Attn

open Cert.ReferenceIdeal Cert.ReferenceIdeal.Gen Cert.ReferenceIdeal.Read
open Idealize.ShloMosaic

/-! ## The mathematics, over plain functions -/

/-- A query, a score, and the value of a key, from the global arrays. -/
def qv (X W : S1024x1024.Idx → EReal) (h : Fin 8) (I : Fin 1024) (e : Fin 128) : EReal :=
  ∑ k : Fin 1024, X (ix2 I k) * W (ix2 k (⟨h.val * 128 + e.val, by omega⟩ : Fin 1024))
def kvAt (K : S64x4x64x8x128.Idx → EReal) (J : Fin 16384) (h : Fin 8) (e : Fin 128) : EReal :=
  K (ix5 (⟨J.val / 256, by omega⟩ : Fin 64) (⟨J.val / 64 % 4, by omega⟩ : Fin 4) (⟨J.val % 64, by omega⟩ : Fin 64) h e)
def sc (X W : S1024x1024.Idx → EReal) (K : S64x4x64x8x128.Idx → EReal) (h : Fin 8) (I : Fin 1024) (J : Fin 16384) : EReal :=
  (∑ e : Fin 128, qv X W h I e * kvAt K J h e) * Ideal.ofBits .f32 0x3DB504F3#32
/-- A query's residue class. -/
def res (I : Fin 1024) : Fin 4 := ⟨I.val / 64 % 4, by omega⟩

theorem isR_sc {X W : S1024x1024.Idx → EReal} {K : S64x4x64x8x128.Idx → EReal} (hX : ∀ i, IsR (X i)) (hW : ∀ i, IsR (W i))
    (hK : ∀ i, IsR (K i)) (h : Fin 8) (I : Fin 1024) (J : Fin 16384) : IsR (sc X W K h I J) :=
  (IsR.sum fun e => (IsR.sum fun k => (hX _).mul (hW _)).mul (hK _)).mul isR_scale

/-! ## The mask -/

theorem ref_qb (i : S1024.Idx) : val_main_v5 (F := Ideal) i = BitVec.ofNat 32 ((i 0).val / 64) := by
  have hi : (i 0).val < 1024 := (i 0).isLt
  exact Eq.trans rfl (floor_small (n := (i 0).val) (by omega))

theorem ref_kb (i : S16384.Idx) : val_main_v8 (F := Ideal) i = BitVec.ofNat 32 ((i 0).val / 64) := by
  have hi : (i 0).val < 16384 := (i 0).isLt
  exact Eq.trans rfl (floor_small (n := (i 0).val) (by omega))

theorem ref_kr (i : S1x16384.Idx) : val_main_v13 (F := Ideal) i = BitVec.ofNat 32 ((i 1).val / 64 % 4) := by
  have hi : (i 1).val < 16384 := (i 1).isLt
  refine Eq.trans ?_ (rem_small (n := (i 1).val / 64) (by omega))
  have e : val_main_v9 (F := Ideal) i = BitVec.ofNat 32 ((i 1).val / 64) := by
    rw [val_main_v9_apply, ref_kb]
  have e4 : val_main_call2_v4 (F := Ideal) i = IntOp.remsi .host (BitVec.ofNat 32 ((i 1).val / 64)) 4#32 := by
    rw [val_main_call2_v4_apply, e]; rfl
  rw [val_main_v13_apply, val_main_call2_v12_apply, val_main_call2_v11_apply, val_main_call2_v8_apply, val_main_call2_v6_apply,
    val_main_call2_v14_apply, e4]
  rfl

theorem ref_qr (i : S1024x1.Idx) : val_main_v14 (F := Ideal) i = BitVec.ofNat 32 ((i 0).val / 64 % 4) := by
  have hi : (i 0).val < 1024 := (i 0).isLt
  refine Eq.trans ?_ (rem_small (n := (i 0).val / 64) (by omega))
  have e : val_main_v6 (F := Ideal) i = BitVec.ofNat 32 ((i 0).val / 64) := by
    rw [val_main_v6_apply, ref_qb]
  have e4 : val_main_call3_v4 (F := Ideal) i = IntOp.remsi .host (BitVec.ofNat 32 ((i 0).val / 64)) 4#32 := by
    rw [val_main_call3_v4_apply, e]; rfl
  rw [val_main_v14_apply, val_main_call3_v12_apply, val_main_call3_v11_apply, val_main_call3_v8_apply, val_main_call3_v6_apply,
    val_main_call3_v14_apply, e4]
  rfl

/-- The reference's mask is the residue class. -/
theorem ref_mask (I : Fin 1024) (J : Fin 16384) :
    val_main_v18 (F := Ideal) (ix2 I J) = if J.val / 64 % 4 = I.val / 64 % 4 then 1#1 else 0#1 := by
  rw [val_main_v18_apply, val_main_v12_apply, val_main_v17_apply, val_main_v10_apply, val_main_v11_apply, val_main_v15_apply,
    val_main_v16_apply, ref_kr, ref_qr, val_main_v6_apply, val_main_v9_apply, ref_qb, ref_kb]
  have h1 : IntOp.cmpi .eq (BitVec.ofNat 32 (I.val / 64)) (BitVec.ofNat 32 (J.val / 64)) = if I.val / 64 = J.val / 64 then 1#1 else 0#1 :=
    cmpi_eq_small (by omega) (by omega)
  have h2 : IntOp.cmpi .eq (BitVec.ofNat 32 (J.val / 64 % 4)) (BitVec.ofNat 32 (I.val / 64 % 4))
      = if J.val / 64 % 4 = I.val / 64 % 4 then 1#1 else 0#1 := cmpi_eq_small (by omega) (by omega)
  refine Eq.trans (congrArg₂ IntOp.ori h1 h2) ?_
  by_cases a : I.val / 64 = J.val / 64
  · rw [if_pos a, if_pos (by rw [a])]; rfl
  · rw [if_neg a]; split_ifs <;> rfl

/-- Every row has a key. -/
theorem ref_keep (i : S1024.Idx) : val_main_v29 (F := Ideal) i = 1#1 := by
  have hi : (i 0).val < 1024 := (i 0).isLt
  pointwise [val_main_v29]
  refine fold_ori _ _ (key 0 (res (i 0)) 0) ?_
  refine (ref_mask (i 0) _).trans (if_pos ?_)
  show (0 * 4096 + (0 / 64 * 4 + (i 0).val / 64 % 4) * 64 + 0 % 64) / 64 % 4 = (i 0).val / 64 % 4
  omega

/-! ## The scores -/

variable (X W : S1024x1024.Idx → EReal) (K V : S64x4x64x8x128.Idx → EReal) (O : S1024x1024.Idx → EReal)

theorem ref_key (J : Fin 16384) (h : Fin 8) (e : Fin 128) : val_main_v0 (F := Ideal) K (ix3 J h e) = kvAt K J h e := by
  pointwise [val_main_v0]; unfold kvAt; rfl

theorem ref_val (J : Fin 16384) (h : Fin 8) (e : Fin 128) : val_main_v1 (F := Ideal) V (ix3 J h e) = kvAt V J h e := ref_key V J h e

theorem ref_query (I : Fin 1024) (h : Fin 8) (e : Fin 128) : val_main_v3 (F := Ideal) X W (ix3 I h e) = qv X W h I e := by
  pointwise [val_main_v3, val_main_v2, dot_S1024x1024_S1024x1024_S1024x1024_1_0_0_1_n_n]; unfold qv; rfl

theorem ref_score (h : Fin 8) (I : Fin 1024) (J : Fin 16384) : val_main_v21 (F := Ideal) X W K (ix3 h I J) = sc X W K h I J := by
  pointwise [val_main_v21, val_main_v19, val_main_v20, val_main_cst, dot_S1024x8x128_S16384x8x128_S8x1024x16384_2_2_0_0_1_1, ref_query, ref_key]
  unfold sc
  rfl

/-- The masked score: minus infinity outside the row's class. -/
def msc (h : Fin 8) (I : Fin 1024) (J : Fin 16384) : EReal := if J.val / 64 % 4 = I.val / 64 % 4 then sc X W K h I J else ⊥

theorem ref_masked (h : Fin 8) (I : Fin 1024) (J : Fin 16384) : val_main_v23 (F := Ideal) X W K (ix3 h I J) = msc X W K h I J := by
  have hm : val_main_call4_v1 (F := Ideal) (ix3 h I J) = val_main_v18 (F := Ideal) (ix2 I J) := by
    rw [val_main_call4_v1_apply, val_main_v22_apply]
    exact congrArg _ (funext fun a => by fin_cases a <;> rfl)
  rw [val_main_v23_apply, hm, ref_mask, ref_score]
  have hb : val_main_call4_v2 (F := Ideal) (ix3 h I J) = ⊥ := ofBits_ninf
  rw [hb]
  unfold msc Scalar.select
  by_cases h1 : J.val / 64 % 4 = I.val / 64 % 4
  · rw [if_pos h1, if_pos h1, if_pos (by decide)]
  · rw [if_neg h1, if_neg h1, if_neg (by decide)]

/-- The reference point of the reference's softmax: the row's greatest masked score. -/
def rmx (h : Fin 8) (I : Fin 1024) : EReal := Finset.univ.fold max ⊥ fun J => msc X W K h I J

theorem ref_max (h : Fin 8) (I : Fin 1024) : val_main_v24 (F := Ideal) X W K (ix2 h I) = rmx X W K h I := by
  pointwise [val_main_v24, val_main_cst_4, ref_masked]
  unfold rmx
  rw [ofBits_ninf]

/-- The reference's weights before they are divided by their sum. -/
theorem ref_exp (h : Fin 8) (I : Fin 1024) (J : Fin 16384) :
    val_main_v28 (F := Ideal) X W K (ix3 h I J) = Ideal.exp (msc X W K h I J - rmx X W K h I) := by
  pointwise [val_main_v28, val_main_v27, val_main_v26, val_main_v25, ref_max, ref_masked]

theorem ref_sum (h : Fin 8) (I : Fin 1024) :
    val_main_v31 (F := Ideal) X W K (ix2 h I) = ∑ J : Fin 16384, Ideal.exp (msc X W K h I J - rmx X W K h I) := by
  pointwise [val_main_v31, val_main_cst_6, ref_exp]

theorem sel_one {α : Type} (a b : α) : Scalar.select 1#1 a b = a := if_pos rfl

theorem ref_weight (h : Fin 8) (I : Fin 1024) (J : Fin 16384) :
    val_main_v37 (F := Ideal) X W K (ix3 h I J)
      = Ideal.div (Ideal.exp (msc X W K h I J - rmx X W K h I)) (∑ J : Fin 16384, Ideal.exp (msc X W K h I J - rmx X W K h I)) := by
  have k1 : val_main_call6_v1 (F := Ideal) (ix3 h I J) = 1#1 := by
    rw [val_main_call6_v1_apply, val_main_v36_apply, ref_keep]
  have k2 : ∀ i, val_main_call5_v1 (F := Ideal) i = 1#1 := fun i => by
    rw [val_main_call5_v1_apply, val_main_v30_apply, ref_keep]
  have e1 : idx_main_v32 (idx_main_v34 (ix3 h I J)) = ix2 h I := funext fun a => by fin_cases a <;> rfl
  rw [val_main_v37_apply, k1, sel_one, val_main_v35_apply, ref_exp, val_main_v34_apply, val_main_v33_apply, k2, sel_one, val_main_v32_apply,
    e1, ref_sum, Ideal.hostDivf_def]

/-- The reference's context. -/
theorem ref_ctx (I x : Fin 1024) :
    val_main_v40 (F := Ideal) X W K V (ix2 I x)
      = ∑ J : Fin 16384, kvAt V J ⟨x.val / 128, by omega⟩ ⟨x.val % 128, by omega⟩
          * Ideal.div (Ideal.exp (msc X W K ⟨x.val / 128, by omega⟩ I J - rmx X W K ⟨x.val / 128, by omega⟩ I))
              (∑ J : Fin 16384, Ideal.exp (msc X W K ⟨x.val / 128, by omega⟩ I J - rmx X W K ⟨x.val / 128, by omega⟩ I)) := by
  pointwise [val_main_v40, val_main_v39, val_main_v38, dot_S16384x8x128_S8x1024x16384_S8x128x1024_0_2_2_1_1_0, ref_val, ref_weight]

theorem ref_out (I c : Fin 1024) :
    val_main_v41 (F := Ideal) X W K V O (ix2 I c) = ∑ x : Fin 1024, val_main_v40 (F := Ideal) X W K V (ix2 I x) * O (ix2 x c) := by
  pointwise [val_main_v41, dot_S1024x1024_S1024x1024_S1024x1024_1_0_0_1_n_n]

end Cert.Attn

end
-- ==== Proof.Pays.lean ====
/-
The kernel's result read at an index, in terms of the global arrays: each device's partial sums, row maxima and row sums
over its own keys, and the merged context.
-/
module

public import proofs.«01_k».proof.Proof.Contents
public import proofs.«01_k».proof.Proof.RefRead

@[expose] public section

noncomputable section

namespace Cert.Attn

open Cert.KernelIdeal Cert.KernelIdeal.Gen
open Idealize.ShloMosaic

variable (m : (ℓ : Loc nD τ sig) → Buf (Elt Ideal) ℓ)

/-- The global row of the `y`th query of residue `r`. -/
def qrow (r : Fin 4) (y : Fin 256) : Fin 1024 := ⟨y.val / 64 * 256 + r.val * 64 + y.val % 64, by omega⟩

/-- The devices' arrays are blocks of the global ones. -/
structure Blocks (X W : S1024x1024.Idx → EReal) (K V : (⟨5, ![64, 4, 64, 8, 128]⟩ : Shape).Idx → EReal) (O : S1024x1024.Idx → EReal) : Prop where
  hx : ∀ (D : Fin 4) (a : Fin 256) (k : Fin 1024), xstg m D (ix2 a k) = X (ix2 (⟨D.val * 256 + a.val, by omega⟩ : Fin 1024) k)
  hw : ∀ (s : Fin 4) (a k : Fin 1024), wstg m s (ix2 a k) = W (ix2 a k)
  hk : ∀ (s : Fin 4) (a : Fin 16) (b : Fin 4) (t : Fin 64) (h : Fin 8) (e : Fin 128),
    karr m s (ix5 a b t h e) = K (ix5 (⟨s.val * 16 + a.val, by omega⟩ : Fin 64) b t h e)
  hv : ∀ (s : Fin 4) (a : Fin 16) (b : Fin 4) (t : Fin 64) (h : Fin 8) (e : Fin 128),
    varr m s (ix5 a b t h e) = V (ix5 (⟨s.val * 16 + a.val, by omega⟩ : Fin 64) b t h e)
  ho : ∀ (s : Fin 4) (a k : Fin 1024), ostg m s (ix2 a k) = O (ix2 a k)

variable {X W O : S1024x1024.Idx → EReal} {K V : (⟨5, ![64, 4, 64, 8, 128]⟩ : Shape).Idx → EReal}
variable {m} (B : Blocks m X W K V O)
include B

theorem ker_x (D : Fin 4) (a : Fin 256) (k : Fin 1024) : XG m (ix3 D a k) = X (ix2 (⟨D.val * 256 + a.val, by omega⟩ : Fin 1024) k) := by
  refine Eq.trans ?_ (B.hx D a k)
  show k0_pay28 (xstg m D) (ValueIdx.ix2 a k) = _
  rw [← ix2_eq_valueIdx]
  pointwise [k0_pay28]

theorem ker_w (s : Fin 4) (h : Fin 8) (k : Fin 1024) (e : Fin 128) :
    wqh m s h (ix2 k e) = W (ix2 k (⟨h.val * 128 + e.val, by omega⟩ : Fin 1024)) := by
  refine Eq.trans ?_ (B.hw s k _)
  show wstg m s (ValueIdx.ix2 k _) = _
  rw [← ix2_eq_valueIdx]
  refine congrArg _ (congrArg _ (Fin.ext ?_))
  show 128 * h.val + e.val = h.val * 128 + e.val
  omega

theorem ker_query (s : Fin 4) (h : Fin 8) (r : Fin 4) (y : Fin 256) (e : Fin 128) :
    k0_pay1 (qch m (wqh m s h) r) (ix2 y e) = qv X W h (qrow r y) e := by
  unfold qv
  have hrow : ∀ (A : ℕ) (h1 h2) (k : Fin 1024), A = y.val / 64 * 256 + r.val * 64 + y.val % 64 →
      XG m (ix3 (⟨A / 256, h1⟩ : Fin 4) (⟨A % 256, h2⟩ : Fin 256) k) = X (ix2 (qrow r y) k) := by
    intro A h1 h2 k ha
    rw [ker_x B]
    refine congrArg X (congrArg (fun z => ix2 z k) (Fin.ext ?_))
    show A / 256 * 256 + A % 256 = y.val / 64 * 256 + r.val * 64 + y.val % 64
    omega
  have hr : ∀ r : Fin 4, r = 0 ∨ r = 1 ∨ r = 2 ∨ r = 3 := by decide
  rcases hr r with rfl | rfl | rfl | rfl
  all_goals
    pointwise [k0_pay1, qch, k0_pay31, k0_pay32, k0_pay33, k0_pay34, k0_pay35, k0_pay30, k0_pay29, dot_S1024x1024_S1024x128_S1024x128_1_0_0_1_n_n]
    refine Finset.sum_congr rfl fun k _ => ?_
    rw [ker_w B]
    exact congrArg (· * _) (hrow _ _ _ k (by first | rfl | (simp only [Fin.val_zero, Fin.val_one, Fin.val_two]; omega) | (show _ = _ + 3 * 64 + _; omega)))

omit B in
theorem kv_block {A : (⟨5, ![16, 4, 64, 8, 128]⟩ : Shape).Idx → EReal} {G : (⟨5, ![64, 4, 64, 8, 128]⟩ : Shape).Idx → EReal} (s : Fin 4)
    (hA : ∀ (a : Fin 16) (b : Fin 4) (t : Fin 64) (h : Fin 8) (e : Fin 128), A (ix5 a b t h e) = G (ix5 (⟨s.val * 16 + a.val, by omega⟩ : Fin 64) b t h e))
    (r : Fin 4) (h : Fin 8) (j : Fin 1024) (e : Fin 128) :
    hdr (F := Ideal) A h r (ix5 (0 : Fin 1) (⟨j.val / 64, by omega⟩ : Fin 16) (0 : Fin 1) (⟨j.val % 64, by omega⟩ : Fin 64) e) = kvAt G (key s r j) h e := by
  refine (Eq.trans ?_ (hA (⟨j.val / 64, by omega⟩ : Fin 16) r (⟨j.val % 64, by omega⟩ : Fin 64) h e)).trans ?_
  · exact congrArg A (funext fun q => by fin_cases q <;> rfl)
  · unfold kvAt key
    have e1 : (⟨(s.val * 4096 + (j.val / 64 * 4 + r.val) * 64 + j.val % 64) / 256, by omega⟩ : Fin 64) = ⟨s.val * 16 + j.val / 64, by omega⟩ :=
      Fin.ext (by show (s.val * 4096 + (j.val / 64 * 4 + r.val) * 64 + j.val % 64) / 256 = s.val * 16 + j.val / 64; omega)
    have e2 : (⟨(s.val * 4096 + (j.val / 64 * 4 + r.val) * 64 + j.val % 64) / 64 % 4, by omega⟩ : Fin 4) = r :=
      Fin.ext (by show (s.val * 4096 + (j.val / 64 * 4 + r.val) * 64 + j.val % 64) / 64 % 4 = r.val; omega)
    have e3 : (⟨(s.val * 4096 + (j.val / 64 * 4 + r.val) * 64 + j.val % 64) % 64, by omega⟩ : Fin 64) = ⟨j.val % 64, by omega⟩ :=
      Fin.ext (by show (s.val * 4096 + (j.val / 64 * 4 + r.val) * 64 + j.val % 64) % 64 = j.val % 64; omega)
    rw [e1, e2, e3]

theorem ker_key (s r : Fin 4) (h : Fin 8) (j : Fin 1024) (e : Fin 128) :
    k0_pay2 (hdr (karr m s) h r) (ix2 j e) = kvAt K (key s r j) h e := by
  pointwise [k0_pay2]
  exact kv_block s (B.hk s) r h j e

theorem ker_val (s r : Fin 4) (h : Fin 8) (j : Fin 1024) (e : Fin 128) :
    k0_pay3 (hdr (varr m s) h r) (ix3 (⟨j.val / 64, by omega⟩ : Fin 16) (⟨j.val % 64, by omega⟩ : Fin 64) e) = kvAt V (key s r j) h e := by
  pointwise [k0_pay3]
  exact kv_block s (B.hv s) r h j e

/-- The scores a device computes are the global ones at its own keys. -/
theorem ker_score (s r : Fin 4) (h : Fin 8) (y : Fin 256) (j : Fin 1024) :
    k0_pay4 (k0_pay1 (qch m (wqh m s h) r)) (k0_pay2 (hdr (karr m s) h r)) (ix2 y j) = sc X W K h (qrow r y) (key s r j) := by
  pointwise [k0_pay4, dot_S256x128_S1024x128_S256x1024_1_1_0_0_n_n]
  unfold sc
  simp only [ker_query B, ker_key B]

omit B in
variable (X W K) in
/-- A device's greatest score of one query over its keys of one residue. -/
def pmx (h : Fin 8) (I : Fin 1024) (r s : Fin 4) : EReal := Finset.univ.fold max ⊥ fun j : Fin 1024 => sc X W K h I (key s r j)

omit B in
variable (X W K) in
/-- A device's weight of one of its keys, around its own greatest score. -/
def pex (h : Fin 8) (I : Fin 1024) (r s : Fin 4) (j : Fin 1024) : EReal := Ideal.exp (sc X W K h I (key s r j) - pmx X W K h I r s)

theorem ker_max (s r : Fin 4) (h : Fin 8) (y : Fin 256) :
    k0_pay5 (k0_pay1 (qch m (wqh m s h) r)) (k0_pay2 (hdr (karr m s) h r)) (ix2 y (0 : Fin 1)) = pmx X W K h (qrow r y) r s := by
  pointwise [k0_pay5]
  simp only [ker_score B]
  unfold pmx
  rw [ofBits_ninf]

theorem ker_exp (s r : Fin 4) (h : Fin 8) (y : Fin 256) (j : Fin 1024) :
    k0_pay6 (k0_pay1 (qch m (wqh m s h) r)) (k0_pay2 (hdr (karr m s) h r)) (ix2 y j) = pex X W K h (qrow r y) r s j := by
  pointwise [k0_pay6]
  rw [ker_score B, ker_max B]
  rfl

theorem ker_av (s r : Fin 4) (h : Fin 8) (D : Fin 4) (t : Fin 64) (e : Fin 128) :
    AV m s h r (ix5 D (0 : Fin 1) (0 : Fin 1) t e)
      = ∑ j : Fin 1024, pex X W K h (qrow r (⟨D.val * 64 + t.val, by omega⟩ : Fin 256)) r s j * kvAt V (key s r j) h e := by
  pointwise [AV, k0_pay7, dot_S256x1024_S1024x128_S256x128_1_0_0_1_n_n]
  refine Finset.sum_congr rfl fun j _ => ?_
  rw [ker_exp B, ker_val B]

theorem ker_sv0 (s r : Fin 4) (h : Fin 8) (D : Fin 4) (t : Fin 64) :
    SV m s h r (ix5 D (0 : Fin 1) (0 : Fin 1) t (0 : Fin 2)) = pmx X W K h (qrow r (⟨D.val * 64 + t.val, by omega⟩ : Fin 256)) r s := by
  pointwise [SV, k0_pay8]
  rw [ker_max B]

theorem ker_sv1 (s r : Fin 4) (h : Fin 8) (D : Fin 4) (t : Fin 64) :
    SV m s h r (ix5 D (0 : Fin 1) (0 : Fin 1) t (1 : Fin 2))
      = ∑ j : Fin 1024, pex X W K h (qrow r (⟨D.val * 64 + t.val, by omega⟩ : Fin 256)) r s j := by
  pointwise [SV, k0_pay8]
  refine Finset.sum_congr rfl fun j _ => ?_
  rw [ker_exp B]

/-! ## The merged context -/

theorem ker_rb (d : Fin 4) (hh : Fin 2) (s a r : Fin 4) (t : Fin 64) (e : Fin 128) :
    rbh m d hh (ix5 s a r t e) = ∑ j : Fin 1024, pex X W K (hf hh a) (qrow r (⟨d.val * 64 + t.val, by omega⟩ : Fin 256)) r s j
      * kvAt V (key s r j) (hf hh a) e := by
  refine Eq.trans ?_ (ker_av B s r (hf hh a) d t e)
  exact congrArg (AV m s (hf hh a) r) (funext fun q => by fin_cases q <;> rfl)

theorem ker_rs0 (d : Fin 4) (hh : Fin 2) (s a r : Fin 4) (t : Fin 64) :
    rsh m d hh (ix5 s a r t (0 : Fin 2)) = pmx X W K (hf hh a) (qrow r (⟨d.val * 64 + t.val, by omega⟩ : Fin 256)) r s := by
  refine Eq.trans ?_ (ker_sv0 B s r (hf hh a) d t)
  exact congrArg (SV m s (hf hh a) r) (funext fun q => by fin_cases q <;> rfl)

theorem ker_rs1 (d : Fin 4) (hh : Fin 2) (s a r : Fin 4) (t : Fin 64) :
    rsh m d hh (ix5 s a r t (1 : Fin 2)) = ∑ j : Fin 1024, pex X W K (hf hh a) (qrow r (⟨d.val * 64 + t.val, by omega⟩ : Fin 256)) r s j := by
  refine Eq.trans ?_ (ker_sv1 B s r (hf hh a) d t)
  exact congrArg (SV m s (hf hh a) r) (funext fun q => by fin_cases q <;> rfl)

theorem ker_wo (d : Fin 4) (hh : Fin 2) (x : Fin 512) (c : Fin 1024) :
    woh m d hh (ix2 x c) = O (ix2 (⟨512 * hh.val + x.val, by omega⟩ : Fin 1024) c) := by
  refine Eq.trans ?_ (B.ho d _ c)
  exact congrArg (ostg m d) (funext fun q => by fin_cases q <;> rfl)

omit B in
variable (X W K V) in
/-- The context the kernel merges: of one head, query and residue class, at one column. -/
def kctx (h : Fin 8) (I : Fin 1024) (r : Fin 4) (e : Fin 128) : EReal :=
  Ideal.div
    (∑ s : Fin 4, Ideal.exp (pmx X W K h I r s - Finset.univ.fold max ⊥ fun s' : Fin 4 => pmx X W K h I r s')
      * ∑ j : Fin 1024, pex X W K h I r s j * kvAt V (key s r j) h e)
    (∑ s : Fin 4, Ideal.exp (pmx X W K h I r s - Finset.univ.fold max ⊥ fun s' : Fin 4 => pmx X W K h I r s')
      * ∑ j : Fin 1024, pex X W K h I r s j)

omit B in
/-- The global row of device `d`'s row `y`. -/
def grow (d : Fin 4) (y : Fin 256) : Fin 1024 := ⟨d.val * 256 + y.val, by omega⟩

omit B in
theorem grow_qrow (d : Fin 4) (y : Fin 256) (t : Fin 64) (ht : t.val = y.val % 64) :
    qrow (res (grow d y)) (⟨d.val * 64 + t.val, by omega⟩ : Fin 256) = grow d y := by
  refine Fin.ext ?_
  show (d.val * 64 + t.val) / 64 * 256 + (d.val * 256 + y.val) / 64 % 4 * 64 + (d.val * 64 + t.val) % 64 = d.val * 256 + y.val
  omega

/-- One half of the heads: the merged contexts of its four heads, times its rows of the output weights. -/
theorem ker_half (d : Fin 4) (hh : Fin 2) (y : Fin 256) (c : Fin 1024) :
    k0_pay81 (rbh m d hh) (rsh m d hh) (woh m d hh) (ix2 y c)
      = ∑ x : Fin 512, kctx X W K V (hf hh (⟨x.val / 128, by omega⟩ : Fin 4)) (grow d y) (res (grow d y)) (⟨x.val % 128, by omega⟩ : Fin 128)
          * O (ix2 (⟨512 * hh.val + x.val, by omega⟩ : Fin 1024) c) := by
  pointwise [k0_pay81, dot_S256x512_S512x1024_S256x1024_1_0_0_1_n_n]
  refine Finset.sum_congr rfl fun x _ => ?_
  have ea : ∀ h', (⟨(x.val / 128 * 256 + y.val) / 256, h'⟩ : Fin 4) = ⟨x.val / 128, by omega⟩ := fun h' => Fin.ext (by
    show (x.val / 128 * 256 + y.val) / 256 = x.val / 128; omega)
  have er : ∀ h', (⟨(x.val / 128 * 256 + y.val) / 64 % 4, h'⟩ : Fin 4) = res (grow d y) := fun h' => Fin.ext (by
    show (x.val / 128 * 256 + y.val) / 64 % 4 = (d.val * 256 + y.val) / 64 % 4; omega)
  have et : ∀ h', (⟨(x.val / 128 * 256 + y.val) % 64, h'⟩ : Fin 64) = ⟨y.val % 64, by omega⟩ := fun h' => Fin.ext (by
    show (x.val / 128 * 256 + y.val) % 64 = y.val % 64; omega)
  have eg := grow_qrow d y (⟨y.val % 64, by omega⟩ : Fin 64) rfl
  simp only [ea, er, et, ker_rb B, ker_rs0 B, ker_rs1 B, ker_wo B, ofBits_ninf]
  simp only [eg]
  rfl

/-- The kernel's result, at an index. -/
theorem ker_out (d : Fin 4) (y : Fin 256) (c : Fin 1024) :
    out m d (ix2 y c)
      = (∑ x : Fin 512, kctx X W K V (hf 0 (⟨x.val / 128, by omega⟩ : Fin 4)) (grow d y) (res (grow d y)) (⟨x.val % 128, by omega⟩ : Fin 128)
          * O (ix2 (⟨512 * (0 : Fin 2).val + x.val, by have : (0 : Fin 2).val = 0 := rfl; omega⟩ : Fin 1024) c))
        + ∑ x : Fin 512, kctx X W K V (hf 1 (⟨x.val / 128, by omega⟩ : Fin 4)) (grow d y) (res (grow d y)) (⟨x.val % 128, by omega⟩ : Fin 128)
          * O (ix2 (⟨512 * (1 : Fin 2).val + x.val, by have : (1 : Fin 2).val = 1 := rfl; omega⟩ : Fin 1024) c) := by
  rw [← ker_half B, ← ker_half B]
  rfl

end Cert.Attn
end
-- ==== Proof.Value.lean ====
/-
The kernel's result is the reference's: at finite queries, query weights and keys, the merged context of every row is the
row's softmax, whatever the values and the output weights hold.
-/
module

public import proofs.«01_k».proof.Proof.Pays

@[expose] public section

noncomputable section

namespace Cert.Attn

open Cert.KernelIdeal Cert.KernelIdeal.Gen
open Idealize.ShloMosaic

variable {X W O : S1024x1024.Idx → EReal} {K V : (⟨5, ![64, 4, 64, 8, 128]⟩ : Shape).Idx → EReal}

/-- A key of the row's class has its score. -/
theorem msc_key (h : Fin 8) (I : Fin 1024) (s : Fin 4) (j : Fin 1024) : msc X W K h I (key s (res I) j) = sc X W K h I (key s (res I) j) := by
  unfold msc
  refine if_pos ?_
  show (s.val * 4096 + (j.val / 64 * 4 + I.val / 64 % 4) * 64 + j.val % 64) / 64 % 4 = I.val / 64 % 4
  omega

/-- A key outside it has none. -/
theorem msc_off (h : Fin 8) (I : Fin 1024) (J : Fin 16384) (hJ : J.val / 64 % 4 ≠ (res I).val) : msc X W K h I J = ⊥ := by
  unfold msc
  exact if_neg hJ

/-- The merged context is the reference's. -/
theorem kctx_eq (hX : ∀ i, IsR (X i)) (hW : ∀ i, IsR (W i)) (hK : ∀ i, IsR (K i)) (h : Fin 8) (I : Fin 1024) (e : Fin 128) :
    kctx X W K V h I (res I) e
      = ∑ J : Fin 16384, kvAt V J h e * Ideal.div (Ideal.exp (msc X W K h I J - rmx X W K h I))
          (∑ J : Fin 16384, Ideal.exp (msc X W K h I J - rmx X W K h I)) := by
  have hsc := isR_sc hX hW hK h I
  obtain ⟨M, hM⟩ : IsR (rmx X W K h I) := by
    refine isR_fold _ (fun J => ?_) (key 0 (res I) 0) ?_
    · unfold msc; split_ifs
      · obtain ⟨x, hx⟩ := hsc J; rw [hx]; exact EReal.coe_ne_top x
      · exact bot_ne_top
    · obtain ⟨x, hx⟩ := hsc (key 0 (res I) 0); rw [msc_key, hx]; exact EReal.coe_ne_bot x
  choose σ hσ using fun (s : Fin 4) (j : Fin 1024) => hsc (key s (res I) j)
  have hμ' : ∀ s, IsR (pmx X W K h I (res I) s) := fun s => by
    refine isR_fold _ (fun j => ?_) 0 ?_
    · rw [hσ]; exact EReal.coe_ne_top _
    · rw [hσ]; exact EReal.coe_ne_bot _
  choose μ hμ using hμ'
  obtain ⟨γ, hγ⟩ : IsR (Finset.univ.fold max ⊥ fun s : Fin 4 => pmx X W K h I (res I) s) := by
    refine isR_fold _ (fun s => ?_) 0 ?_
    · rw [hμ]; exact EReal.coe_ne_top _
    · rw [hμ]; exact EReal.coe_ne_bot _
  have hl : kctx X W K V h I (res I) e
      = Ideal.div (∑ s, Ideal.exp ((μ s : EReal) - γ) * (∑ j, Ideal.exp ((σ s j : EReal) - μ s) * kvAt V (key s (res I) j) h e))
        (∑ s, Ideal.exp ((μ s : EReal) - γ) * (∑ j, Ideal.exp ((σ s j : EReal) - μ s))) := by
    unfold kctx pex
    rw [hγ]
    simp only [hμ, hσ]
  have hin : ∀ s j, Ideal.exp (msc X W K h I (key s (res I) j) - rmx X W K h I) = Ideal.exp ((σ s j : EReal) - M) := fun s j => by
    rw [msc_key, hσ, hM]
  have hout : ∀ J : Fin 16384, J.val / 64 % 4 ≠ (res I).val → Ideal.exp (msc X W K h I J - rmx X W K h I) = 0 := fun J hJ => by
    rw [msc_off h I J hJ, EReal.bot_sub]; rfl
  have hden : (∑ J : Fin 16384, Ideal.exp (msc X W K h I J - rmx X W K h I)) = ∑ s, ∑ j, Ideal.exp ((σ s j : EReal) - M) := by
    rw [sum_class (res I) (fun J => Ideal.exp (msc X W K h I J - rmx X W K h I)) hout]
    simp only [hin]
  have hreal : (∑ s, ∑ j, Ideal.exp ((σ s j : EReal) - M)) = ((∑ s, ∑ j, Real.exp (σ s j - M) : ℝ) : EReal) := by
    simp only [exp_sub, coe_sum]
  have hpos : 0 < ∑ s : Fin 4, ∑ j : Fin 1024, Real.exp (σ s j - M) :=
    Finset.sum_pos (fun s _ => Finset.sum_pos (fun j _ => Real.exp_pos _) Finset.univ_nonempty) Finset.univ_nonempty
  rw [hl, merge μ γ M σ (fun s j => kvAt V (key s (res I) j) h e), hden]
  symm
  rw [sum_class (res I) (fun J => kvAt V J h e * Ideal.div (Ideal.exp (msc X W K h I J - rmx X W K h I)) (∑ s, ∑ j, Ideal.exp ((σ s j : EReal) - M)))
    (fun J hJ => by
      show kvAt V J h e * Ideal.div (Ideal.exp (msc X W K h I J - rmx X W K h I)) (∑ s, ∑ j, Ideal.exp ((σ s j : EReal) - M)) = 0
      rw [hout J hJ, hreal, Ideal.div_coe hpos.ne', zero_mul, mul_zero])]
  simp only [hin]

/-- A sum over 1024 columns is the sum over the two halves. -/
theorem sum_halves (f : Fin 1024 → EReal) :
    ∑ x, f x = (∑ x : Fin 512, f ⟨512 * (0 : Fin 2).val + x.val, by have : (0 : Fin 2).val = 0 := rfl; omega⟩)
      + ∑ x : Fin 512, f ⟨512 * (1 : Fin 2).val + x.val, by have : (1 : Fin 2).val = 1 := rfl; omega⟩ := by
  refine (Fin.sum_univ_add (a := 512) (b := 512) f).trans (congrArg₂ (· + ·) ?_ ?_)
  · refine Finset.sum_congr rfl fun x _ => congrArg f (Fin.ext ?_)
    show x.val = 512 * 0 + x.val
    omega
  · refine Finset.sum_congr rfl fun x _ => congrArg f (Fin.ext ?_)
    show 512 + x.val = 512 * 1 + x.val
    omega

variable {m : (ℓ : Loc nD τ sig) → Buf (Elt Ideal) ℓ}

/-- Each device's result is its rows of the reference's. -/
theorem out_eq (B : Blocks m X W K V O) (hX : ∀ i, IsR (X i)) (hW : ∀ i, IsR (W i)) (hK : ∀ i, IsR (K i)) (d : Fin 4) (y : Fin 256)
    (c : Fin 1024) : out m d (ix2 y c) = Cert.ReferenceIdeal.Read.val_main_v41 (F := Ideal) X W K V O (ix2 (grow d y) c) := by
  rw [ker_out B, ref_out, sum_halves]
  refine congrArg₂ (· + ·) (Finset.sum_congr rfl fun x _ => congrArg (· * _) ?_) (Finset.sum_congr rfl fun x _ => congrArg (· * _) ?_)
  all_goals
    rw [kctx_eq hX hW hK, ref_ctx]
  · have e1 : (⟨(512 * (0 : Fin 2).val + x.val) / 128, by have : (0 : Fin 2).val = 0 := rfl; omega⟩ : Fin 8) = hf 0 ⟨x.val / 128, by omega⟩ :=
      Fin.ext (by show (512 * 0 + x.val) / 128 = 4 * 0 + x.val / 128; omega)
    have e2 : (⟨(512 * (0 : Fin 2).val + x.val) % 128, by omega⟩ : Fin 128) = ⟨x.val % 128, by omega⟩ :=
      Fin.ext (by show (512 * 0 + x.val) % 128 = x.val % 128; omega)
    rw [e1, e2]
  · have e1 : (⟨(512 * (1 : Fin 2).val + x.val) / 128, by have : (1 : Fin 2).val = 1 := rfl; omega⟩ : Fin 8) = hf 1 ⟨x.val / 128, by omega⟩ :=
      Fin.ext (by show (512 * 1 + x.val) / 128 = 4 * 1 + x.val / 128; omega)
    have e2 : (⟨(512 * (1 : Fin 2).val + x.val) % 128, by omega⟩ : Fin 128) = ⟨x.val % 128, by omega⟩ :=
      Fin.ext (by show (512 * 1 + x.val) % 128 = x.val % 128; omega)
    rw [e1, e2]

end Cert.Attn
end
-- ==== Proof.Algebraic.lean ====
/-
The value claim: from memories whose arrays are the blocks of the reference's, the kernel ends with the blocks of the
reference's result, when the queries' rows, the query weights and the keys are finite.
-/
module

public import proofs.«01_k».proof.Proof.Frames
public import proofs.«01_k».proof.Proof.Value
public import Idealize.ShloMosaic.Lib.ReduceAll
public import Idealize.ShloMosaic.Lib.WordCmp

@[expose] public section

noncomputable section

namespace Cert.Attn

open Idealize.ShloMosaic Idealize.SL.Sem

/-! ## The precondition's side conditions, and what it says -/

theorem pre_facts_kernel : Cert.Pre_finite_scores_KernelIdeal.Facts := by constructor <;> decide
theorem pre_facts_reference : Cert.Pre_finite_scores_ReferenceIdeal.Facts := by constructor <;> decide

/-- An element whose absolute value compares below infinity is a real number. -/
theorem isR_of_abs {x : EReal} (h : Ideal.cmp .olt (max x (-x)) (Ideal.ofBits .f32 0x7F800000#32) = 1#1) : IsR x := by
  have htop : Ideal.ofBits .f32 0x7F800000#32 = ⊤ := by simp [Ideal.ofBits, Ideal.ieee]
  have hlt : max x (-x) < ⊤ := by
    have h' : BitVec.ofBool (decide (max x (-x) < Ideal.ofBits .f32 0x7F800000#32)) = 1#1 := h
    rw [htop] at h'
    exact (Idealize.ShloMosaic.WordCmp.ofBool_decide_eq_one_iff _).mp h'
  refine IsR.of_ne (fun e => ?_) (fun e => ?_) <;> subst e <;> simp at hlt

/-- Every element of an array is a real number, when all of them compare so. -/
theorem isR_all {s u : Shape} {axes : List (Fin s.rank)} (x : s.Idx → EReal) (y : s.Idx → EReal) (init : u.Idx → BitVec 1)
    (hy : ∀ i, y i = Ideal.ofBits .f32 0x7F800000#32) (h : s.ReducesTo axes ⟨0, ![]⟩) (hu : 0 < u.numel) (j : (⟨0, ![]⟩ : Shape).Idx)
    (e : Host.reduce IntOp.andi (cmpf (F := Ideal) (φ := .f32) .olt (Host.absf (F := Ideal) (φ := .f32) x) y) init h hu j = 1#1) (i : s.Idx) : IsR (x i) := by
  have : Subsingleton (⟨0, ![]⟩ : Shape).Idx := ⟨fun a b => funext fun q => q.elim0⟩
  have h1 := Host.reduce_andi_all _ _ h hu j e i
  refine isR_of_abs ?_
  rw [← hy i]
  exact h1

/-- The precondition's function, read: the first three arrays are finite. -/
theorem finite_of_fn [Cert.Pre_finite_scores_KernelIdeal.Facts] (x : Cert.Pre_finite_scores_KernelIdeal.S256x1024.Idx → EReal)
    (w : Cert.Pre_finite_scores_KernelIdeal.S1024x1024.Idx → EReal) (k v : Cert.Pre_finite_scores_KernelIdeal.S16x4x64x8x128.Idx → EReal)
    (o : Cert.Pre_finite_scores_KernelIdeal.S1024x1024.Idx → EReal) (j : Cert.Pre_finite_scores_KernelIdeal.S_.Idx)
    (h : Cert.Pre_finite_scores_KernelIdeal.fn (F := Ideal) x w k v o j = 1#1) :
    (∀ i, IsR (x i)) ∧ (∀ i, IsR (w i)) ∧ (∀ i, IsR (k i)) := by
  obtain ⟨h12, h3⟩ := IntOp.andi_eq_one.1 h
  obtain ⟨h1, h2⟩ := IntOp.andi_eq_one.1 h12
  exact ⟨isR_all x _ _ (fun _ => rfl) _ _ j h1, isR_all w _ _ (fun _ => rfl) _ _ j h2, isR_all k _ _ (fun _ => rfl) _ _ j h3⟩

/-! ## The blocks -/

/-- A device's element of an array cut by rows. -/
theorem block_rows {α : Type} (X : (⟨2, ![1024, 1024]⟩ : Shape).Idx → α) (h) (c : Fin 4) (a : Fin 256) (k : Fin 1024) :
    Layout.block ⟨2, ![256, 1024]⟩ ⟨2, ![1024, 1024]⟩ 0 4 c X h (ix2 a k) = X (ix2 (⟨c.val * 256 + a.val, by omega⟩ : Fin 1024) k) :=
  congrArg X (funext fun q => Fin.ext (by fin_cases q <;> rfl))

/-- A device's element of the keys or the values. -/
theorem block_keys {α : Type} (K : (⟨5, ![64, 4, 64, 8, 128]⟩ : Shape).Idx → α) (h) (c : Fin 4) (a : Fin 16) (b : Fin 4) (t : Fin 64)
    (g : Fin 8) (e : Fin 128) :
    Layout.block ⟨5, ![16, 4, 64, 8, 128]⟩ ⟨5, ![64, 4, 64, 8, 128]⟩ 0 4 c K h (ix5 a b t g e)
      = K (ix5 (⟨c.val * 16 + a.val, by omega⟩ : Fin 64) b t g e) :=
  congrArg K (funext fun q => Fin.ext (by fin_cases q <;> rfl))

/-- An array is finite when each device's rows of it are. -/
theorem isR_rows (X : (⟨2, ![1024, 1024]⟩ : Shape).Idx → EReal) (h)
    (hf : ∀ c : Fin 4, ∀ i, IsR (Layout.block ⟨2, ![256, 1024]⟩ ⟨2, ![1024, 1024]⟩ 0 4 c X h i)) (i) : IsR (X i) := by
  have h0 : (i 0).val < 1024 := (i 0).isLt
  have hi := hf ⟨(i 0).val / 256, by omega⟩ (ix2 (⟨(i 0).val % 256, by omega⟩ : Fin 256) (i 1))
  rw [block_rows X h ⟨(i 0).val / 256, by omega⟩ (⟨(i 0).val % 256, by omega⟩ : Fin 256) (i 1)] at hi
  refine (congrArg (fun z => IsR (X z)) (funext fun q => Fin.ext ?_)).mp hi
  fin_cases q
  · show (i 0).val / 256 * 256 + (i 0).val % 256 = (i 0).val
    omega
  · rfl

theorem isR_keys (K : (⟨5, ![64, 4, 64, 8, 128]⟩ : Shape).Idx → EReal) (h)
    (hf : ∀ c : Fin 4, ∀ i, IsR (Layout.block ⟨5, ![16, 4, 64, 8, 128]⟩ ⟨5, ![64, 4, 64, 8, 128]⟩ 0 4 c K h i)) (i) : IsR (K i) := by
  have h0 : (i 0).val < 64 := (i 0).isLt
  have hi := hf ⟨(i 0).val / 16, by omega⟩ (ix5 (⟨(i 0).val % 16, by omega⟩ : Fin 16) (i 1) (i 2) (i 3) (i 4))
  rw [block_keys K h ⟨(i 0).val / 16, by omega⟩ (⟨(i 0).val % 16, by omega⟩ : Fin 16) (i 1) (i 2) (i 3) (i 4)] at hi
  refine (congrArg (fun z => IsR (K z)) (funext fun q => Fin.ext ?_)).mp hi
  fin_cases q
  · show (i 0).val / 16 * 16 + (i 0).val % 16 = (i 0).val
    omega
  all_goals rfl

/-! ## The claim -/

section
open Cert.KernelIdeal Cert.KernelIdeal.Gen Idealize.ShloMosaic.TcCoe

/-- The devices' arrays at launch, as blocks of the global ones. -/
theorem blocks_of {m : (ℓ : Loc nD τ sig) → Buf (Elt Ideal) ℓ} {X W O : S1024x1024.Idx → EReal}
    {K V : (⟨5, ![64, 4, 64, 8, 128]⟩ : Shape).Idx → EReal}
    (h : ∀ c : Dev nD, m ((c : Thread nD τ).loc main_arg0) = Layout.block ⟨2, ![256, 1024]⟩ ⟨2, ![1024, 1024]⟩ 0 4 c X
      ∧ m ((c : Thread nD τ).loc main_arg1) = W
      ∧ m ((c : Thread nD τ).loc main_arg2) = Layout.block ⟨5, ![16, 4, 64, 8, 128]⟩ ⟨5, ![64, 4, 64, 8, 128]⟩ 0 4 c K
      ∧ m ((c : Thread nD τ).loc main_arg3) = Layout.block ⟨5, ![16, 4, 64, 8, 128]⟩ ⟨5, ![64, 4, 64, 8, 128]⟩ 0 4 c V
      ∧ m ((c : Thread nD τ).loc main_arg4) = O) : Blocks m X W K V O where
  hx D a k := by
    unfold xstg; rw [blk0, (h D).1]; exact block_rows X _ D a k
  hw s a k := by
    unfold wstg; rw [blk1, (h s).2.1]
  hk s a b t g e := by
    unfold karr; rw [(h s).2.2.1]; exact block_keys K _ s a b t g e
  hv s a b t g e := by
    unfold varr; rw [(h s).2.2.2.1]; exact block_keys V _ s a b t g e
  ho s a k := by
    unfold ostg; rw [blk2, (h s).2.2.2.2]

/-- A device's result is its block of the reference's. -/
theorem out_block {m : (ℓ : Loc nD τ sig) → Buf (Elt Ideal) ℓ} {X W O : S1024x1024.Idx → EReal}
    {K V : (⟨5, ![64, 4, 64, 8, 128]⟩ : Shape).Idx → EReal} (B : Blocks m X W K V O) (hX : ∀ i, IsR (X i)) (hW : ∀ i, IsR (W i))
    (hK : ∀ i, IsR (K i)) (c : Dev nD) :
    out m c = Layout.block ⟨2, ![256, 1024]⟩ ⟨2, ![1024, 1024]⟩ 0 4 c (Cert.ReferenceIdeal.Read.val_main_v41 (F := Ideal) X W K V O) := by
  funext i
  have e : i = ix2 (i 0 : Fin 256) (i 1 : Fin 1024) := funext fun q => by fin_cases q <;> rfl
  rw [e]
  exact (out_eq B hX hW hK c (i 0) (i 1)).trans (block_rows _ _ c (i 0) (i 1)).symm

/-- The value claim. -/
theorem value : Cert.algebraic_KernelIdeal_ReferenceIdeal_pre_finite_scores_KernelIdeal
    (hPre_finite_scores_KernelIdeal := pre_facts_kernel) := by
  intro m g m' g' hpre hm
  have hfin := fun c : Dev nD => @finite_of_fn pre_facts_kernel _ _ _ _ _ (fun q => q.elim0) (congrFun (hpre c) (fun q => q.elim0))
  have B := blocks_of hm
  have hX := isR_rows _ _ fun c i => (congrArg IsR (congrFun (hm c).1 i)).mp ((hfin c).1 i)
  have hW := fun i => (congrArg IsR (congrFun (hm 0).2.1 i)).mp ((hfin 0).2.1 i)
  have hK := isR_keys _ _ fun c i => (congrArg IsR (congrFun (hm c).2.2.1 i)).mp ((hfin c).2.2 i)
  refine ⟨_, (θ_run Cert.KernelIdeal.defs _ _).mono (fun r h c => ⟨((h.1 c).1).trans (out_block B hX hW hK c), (h.1 c).2⟩)
      (run_out (F := Ideal) m g),
    (θ_run Cert.ReferenceIdeal.defs _ _).mono (fun r h => ⟨((h 0).1).trans (Cert.ReferenceIdeal.Read.val_main_v41_eq m' 0), (h 0).2⟩)
      (Cert.ReferenceIdeal.Value.run (F := Ideal) m' g')⟩

end

end Cert.Attn
end
-- ==== Proof.lean ====
/- The proof of the claims: the frames of the three programs, and the value of the kernel's result. -/
module

public import proofs.«01_k».proof.Defs
public import proofs.«01_k».proof.Proof.Run
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

theorem Cert.Proof.claim : Cert.Claim :=
  ⟨Cert.Kernel.Gen.facts, Cert.KernelIdeal.Gen.facts, Cert.ReferenceIdeal.Gen.facts, Cert.Attn.pre_facts_kernel,
    Cert.Attn.pre_facts_reference, Cert.Attn.frame_kernel, Cert.Attn.frame_kernelIdeal,
    fun m g _ => Cert.Attn.frame_kernelIdeal m g True.intro, Cert.Attn.frame_reference,
    fun m g _ => Cert.Attn.frame_reference m g True.intro, True.intro, Cert.Attn.value⟩

end
